-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Quantise (m : (ℓ : Loc Cert.Quantise.nD Cert.Quantise.τ Cert.Quantise.sig) → Buf (Elt Bits) ℓ) : Prop :=
  True

def Pre_QuantiseIdeal (m : (ℓ : Loc Cert.QuantiseIdeal.nD Cert.QuantiseIdeal.τ Cert.QuantiseIdeal.sig) → Buf (Elt Ideal) ℓ) : Prop :=
  True

def Pre_QuantiseReferenceIdeal (m : (ℓ : Loc Cert.QuantiseReferenceIdeal.nD Cert.QuantiseReferenceIdeal.τ Cert.QuantiseReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Quantise [hQuantise : Cert.Quantise.Facts] : Prop :=
  ∀ (m : (ℓ : Loc Cert.Quantise.nD Cert.Quantise.τ Cert.Quantise.sig) → Buf (Elt Bits) ℓ) (g : Dev Cert.Quantise.nD → PrngReg), Pre_Quantise m →
    θ_run (Cert.Quantise.defs (F := Bits)) (onTc (τ := Cert.Quantise.τ) (Cert.Quantise.main (F := Bits))) ⟨m, fun _ => 0, g⟩ (fun r => (∀ c : Dev Cert.Quantise.nD,
      r.2.mem ((c.tc : Thread Cert.Quantise.nD Cert.Quantise.τ).loc Cert.Quantise.main_arg0) = m ((c.tc : Thread Cert.Quantise.nD Cert.Quantise.τ).loc Cert.Quantise.main_arg0)
      ∧ r.2.mem ((c.tc : Thread Cert.Quantise.nD Cert.Quantise.τ).loc Cert.Quantise.main_arg1) = m ((c.tc : Thread Cert.Quantise.nD Cert.Quantise.τ).loc Cert.Quantise.main_arg1)
      ∧ r.2.mem ((c.tc : Thread Cert.Quantise.nD Cert.Quantise.τ).loc Cert.Quantise.main_arg2) = m ((c.tc : Thread Cert.Quantise.nD Cert.Quantise.τ).loc Cert.Quantise.main_arg2)
      ∧ r.2.mem ((c.tc : Thread Cert.Quantise.nD Cert.Quantise.τ).loc Cert.Quantise.main_arg3) = m ((c.tc : Thread Cert.Quantise.nD Cert.Quantise.τ).loc Cert.Quantise.main_arg3))
      ∧ r.2.sem = fun _ => 0)

def quiescent_QuantiseIdeal [hQuantiseIdeal : Cert.QuantiseIdeal.Facts] : Prop :=
  ∀ (m : (ℓ : Loc Cert.QuantiseIdeal.nD Cert.QuantiseIdeal.τ Cert.QuantiseIdeal.sig) → Buf (Elt Ideal) ℓ) (g : Dev Cert.QuantiseIdeal.nD → PrngReg), Pre_QuantiseIdeal m →
    θ_run (Cert.QuantiseIdeal.defs (F := Ideal)) (onTc (τ := Cert.QuantiseIdeal.τ) (Cert.QuantiseIdeal.main (F := Ideal))) ⟨m, fun _ => 0, g⟩ (fun r => (∀ c : Dev Cert.QuantiseIdeal.nD,
      r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
      ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
      ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
      ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3))
      ∧ r.2.sem = fun _ => 0)

def quiescent_QuantiseReferenceIdeal [hQuantiseReferenceIdeal : Cert.QuantiseReferenceIdeal.Facts] : Prop :=
  ∀ (m : (ℓ : Loc Cert.QuantiseReferenceIdeal.nD Cert.QuantiseReferenceIdeal.τ Cert.QuantiseReferenceIdeal.sig) → Buf (Elt Ideal) ℓ) (g : Dev Cert.QuantiseReferenceIdeal.nD → PrngReg), Pre_QuantiseReferenceIdeal m →
    θ_run (Cert.QuantiseReferenceIdeal.defs (F := Ideal)) (onTc (τ := Cert.QuantiseReferenceIdeal.τ) (Cert.QuantiseReferenceIdeal.main (F := Ideal))) ⟨m, fun _ => 0, g⟩ (fun r => (∀ c : Dev Cert.QuantiseReferenceIdeal.nD,
      r.2.mem ((c.tc : Thread Cert.QuantiseReferenceIdeal.nD Cert.QuantiseReferenceIdeal.τ).loc Cert.QuantiseReferenceIdeal.main_arg0) = m ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m ((c.tc : Thread Cert.QuantiseReferenceIdeal.nD Cert.QuantiseReferenceIdeal.τ).loc Cert.QuantiseReferenceIdeal.main_arg2)
      ∧ r.2.mem ((c.tc : Thread Cert.QuantiseReferenceIdeal.nD Cert.QuantiseReferenceIdeal.τ).loc Cert.QuantiseReferenceIdeal.main_arg3) = m ((c.tc : Thread Cert.QuantiseReferenceIdeal.nD Cert.QuantiseReferenceIdeal.τ).loc Cert.QuantiseReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Quantise_QuantiseIdeal : Prop :=
  True

def algebraic_QuantiseIdeal_QuantiseReferenceIdeal_on_claimed [hQuantiseIdeal : Cert.QuantiseIdeal.Facts] [hQuantiseReferenceIdeal : Cert.QuantiseReferenceIdeal.Facts] [hOn_claimed : Cert.On_claimed.Facts] : Prop :=
  ∀ (m : (ℓ : Loc Cert.QuantiseIdeal.nD Cert.QuantiseIdeal.τ Cert.QuantiseIdeal.sig) → Buf (Elt Ideal) ℓ) (g : Dev Cert.QuantiseIdeal.nD → PrngReg)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg), Pre_QuantiseIdeal m →
    (∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)
      ∧ m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1)
      ∧ m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2)
      ∧ m' ((c.tc : Thread Cert.QuantiseReferenceIdeal.nD Cert.QuantiseReferenceIdeal.τ).loc Cert.QuantiseReferenceIdeal.main_arg3) = m ((c.tc : Thread Cert.QuantiseIdeal.nD Cert.QuantiseIdeal.τ).loc Cert.QuantiseIdeal.main_arg3)) →
    ∃ (v0 : (c : Dev Cert.QuantiseIdeal.nD) → Buf (Elt Ideal) ((c.tc : Thread Cert.QuantiseIdeal.nD Cert.QuantiseIdeal.τ).loc Cert.QuantiseIdeal.main_v8_0)) (v1 : (c : Dev Cert.QuantiseIdeal.nD) → Buf (Elt Ideal) ((c.tc : Thread Cert.QuantiseIdeal.nD Cert.QuantiseIdeal.τ).loc Cert.QuantiseIdeal.main_v8_1)) (v2 : (c : Dev Cert.QuantiseIdeal.nD) → Buf (Elt Ideal) ((c.tc : Thread Cert.QuantiseIdeal.nD Cert.QuantiseIdeal.τ).loc Cert.QuantiseIdeal.main_v8_2)) (v3 : (c : Dev Cert.QuantiseIdeal.nD) → Buf (Elt Ideal) ((c.tc : Thread Cert.QuantiseIdeal.nD Cert.QuantiseIdeal.τ).loc Cert.QuantiseIdeal.main_v8_3)),
      θ_run (Cert.QuantiseIdeal.defs (F := Ideal)) (onTc (τ := Cert.QuantiseIdeal.τ) (Cert.QuantiseIdeal.main (F := Ideal))) ⟨m, fun _ => 0, g⟩ (fun r => ∀ c : Dev Cert.QuantiseIdeal.nD,
          (∀ i : (⟨2, ![9216, 1536]⟩ : Shape).Idx, (Cert.On_claimed.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2)) (m ((c.tc : Thread Cert.QuantiseIdeal.nD Cert.QuantiseIdeal.τ).loc Cert.QuantiseIdeal.main_arg3))).1 i = 1#1 → r.2.mem ((c.tc : Thread Cert.QuantiseIdeal.nD Cert.QuantiseIdeal.τ).loc Cert.QuantiseIdeal.main_v8_0) i = v0 c i)
          ∧ (∀ i : (⟨2, ![9216, 192]⟩ : Shape).Idx, (Cert.On_claimed.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2)) (m ((c.tc : Thread Cert.QuantiseIdeal.nD Cert.QuantiseIdeal.τ).loc Cert.QuantiseIdeal.main_arg3))).2.1 i = 1#1 → r.2.mem ((c.tc : Thread Cert.QuantiseIdeal.nD Cert.QuantiseIdeal.τ).loc Cert.QuantiseIdeal.main_v8_1) i = v1 c i)
          ∧ (∀ i : (⟨2, ![9216, 3072]⟩ : Shape).Idx, (Cert.On_claimed.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2)) (m ((c.tc : Thread Cert.QuantiseIdeal.nD Cert.QuantiseIdeal.τ).loc Cert.QuantiseIdeal.main_arg3))).2.2.1 i = 1#1 → r.2.mem ((c.tc : Thread Cert.QuantiseIdeal.nD Cert.QuantiseIdeal.τ).loc Cert.QuantiseIdeal.main_v8_2) i = v2 c i)
          ∧ (∀ i : (⟨2, ![9216, 32]⟩ : Shape).Idx, (Cert.On_claimed.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2)) (m ((c.tc : Thread Cert.QuantiseIdeal.nD Cert.QuantiseIdeal.τ).loc Cert.QuantiseIdeal.main_arg3))).2.2.2 i = 1#1 → r.2.mem ((c.tc : Thread Cert.QuantiseIdeal.nD Cert.QuantiseIdeal.τ).loc Cert.QuantiseIdeal.main_v8_3) i = v3 c i)
          ∧ r.2.mem ((c.tc : Thread Cert.QuantiseIdeal.nD Cert.QuantiseIdeal.τ).loc Cert.QuantiseIdeal.main_arg0) = m ((c.tc : Thread Cert.QuantiseIdeal.nD Cert.QuantiseIdeal.τ).loc Cert.QuantiseIdeal.main_arg0)
          ∧ r.2.mem ((c.tc : Thread Cert.QuantiseIdeal.nD Cert.QuantiseIdeal.τ).loc Cert.QuantiseIdeal.main_arg1) = m ((c.tc : Thread Cert.QuantiseIdeal.nD Cert.QuantiseIdeal.τ).loc Cert.QuantiseIdeal.main_arg1)
          ∧ r.2.mem ((c.tc : Thread Cert.QuantiseIdeal.nD Cert.QuantiseIdeal.τ).loc Cert.QuantiseIdeal.main_arg2) = m ((c.tc : Thread Cert.QuantiseIdeal.nD Cert.QuantiseIdeal.τ).loc Cert.QuantiseIdeal.main_arg2)
          ∧ r.2.mem ((c.tc : Thread Cert.QuantiseIdeal.nD Cert.QuantiseIdeal.τ).loc Cert.QuantiseIdeal.main_arg3) = m ((c.tc : Thread Cert.QuantiseIdeal.nD Cert.QuantiseIdeal.τ).loc Cert.QuantiseIdeal.main_arg3))
      ∧ θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
          (∀ i : (⟨2, ![9216, 1536]⟩ : Shape).Idx, (Cert.On_claimed.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2)) (m ((c.tc : Thread Cert.QuantiseIdeal.nD Cert.QuantiseIdeal.τ).loc Cert.QuantiseIdeal.main_arg3))).1 i = 1#1 → r.2.mem ((c.tc : Thread Cert.QuantiseReferenceIdeal.nD Cert.QuantiseReferenceIdeal.τ).loc Cert.QuantiseReferenceIdeal.main_v29_0) i = v0 c i)
          ∧ (∀ i : (⟨2, ![9216, 192]⟩ : Shape).Idx, (Cert.On_claimed.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2)) (m ((c.tc : Thread Cert.QuantiseIdeal.nD Cert.QuantiseIdeal.τ).loc Cert.QuantiseIdeal.main_arg3))).2.1 i = 1#1 → r.2.mem ((c.tc : Thread Cert.QuantiseReferenceIdeal.nD Cert.QuantiseReferenceIdeal.τ).loc Cert.QuantiseReferenceIdeal.main_v29_1) i = v1 c i)
          ∧ (∀ i : (⟨2, ![9216, 3072]⟩ : Shape).Idx, (Cert.On_claimed.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2)) (m ((c.tc : Thread Cert.QuantiseIdeal.nD Cert.QuantiseIdeal.τ).loc Cert.QuantiseIdeal.main_arg3))).2.2.1 i = 1#1 → r.2.mem ((c.tc : Thread Cert.QuantiseReferenceIdeal.nD Cert.QuantiseReferenceIdeal.τ).loc Cert.QuantiseReferenceIdeal.main_v29_2) i = v2 c i)
          ∧ (∀ i : (⟨2, ![9216, 32]⟩ : Shape).Idx, (Cert.On_claimed.fn (F := Ideal) (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2)) (m ((c.tc : Thread Cert.QuantiseIdeal.nD Cert.QuantiseIdeal.τ).loc Cert.QuantiseIdeal.main_arg3))).2.2.2 i = 1#1 → r.2.mem ((c.tc : Thread Cert.QuantiseReferenceIdeal.nD Cert.QuantiseReferenceIdeal.τ).loc Cert.QuantiseReferenceIdeal.main_v17) i = v3 c i)
          ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)
          ∧ r.2.mem ((c.tc : Thread Cert.QuantiseReferenceIdeal.nD Cert.QuantiseReferenceIdeal.τ).loc Cert.QuantiseReferenceIdeal.main_arg1) = m' ((c.tc : Thread Cert.QuantiseReferenceIdeal.nD Cert.QuantiseReferenceIdeal.τ).loc Cert.QuantiseReferenceIdeal.main_arg1)
          ∧ r.2.mem ((c.tc : Thread Cert.QuantiseReferenceIdeal.nD Cert.QuantiseReferenceIdeal.τ).loc Cert.QuantiseReferenceIdeal.main_arg2) = m' ((c.tc : Thread Cert.QuantiseReferenceIdeal.nD Cert.QuantiseReferenceIdeal.τ).loc Cert.QuantiseReferenceIdeal.main_arg2)
          ∧ r.2.mem ((c.tc : Thread Cert.QuantiseReferenceIdeal.nD Cert.QuantiseReferenceIdeal.τ).loc Cert.QuantiseReferenceIdeal.main_arg3) = m' ((c.tc : Thread Cert.QuantiseReferenceIdeal.nD Cert.QuantiseReferenceIdeal.τ).loc Cert.QuantiseReferenceIdeal.main_arg3))

def Claim : Prop :=
  ∃ (hKernel : Cert.Kernel.Facts) (hKernelIdeal : Cert.KernelIdeal.Facts) (hReferenceIdeal : Cert.ReferenceIdeal.Facts) (hQuantise : Cert.Quantise.Facts) (hQuantiseIdeal : Cert.QuantiseIdeal.Facts) (hQuantiseReferenceIdeal : Cert.QuantiseReferenceIdeal.Facts) (hOn_claimed : Cert.On_claimed.Facts),
    quiescent_Kernel (hKernel := hKernel)
    ∧ quiescent_KernelIdeal (hKernelIdeal := hKernelIdeal)
    ∧ quiescent_ReferenceIdeal (hReferenceIdeal := hReferenceIdeal)
    ∧ quiescent_Quantise (hQuantise := hQuantise)
    ∧ quiescent_QuantiseIdeal (hQuantiseIdeal := hQuantiseIdeal)
    ∧ quiescent_QuantiseReferenceIdeal (hQuantiseReferenceIdeal := hQuantiseReferenceIdeal)
    ∧ preserves_Kernel_KernelIdeal
    ∧ algebraic_KernelIdeal_ReferenceIdeal (hKernelIdeal := hKernelIdeal) (hReferenceIdeal := hReferenceIdeal)
    ∧ preserves_Quantise_QuantiseIdeal
    ∧ algebraic_QuantiseIdeal_QuantiseReferenceIdeal_on_claimed (hQuantiseIdeal := hQuantiseIdeal) (hQuantiseReferenceIdeal := hQuantiseReferenceIdeal) (hOn_claimed := hOn_claimed)
-- ==== On_claimed.lean ====
abbrev S2x4608x3072 : Shape := ⟨3, ![2, 4608, 3072]⟩
abbrev S3072 : Shape := ⟨1, ![3072]⟩
abbrev S_ : Shape := ⟨0, ![]⟩
abbrev S3072x32 : Shape := ⟨2, ![3072, 32]⟩
abbrev S1x1x3072 : Shape := ⟨3, ![1, 1, 3072]⟩
abbrev S9216x3072 : Shape := ⟨2, ![9216, 3072]⟩
abbrev S9216x192x16 : Shape := ⟨3, ![9216, 192, 16]⟩
abbrev S9216x192 : Shape := ⟨2, ![9216, 192]⟩
abbrev S9216x192x1 : Shape := ⟨3, ![9216, 192, 1]⟩
abbrev S9216x1536x2 : Shape := ⟨3, ![9216, 1536, 2]⟩
abbrev S9216x1536x1 : Shape := ⟨3, ![9216, 1536, 1]⟩
abbrev S9216x1536 : Shape := ⟨2, ![9216, 1536]⟩
abbrev S9216x32 : Shape := ⟨2, ![9216, 32]⟩

class Facts : Prop where
  bitsLt_bf16_f32 : FTy.bits .bf16 < FTy.bits .f32
  bcast_S3072_S1x1x3072_2 : S3072.BroadcastsInDim S1x1x3072 (![2] : Fin 1 → Fin S1x1x3072.rank)
  bcast_S1x1x3072_S2x4608x3072_0_1_2 : S1x1x3072.BroadcastsInDim S2x4608x3072 (![0, 1, 2] : Fin 3 → Fin S2x4608x3072.rank)
  shapeCasts_S2x4608x3072_S9216x3072 : S2x4608x3072.ShapeCasts S9216x3072
  shapeCasts_S9216x3072_S9216x192x16 : S9216x3072.ShapeCasts S9216x192x16
  reducesTo_S9216x192x16_S9216x192_d2 : S9216x192x16.ReducesTo [2] S9216x192
  h_S_ : 0 < S_.numel
  bcast_S_S9216x192 : S_.BroadcastsInDim S9216x192 (![] : Fin 0 → Fin S9216x192.rank)
  bcast_S9216x192_S9216x192x1_0_1 : S9216x192.BroadcastsInDim S9216x192x1 (![0, 1] : Fin 2 → Fin S9216x192x1.rank)
  bcast_S9216x192x1_S9216x192x16_0_1_2 : S9216x192x1.BroadcastsInDim S9216x192x16 (![0, 1, 2] : Fin 3 → Fin S9216x192x16.rank)
  shapeCasts_S9216x192x16_S9216x3072 : S9216x192x16.ShapeCasts S9216x3072
  bcast_S_S9216x3072 : S_.BroadcastsInDim S9216x3072 (![] : Fin 0 → Fin S9216x3072.rank)
  shapeCasts_S9216x3072_S9216x1536x2 : S9216x3072.ShapeCasts S9216x1536x2
  slices_S9216x1536x2_S9216x1536x1_0_0_0 : S9216x1536x2.Slices ![0, 0, 0] S9216x1536x1
  shapeCasts_S9216x1536x1_S9216x1536 : S9216x1536x1.ShapeCasts S9216x1536
  slices_S9216x1536x2_S9216x1536x1_0_0_1 : S9216x1536x2.Slices ![0, 0, 1] S9216x1536x1
  bcast_S_S9216x1536 : S_.BroadcastsInDim S9216x1536 (![] : Fin 0 → Fin S9216x1536.rank)
  bcast_S_S9216x32 : S_.BroadcastsInDim S9216x32 (![] : Fin 0 → Fin S9216x32.rank)

variable [Facts]

def fn_clip {F : FTy → Type} [FloatOps F] (arg0 : FVec F S9216x192 .f32) (arg1 : FVec F S_ .f32) (arg2 : FVec F S_ .f32) : FVec F S9216x192 .f32 :=
  let v0 : FVec F S_ .f32 := id arg1
  let v1 : FVec F S9216x192 .f32 := broadcastInDim S9216x192 ![] bcast_S_S9216x192 v0
  let v2 : FVec F S9216x192 .f32 := maximumf v1 arg0
  let v3 : FVec F S_ .f32 := id arg2
  let v4 : FVec F S9216x192 .f32 := broadcastInDim S9216x192 ![] bcast_S_S9216x192 v3
  let v5 : FVec F S9216x192 .f32 := minimumf v4 v2
  v5

def fn_where {F : FTy → Type} [FloatOps F] (arg0 : IVec S9216x192 1) (arg1 : FVec F S_ .f32) (arg2 : FVec F S9216x192 .f32) : FVec F S9216x192 .f32 :=
  let v0 : FVec F S_ .f32 := id arg1
  let v1 : FVec F S9216x192 .f32 := broadcastInDim S9216x192 ![] bcast_S_S9216x192 v0
  let v2 : FVec F S9216x192 .f32 := select arg0 v1 arg2
  v2

def fn_round {F : FTy → Type} [FloatOps F] (arg0 : FVec F S9216x3072 .f32) : FVec F S9216x3072 .f32 :=
  let v0 : FVec F S9216x3072 .f32 := Host.roundeven arg0
  v0

def fn_where_0 {F : FTy → Type} [FloatOps F] (arg0 : IVec S9216x3072 1) (arg1 : FVec F S9216x3072 .f32) (arg2 : FVec F S9216x3072 .f32) : FVec F S9216x3072 .f32 :=
  let v0 : FVec F S9216x3072 .f32 := select arg0 arg1 arg2
  v0

def fn_part3 {F : FTy → Type} [FloatOps F] (main_arg2 : FVec F S_ .f32) (main_v53 : IVec S9216x1536 1) (main_v55 : IVec S9216x1536 1) : IVec S9216x1536 1 × IVec S9216x192 1 × IVec S9216x3072 1 × IVec S9216x32 1 :=
  let main_v56 : IVec S9216x1536 1 := andi main_v53 main_v55
  let main_c : IVec S_ 1 := constantI S_ 1 1#1
  let main_v57 : IVec S9216x192 1 := broadcastInDim S9216x192 ![] bcast_S_S9216x192 main_c
  let main_cst_15 : FVec F S_ .f32 := constant S_ .f32 0x00000000#32
  let main_v58 : IVec S_ 1 := cmpf .une main_arg2 main_cst_15
  let main_v59 : IVec S9216x3072 1 := broadcastInDim S9216x3072 ![] bcast_S_S9216x3072 main_v58
  let main_c_16 : IVec S_ 1 := constantI S_ 1 1#1
  let main_v60 : IVec S9216x32 1 := broadcastInDim S9216x32 ![] bcast_S_S9216x32 main_c_16
  (main_v56, main_v57, main_v59, main_v60)

def fn_part2 {F : FTy → Type} [FloatOps F] (main_arg2 : FVec F S_ .f32) (main_v20 : FVec F S9216x3072 .f32) (main_v23 : FVec F S9216x3072 .f32) (main_v25 : IVec S9216x3072 1) (main_v30 : FVec F S9216x3072 .f32) (main_v32 : IVec S9216x3072 1) (main_v33 : FVec F S9216x3072 .f32) (main_v35 : FVec F S9216x3072 .f32) : IVec S9216x1536 1 × IVec S9216x192 1 × IVec S9216x3072 1 × IVec S9216x32 1 :=
  let main_v36 : FVec F S9216x3072 .f32 := fn_round (F := F) main_v35
  let main_cst_11 : FVec F S_ .f32 := constant S_ .f32 0x40000000#32
  let main_v37 : FVec F S9216x3072 .f32 := broadcastInDim S9216x3072 ![] bcast_S_S9216x3072 main_cst_11
  let main_v38 : FVec F S9216x3072 .f32 := mulf main_v37 main_v36
  let main_v39 : FVec F S9216x3072 .f32 := fn_where_0 (F := F) main_v32 main_v33 main_v38
  let main_v40 : FVec F S9216x3072 .f32 := fn_where_0 (F := F) main_v25 main_v30 main_v39
  let main_v41 : IVec S9216x3072 1 := cmpf .ole main_v40 main_v23
  let main_cst_12 : FVec F S_ .f32 := constant S_ .f32 0x00000000#32
  let main_v42 : FVec F S9216x3072 .f32 := broadcastInDim S9216x3072 ![] bcast_S_S9216x3072 main_cst_12
  let main_v43 : IVec S9216x3072 1 := cmpf .oge main_v20 main_v42
  let main_cst_13 : FVec F S_ .f32 := constant S_ .f32 0x00000000#32
  let main_v44 : FVec F S9216x3072 .f32 := broadcastInDim S9216x3072 ![] bcast_S_S9216x3072 main_cst_13
  let main_v45 : IVec S9216x3072 1 := cmpf .ogt main_v40 main_v44
  let main_v46 : IVec S9216x3072 1 := ori main_v43 main_v45
  let main_v47 : IVec S9216x3072 1 := andi main_v41 main_v46
  let main_v48 : IVec S9216x1536x2 1 := shapeCast S9216x1536x2 main_v47 shapeCasts_S9216x3072_S9216x1536x2
  let main_v49 : IVec S9216x1536x1 1 := (extractStridedSlice S9216x1536x1 ![0, 0, 0] · slices_S9216x1536x2_S9216x1536x1_0_0_0) main_v48
  let main_v50 : IVec S9216x1536 1 := shapeCast S9216x1536 main_v49 shapeCasts_S9216x1536x1_S9216x1536
  let main_v51 : IVec S9216x1536x1 1 := (extractStridedSlice S9216x1536x1 ![0, 0, 1] · slices_S9216x1536x2_S9216x1536x1_0_0_1) main_v48
  let main_v52 : IVec S9216x1536 1 := shapeCast S9216x1536 main_v51 shapeCasts_S9216x1536x1_S9216x1536
  let main_v53 : IVec S9216x1536 1 := andi main_v50 main_v52
  let main_cst_14 : FVec F S_ .f32 := constant S_ .f32 0x00000000#32
  let main_v54 : IVec S_ 1 := cmpf .une main_arg2 main_cst_14
  let main_v55 : IVec S9216x1536 1 := broadcastInDim S9216x1536 ![] bcast_S_S9216x1536 main_v54
  fn_part3 (F := F) main_arg2 main_v53 main_v55

def fn_part1 {F : FTy → Type} [FloatOps F] (main_arg2 : FVec F S_ .f32) (main_v4 : FVec F S9216x3072 .f32) (main_v17 : FVec F S9216x3072 .f32) : IVec S9216x1536 1 × IVec S9216x192 1 × IVec S9216x3072 1 × IVec S9216x32 1 :=
  let main_v18 : FVec F S9216x3072 .f32 := broadcastInDim S9216x3072 ![] bcast_S_S9216x3072 main_arg2
  let main_v19 : FVec F S9216x3072 .f32 := mulf main_v17 main_v18
  let main_v20 : FVec F S9216x3072 .f32 := Host.divf main_v4 main_v19
  let main_v21 : FVec F S9216x3072 .f32 := Host.absf main_v20
  let main_cst_5 : FVec F S_ .f32 := constant S_ .f32 0x40C00000#32
  let main_v22 : FVec F S9216x3072 .f32 := broadcastInDim S9216x3072 ![] bcast_S_S9216x3072 main_cst_5
  let main_v23 : FVec F S9216x3072 .f32 := minimumf main_v21 main_v22
  let main_cst_6 : FVec F S_ .f32 := constant S_ .f32 0x40000000#32
  let main_v24 : FVec F S9216x3072 .f32 := broadcastInDim S9216x3072 ![] bcast_S_S9216x3072 main_cst_6
  let main_v25 : IVec S9216x3072 1 := cmpf .olt main_v23 main_v24
  let main_cst_7 : FVec F S_ .f32 := constant S_ .f32 0x40000000#32
  let main_v26 : FVec F S9216x3072 .f32 := broadcastInDim S9216x3072 ![] bcast_S_S9216x3072 main_cst_7
  let main_v27 : FVec F S9216x3072 .f32 := mulf main_v26 main_v23
  let main_v28 : FVec F S9216x3072 .f32 := fn_round (F := F) main_v27
  let main_cst_8 : FVec F S_ .f32 := constant S_ .f32 0x40000000#32
  let main_v29 : FVec F S9216x3072 .f32 := broadcastInDim S9216x3072 ![] bcast_S_S9216x3072 main_cst_8
  let main_v30 : FVec F S9216x3072 .f32 := Host.divf main_v28 main_v29
  let main_cst_9 : FVec F S_ .f32 := constant S_ .f32 0x40800000#32
  let main_v31 : FVec F S9216x3072 .f32 := broadcastInDim S9216x3072 ![] bcast_S_S9216x3072 main_cst_9
  let main_v32 : IVec S9216x3072 1 := cmpf .olt main_v23 main_v31
  let main_v33 : FVec F S9216x3072 .f32 := fn_round (F := F) main_v23
  let main_cst_10 : FVec F S_ .f32 := constant S_ .f32 0x40000000#32
  let main_v34 : FVec F S9216x3072 .f32 := broadcastInDim S9216x3072 ![] bcast_S_S9216x3072 main_cst_10
  let main_v35 : FVec F S9216x3072 .f32 := Host.divf main_v23 main_v34
  fn_part2 (F := F) main_arg2 main_v20 main_v23 main_v25 main_v30 main_v32 main_v33 main_v35

def fn {F : FTy → Type} [FloatOps F] (main_arg0 : FVec F S2x4608x3072 .bf16) (main_arg1 : FVec F S3072 .f32) (main_arg2 : FVec F S_ .f32) (main_arg3 : FVec F S3072x32 .bf16) : IVec S9216x1536 1 × IVec S9216x192 1 × IVec S9216x3072 1 × IVec S9216x32 1 :=
  let main_v0 : FVec F S2x4608x3072 .f32 := (extf .f32 · bitsLt_bf16_f32) main_arg0
  let main_v1 : FVec F S1x1x3072 .f32 := broadcastInDim S1x1x3072 ![2] bcast_S3072_S1x1x3072_2 main_arg1
  let main_v2 : FVec F S2x4608x3072 .f32 := broadcastInDim S2x4608x3072 ![0, 1, 2] bcast_S1x1x3072_S2x4608x3072_0_1_2 main_v1
  let main_v3 : FVec F S2x4608x3072 .f32 := mulf main_v0 main_v2
  let main_v4 : FVec F S9216x3072 .f32 := shapeCast S9216x3072 main_v3 shapeCasts_S2x4608x3072_S9216x3072
  let main_v5 : FVec F S9216x192x16 .f32 := shapeCast S9216x192x16 main_v4 shapeCasts_S9216x3072_S9216x192x16
  let main_v6 : FVec F S9216x192x16 .f32 := Host.absf main_v5
  let main_cst : FVec F S_ .f32 := constant S_ .f32 0xFF800000#32
  let main_v7 : FVec F S9216x192 .f32 := (fun x v => Host.reduce FloatOps.maximumf x v reducesTo_S9216x192x16_S9216x192_d2 h_S_) main_v6 main_cst
  let main_cst_0 : FVec F S_ .f32 := constant S_ .f32 0x40C00000#32
  let main_v8 : FVec F S_ .f32 := mulf main_cst_0 main_arg2
  let main_v9 : FVec F S9216x192 .f32 := broadcastInDim S9216x192 ![] bcast_S_S9216x192 main_v8
  let main_v10 : FVec F S9216x192 .f32 := Host.divf main_v7 main_v9
  let main_cst_1 : FVec F S_ .f32 := constant S_ .f32 0x00000000#32
  let main_cst_2 : FVec F S_ .f32 := constant S_ .f32 0x43E00000#32
  let main_v11 : FVec F S9216x192 .f32 := fn_clip (F := F) main_v10 main_cst_1 main_cst_2
  let main_cst_3 : FVec F S_ .f32 := constant S_ .f32 0x00000000#32
  let main_v12 : FVec F S9216x192 .f32 := broadcastInDim S9216x192 ![] bcast_S_S9216x192 main_cst_3
  let main_v13 : IVec S9216x192 1 := cmpf .oeq main_v11 main_v12
  let main_cst_4 : FVec F S_ .f32 := constant S_ .f32 0x3F800000#32
  let main_v14 : FVec F S9216x192 .f32 := fn_where (F := F) main_v13 main_cst_4 main_v11
  let main_v15 : FVec F S9216x192x1 .f32 := broadcastInDim S9216x192x1 ![0, 1] bcast_S9216x192_S9216x192x1_0_1 main_v14
  let main_v16 : FVec F S9216x192x16 .f32 := broadcastInDim S9216x192x16 ![0, 1, 2] bcast_S9216x192x1_S9216x192x16_0_1_2 main_v15
  let main_v17 : FVec F S9216x3072 .f32 := shapeCast S9216x3072 main_v16 shapeCasts_S9216x192x16_S9216x3072
  fn_part1 (F := F) main_arg2 main_v4 main_v17
-- ==== Kernel.lean ====
abbrev S_ : Shape := ⟨0, ![]⟩
abbrev S9216x3072 : Shape := ⟨2, ![9216, 3072]⟩
abbrev S9216x32 : Shape := ⟨2, ![9216, 32]⟩
abbrev S9216x1536 : Shape := ⟨2, ![9216, 1536]⟩
abbrev S9216x192 : Shape := ⟨2, ![9216, 192]⟩
abbrev S32x9216 : Shape := ⟨2, ![32, 9216]⟩
abbrev S9216 : Shape := ⟨1, ![9216]⟩
abbrev S1x1 : Shape := ⟨2, ![1, 1]⟩
abbrev S1x9216 : Shape := ⟨2, ![1, 9216]⟩
abbrev S9216x9216 : Shape := ⟨2, ![9216, 9216]⟩
abbrev S1024x3072 : Shape := ⟨2, ![1024, 3072]⟩
abbrev S1024x32 : Shape := ⟨2, ![1024, 32]⟩
abbrev S512x1536 : Shape := ⟨2, ![512, 1536]⟩
abbrev S512x192 : Shape := ⟨2, ![512, 192]⟩
abbrev S32x512 : Shape := ⟨2, ![32, 512]⟩
abbrev S1x512 : Shape := ⟨2, ![1, 512]⟩
abbrev S1024x512 : Shape := ⟨2, ![1024, 512]⟩
abbrev S512x3072 : Shape := ⟨2, ![512, 3072]⟩
abbrev S32x128 : Shape := ⟨2, ![32, 128]⟩
abbrev S8x128 : Shape := ⟨2, ![8, 128]⟩
abbrev S32x128x1 : Shape := ⟨3, ![32, 128, 1]⟩
abbrev S32x64 : Shape := ⟨2, ![32, 64]⟩

abbrev nBuf : Space → Nat
  | .hbm => 14
  | .vmem => 15
  | .smem => 1
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S9216x3072, .bf16⟩
  | .hbm, ⟨3, _⟩ => ⟨S9216x32, .bf16⟩
  | .hbm, ⟨4, _⟩ => ⟨S9216x1536, .i8⟩
  | .hbm, ⟨5, _⟩ => ⟨S9216x192, .fp8e4m3⟩
  | .hbm, ⟨6, _⟩ => ⟨S32x9216, .bf16⟩
  | .hbm, ⟨7, _⟩ => ⟨S9216, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S1x1, .f32⟩
  | .hbm, ⟨12, _⟩ => ⟨S1x9216, .f32⟩
  | .hbm, ⟨13, _⟩ => ⟨S9216x9216, .bf16⟩
  | .local _ .vmem, ⟨0, _⟩ => ⟨S1024x3072, .bf16⟩
  | .local _ .vmem, ⟨1, _⟩ => ⟨S1024x3072, .bf16⟩
  | .local _ .vmem, ⟨2, _⟩ => ⟨S1024x32, .bf16⟩
  | .local _ .vmem, ⟨3, _⟩ => ⟨S1024x32, .bf16⟩
  | .local _ .vmem, ⟨4, _⟩ => ⟨S512x1536, .i8⟩
  | .local _ .vmem, ⟨5, _⟩ => ⟨S512x1536, .i8⟩
  | .local _ .vmem, ⟨6, _⟩ => ⟨S512x192, .fp8e4m3⟩
  | .local _ .vmem, ⟨7, _⟩ => ⟨S512x192, .fp8e4m3⟩
  | .local _ .vmem, ⟨8, _⟩ => ⟨S32x512, .bf16⟩
  | .local _ .vmem, ⟨9, _⟩ => ⟨S32x512, .bf16⟩
  | .local _ .vmem, ⟨10, _⟩ => ⟨S1x512, .f32⟩
  | .local _ .vmem, ⟨11, _⟩ => ⟨S1x512, .f32⟩
  | .local _ .vmem, ⟨12, _⟩ => ⟨S1024x512, .bf16⟩
  | .local _ .vmem, ⟨13, _⟩ => ⟨S1024x512, .bf16⟩
  | .local _ .vmem, ⟨14, _⟩ => ⟨S512x3072, .bf16⟩
  | .local _ .smem, ⟨0, _⟩ => ⟨S1x1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![9, 18], ![false, false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v18 : Index := Scalar.indexCast v17
  let c0_15 : Index := 0#32
  ![v18.toNat, 0]
def k0_off2 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v37 : Index := Scalar.indexCast v17
  let c0_19 : Index := 0#32
  ![v37.toNat, 0]
def k0_off3 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v82 : Index := Scalar.indexCast v17
  let c0_28 : Index := 0#32
  ![v82.toNat, 0]
def k0_off4 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v86 : Index := Scalar.indexCast v17
  let c128 : Index := 128#32
  ![v86.toNat, 128]
def k0_off5 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v90 : Index := Scalar.indexCast v17
  let c128_29 : Index := 128#32
  ![v90.toNat, 128]
def k0_off6 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v154 : Index := Scalar.indexCast v17
  let c256 : Index := 256#32
  ![v154.toNat, 256]
def k0_off7 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v158 : Index := Scalar.indexCast v17
  let c384 : Index := 384#32
  ![v158.toNat, 384]
def k0_off8 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v162 : Index := Scalar.indexCast v17
  let c256_48 : Index := 256#32
  ![v162.toNat, 256]
def k0_off9 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v226 : Index := Scalar.indexCast v17
  let c512 : Index := 512#32
  ![v226.toNat, 512]
def k0_off10 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v230 : Index := Scalar.indexCast v17
  let c640 : Index := 640#32
  ![v230.toNat, 640]
def k0_off11 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v234 : Index := Scalar.indexCast v17
  let c384_67 : Index := 384#32
  ![v234.toNat, 384]
def k0_off12 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v298 : Index := Scalar.indexCast v17
  let c768 : Index := 768#32
  ![v298.toNat, 768]
def k0_off13 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v302 : Index := Scalar.indexCast v17
  let c896 : Index := 896#32
  ![v302.toNat, 896]
def k0_off14 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v306 : Index := Scalar.indexCast v17
  let c512_85 : Index := 512#32
  ![v306.toNat, 512]
def k0_off15 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v370 : Index := Scalar.indexCast v17
  let c1024 : Index := 1024#32
  ![v370.toNat, 1024]
def k0_off16 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v374 : Index := Scalar.indexCast v17
  let c1152 : Index := 1152#32
  ![v374.toNat, 1152]
def k0_off17 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v378 : Index := Scalar.indexCast v17
  let c640_103 : Index := 640#32
  ![v378.toNat, 640]
def k0_off18 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v442 : Index := Scalar.indexCast v17
  let c1280 : Index := 1280#32
  ![v442.toNat, 1280]
def k0_off19 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v446 : Index := Scalar.indexCast v17
  let c1408 : Index := 1408#32
  ![v446.toNat, 1408]
def k0_off20 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v450 : Index := Scalar.indexCast v17
  let c768_121 : Index := 768#32
  ![v450.toNat, 768]
def k0_off21 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v514 : Index := Scalar.indexCast v17
  let c1536 : Index := 1536#32
  ![v514.toNat, 1536]
def k0_off22 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v518 : Index := Scalar.indexCast v17
  let c1664 : Index := 1664#32
  ![v518.toNat, 1664]
def k0_off23 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v522 : Index := Scalar.indexCast v17
  let c896_139 : Index := 896#32
  ![v522.toNat, 896]
def k0_off24 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v586 : Index := Scalar.indexCast v17
  let c1792 : Index := 1792#32
  ![v586.toNat, 1792]
def k0_off25 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v590 : Index := Scalar.indexCast v17
  let c1920 : Index := 1920#32
  ![v590.toNat, 1920]
def k0_off26 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v594 : Index := Scalar.indexCast v17
  let c1024_157 : Index := 1024#32
  ![v594.toNat, 1024]
def k0_off27 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v613 : Index := Scalar.indexCast v17
  let c128_165 : Index := 128#32
  ![v613.toNat, 128]
def k0_off28 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v659 : Index := Scalar.indexCast v17
  let c2048 : Index := 2048#32
  ![v659.toNat, 2048]
def k0_off29 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v663 : Index := Scalar.indexCast v17
  let c2176 : Index := 2176#32
  ![v663.toNat, 2176]
def k0_off30 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v667 : Index := Scalar.indexCast v17
  let c1152_176 : Index := 1152#32
  ![v667.toNat, 1152]
def k0_off31 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v732 : Index := Scalar.indexCast v17
  let c2304 : Index := 2304#32
  ![v732.toNat, 2304]
def k0_off32 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v736 : Index := Scalar.indexCast v17
  let c2432 : Index := 2432#32
  ![v736.toNat, 2432]
def k0_off33 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v740 : Index := Scalar.indexCast v17
  let c1280_195 : Index := 1280#32
  ![v740.toNat, 1280]
def k0_off34 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v805 : Index := Scalar.indexCast v17
  let c2560 : Index := 2560#32
  ![v805.toNat, 2560]
def k0_off35 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v809 : Index := Scalar.indexCast v17
  let c2688 : Index := 2688#32
  ![v809.toNat, 2688]
def k0_off36 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v813 : Index := Scalar.indexCast v17
  let c1408_214 : Index := 1408#32
  ![v813.toNat, 1408]
def k0_off37 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v878 : Index := Scalar.indexCast v17
  let c2816 : Index := 2816#32
  ![v878.toNat, 2816]
def k0_off38 (k0_t1 : Fin k0_t1_loop.trips) : Fin 2 → Nat :=
  let c0_i32 : BitVec 32 := 0#32
  let c1_i32 : BitVec 32 := 1#32
  let arg11 : BitVec 32 := Scf.iv c0_i32 c1_i32 k0_t1
  let c32_i32 : BitVec 32 := 32#32
  let v17 : BitVec 32 := Scalar.muli arg11 c32_i32
  let v882 : Index := Scalar.indexCast v17
  let c2944 : Index := 2944#32
  ![v882.toNat, 2944]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1536 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x192 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S32x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S_ : Shape := ⟨0, ![]⟩
abbrev S9216x3072 : Shape := ⟨2, ![9216, 3072]⟩
abbrev S9216x32 : Shape := ⟨2, ![9216, 32]⟩
abbrev S9216x1536 : Shape := ⟨2, ![9216, 1536]⟩
abbrev S9216x192 : Shape := ⟨2, ![9216, 192]⟩
abbrev S32x9216 : Shape := ⟨2, ![32, 9216]⟩
abbrev S9216 : Shape := ⟨1, ![9216]⟩
abbrev S9216x12x2x128 : Shape := ⟨4, ![9216, 12, 2, 128]⟩
abbrev S9216x12x128x2 : Shape := ⟨4, ![9216, 12, 128, 2]⟩
abbrev S9216x1536x1 : Shape := ⟨3, ![9216, 1536, 1]⟩
abbrev S9216x1536x2 : Shape := ⟨3, ![9216, 1536, 2]⟩
abbrev S9216x192x1 : Shape := ⟨3, ![9216, 192, 1]⟩
abbrev S9216x192x16 : Shape := ⟨3, ![9216, 192, 16]⟩
abbrev S1x1 : Shape := ⟨2, ![1, 1]⟩
abbrev S1x9216 : Shape := ⟨2, ![1, 9216]⟩
abbrev S9216x9216 : Shape := ⟨2, ![9216, 9216]⟩

abbrev nBuf : Space → Nat
  | .hbm => 84
  | .vmem => 8
  | .smem => 0
  | _ => 0

abbrev bufTy : (tb : Table) → Fin (tcTables nBuf tb) → BufTy
  | .hbm, ⟨0, _⟩ => ⟨S_, .f32⟩
  | .hbm, ⟨1, _⟩ => ⟨S_, .f32⟩
  | .hbm, ⟨2, _⟩ => ⟨S9216x3072, .bf16⟩
  | .hbm, ⟨3, _⟩ => ⟨S9216x32, .bf16⟩
  | .hbm, ⟨4, _⟩ => ⟨S9216x1536, .i8⟩
  | .hbm, ⟨5, _⟩ => ⟨S9216x192, .fp8e4m3⟩
  | .hbm, ⟨6, _⟩ => ⟨S32x9216, .bf16⟩
  | .hbm, ⟨7, _⟩ => ⟨S9216, .f32⟩
  | .hbm, ⟨8, _⟩ => ⟨S9216x3072, .f32⟩
  | .hbm, ⟨9, _⟩ => ⟨S9216x12x2x128, .f32⟩
  | .hbm, ⟨10, _⟩ => ⟨S9216x12x128x2, .f32⟩
  | .hbm, ⟨11, _⟩ => ⟨S9216x3072, .f32⟩
  | .hbm, ⟨12, _⟩ => ⟨S_, .f32⟩
  | .hbm, ⟨13, _⟩ => ⟨S9216x3072, .f32⟩
  | .hbm, ⟨14, _⟩ => ⟨S9216x3072, .f32⟩
  | .hbm, ⟨15, _⟩ => ⟨S9216x3072, .bf16⟩
  | .hbm, ⟨16, _⟩ => ⟨S9216x1536, .i32⟩
  | .hbm, ⟨17, _⟩ => ⟨S_, .i32⟩
  | .hbm, ⟨18, _⟩ => ⟨S9216x1536, .i32⟩
  | .hbm, ⟨19, _⟩ => ⟨S9216x1536, .i32⟩
  | .hbm, ⟨20, _⟩ => ⟨S_, .i32⟩
  | .hbm, ⟨21, _⟩ => ⟨S9216x1536, .i32⟩
  | .hbm, ⟨22, _⟩ => ⟨S9216x1536, .i32⟩
  | .hbm, ⟨23, _⟩ => ⟨S9216x1536x1, .i32⟩
  | .hbm, ⟨24, _⟩ => ⟨S9216x1536x1, .i32⟩
  | .hbm, ⟨25, _⟩ => ⟨S9216x1536x2, .i32⟩
  | .hbm, ⟨26, _⟩ => ⟨S9216x3072, .i32⟩
  | .hbm, ⟨27, _⟩ => ⟨S9216x192x1, .fp8e4m3⟩
  | .hbm, ⟨28, _⟩ => ⟨S9216x192x16, .fp8e4m3⟩
  | .hbm, ⟨29, _⟩ => ⟨S9216x3072, .fp8e4m3⟩
  | .hbm, ⟨30, _⟩ => ⟨S_, .f32⟩
  | .hbm, ⟨31, _⟩ => ⟨S1x1, .f32⟩
  | .hbm, ⟨32, _⟩ => ⟨S_, .i32⟩
  | .hbm, ⟨33, _⟩ => ⟨S9216x3072, .i32⟩
  | .hbm, ⟨34, _⟩ => ⟨S9216x3072, .i32⟩
  | .hbm, ⟨35, _⟩ => ⟨S_, .i32⟩
  | .hbm, ⟨36, _⟩ => ⟨S9216x3072, .i32⟩
  | .hbm, ⟨37, _⟩ => ⟨S9216x3072, .i1⟩
  | .hbm, ⟨38, _⟩ => ⟨S_, .i32⟩
  | .hbm, ⟨39, _⟩ => ⟨S9216x3072, .i32⟩
  | .hbm, ⟨40, _⟩ => ⟨S9216x3072, .i32⟩
  | .hbm, ⟨41, _⟩ => ⟨S_, .i32⟩
  | .hbm, ⟨42, _⟩ => ⟨S9216x3072, .i32⟩
  | .hbm, ⟨43, _⟩ => ⟨S9216x3072, .i1⟩
  | .hbm, ⟨44, _⟩ => ⟨S_, .i32⟩
  | .hbm, ⟨45, _⟩ => ⟨S9216x3072, .i32⟩
  | .hbm, ⟨46, _⟩ => ⟨S9216x3072, .i32⟩
  | .hbm, ⟨47, _⟩ => ⟨S_, .i32⟩
  | .hbm, ⟨48, _⟩ => ⟨S9216x3072, .i32⟩
  | .hbm, ⟨49, _⟩ => ⟨S9216x3072, .i1⟩
  | .hbm, ⟨50, _⟩ => ⟨S_, .i32⟩
  | .hbm, ⟨51, _⟩ => ⟨S9216x3072, .i32⟩
  | .hbm, ⟨52, _⟩ => ⟨S9216x3072, .i32⟩
  | .hbm, ⟨53, _⟩ => ⟨S_, .i32⟩
  | .hbm, ⟨54, _⟩ => ⟨S9216x3072, .i32⟩
  | .hbm, ⟨55, _⟩ => ⟨S9216x3072, .i1⟩
  | .hbm, ⟨56, _⟩ => ⟨S_, .f32⟩
  | .hbm, ⟨57, _⟩ => ⟨S_, .f32⟩
  | .hbm, ⟨58, _⟩ => ⟨S9216x3072, .f32⟩
  | .hbm, ⟨59, _⟩ => ⟨S9216x3072, .f32⟩
  | .hbm, ⟨60, _⟩ => ⟨S9216x3072, .f32⟩
  | .hbm, ⟨61, _⟩ => ⟨S_, .f32⟩
  | .hbm, ⟨62, _⟩ => ⟨S_, .f32⟩
  | .hbm, ⟨63, _⟩ => ⟨S9216x3072, .f32⟩
  | .hbm, ⟨64, _⟩ => ⟨S9216x3072, .f32⟩
  | .hbm, ⟨65, _⟩ => ⟨S9216x3072, .f32⟩
  | .hbm, ⟨66, _⟩ => ⟨S9216x3072, .f32⟩
  | .hbm, ⟨67, _⟩ => ⟨S_, .f32⟩
  | .hbm, ⟨68, _⟩ => ⟨S_, .f32⟩
  | .hbm, ⟨69, _⟩ => ⟨S9216x3072, .f32⟩
  | .hbm, ⟨70, _⟩ => ⟨S9216x3072, .f32⟩
  | .hbm, ⟨71, _⟩ => ⟨S9216x3072, .f32⟩
  | .hbm, ⟨72, _⟩ => ⟨S_, .f32⟩
  | .hbm, ⟨73, _⟩ => ⟨S_, .f32⟩
  | .hbm, ⟨74, _⟩ => ⟨S9216x3072, .f32⟩
  | .hbm, ⟨75, _⟩ => ⟨S9216x3072, .f32⟩
  | .hbm, ⟨76, _⟩ => ⟨S9216x3072, .f32⟩
  | .hbm, ⟨77, _⟩ => ⟨S9216x3072, .f32⟩
  | .hbm, ⟨78, _⟩ => ⟨S9216x3072, .f32⟩
  | .hbm, ⟨79, _⟩ => ⟨S9216x3072, .f32⟩
  | .hbm, ⟨80, _⟩ => ⟨S9216x3072, .f32⟩
  | .hbm, ⟨81, _⟩ => ⟨S9216x3072, .bf16⟩
  | .hbm, ⟨82, _⟩ => ⟨S1x9216, .f32⟩
  | .hbm, ⟨83, _⟩ => ⟨S9216x9216, .bf16⟩
  | .local _ .vmem, ⟨0, _⟩ => ⟨S1x1, .f32⟩
  | .local _ .vmem, ⟨1, _⟩ => ⟨S9216x3072, .bf16⟩
  | .local _ .vmem, ⟨2, _⟩ => ⟨S9216x3072, .bf16⟩
  | .local _ .vmem, ⟨3, _⟩ => ⟨S9216x3072, .fp8e4m3⟩
  | .local _ .vmem, ⟨4, _⟩ => ⟨S9216x32, .bf16⟩
  | .local _ .vmem, ⟨5, _⟩ => ⟨S32x9216, .bf16⟩
  | .local _ .vmem, ⟨6, _⟩ => ⟨S1x9216, .f32⟩
  | .local _ .vmem, ⟨7, _⟩ => ⟨S9216x9216, .bf16⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_c_3 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_cst_9 : Ref sig .tc := ⟨.hbm, 56, rfl⟩
abbrev main_cst_10 : Ref sig .tc := ⟨.hbm, 57, rfl⟩
abbrev main_call0_v0 : Ref sig .tc := ⟨.hbm, 58, rfl⟩
abbrev main_call0_v1 : Ref sig .tc := ⟨.hbm, 59, rfl⟩
abbrev main_v37 : Ref sig .tc := ⟨.hbm, 60, rfl⟩
abbrev main_cst_11 : Ref sig .tc := ⟨.hbm, 61, rfl⟩
abbrev main_cst_12 : Ref sig .tc := ⟨.hbm, 62, rfl⟩
abbrev main_call1_v0 : Ref sig .tc := ⟨.hbm, 63, rfl⟩
abbrev main_call1_v1 : Ref sig .tc := ⟨.hbm, 64, rfl⟩
abbrev main_v38 : Ref sig .tc := ⟨.hbm, 65, rfl⟩
abbrev main_v39 : Ref sig .tc := ⟨.hbm, 66, rfl⟩
abbrev main_cst_13 : Ref sig .tc := ⟨.hbm, 67, rfl⟩
abbrev main_cst_14 : Ref sig .tc := ⟨.hbm, 68, rfl⟩
abbrev main_call3_v0 : Ref sig .tc := ⟨.hbm, 69, rfl⟩
abbrev main_call3_v1 : Ref sig .tc := ⟨.hbm, 70, rfl⟩
abbrev main_v40 : Ref sig .tc := ⟨.hbm, 71, rfl⟩
abbrev main_cst_15 : Ref sig .tc := ⟨.hbm, 72, rfl⟩
abbrev main_cst_16 : Ref sig .tc := ⟨.hbm, 73, rfl⟩
abbrev main_call4_v0 : Ref sig .tc := ⟨.hbm, 74, rfl⟩
abbrev main_call4_v1 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9216x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x3072 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x32 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x9216 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x9216 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9216x9216 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quantise.lean ====
abbrev S2x4608x3072 : Shape := ⟨3, ![2, 4608, 3072]⟩
abbrev S3072 : Shape := ⟨1, ![3072]⟩
abbrev S_ : Shape := ⟨0, ![]⟩
abbrev S3072x32 : Shape := ⟨2, ![3072, 32]⟩
abbrev S9216x3072 : Shape := ⟨2, ![9216, 3072]⟩
abbrev S12x128x2 : Shape := ⟨3, ![12, 128, 2]⟩
abbrev S12x2x128 : Shape := ⟨3, ![12, 2, 128]⟩
abbrev S1x3072 : Shape := ⟨2, ![1, 3072]⟩
abbrev S12x128x2x32 : Shape := ⟨4, ![12, 128, 2, 32]⟩
abbrev S12x2x128x32 : Shape := ⟨4, ![12, 2, 128, 32]⟩
abbrev S1x1 : Shape := ⟨2, ![1, 1]⟩
abbrev S9216x1536 : Shape := ⟨2, ![9216, 1536]⟩
abbrev S9216x192 : Shape := ⟨2, ![9216, 192]⟩
abbrev S9216x32 : Shape := ⟨2, ![9216, 32]⟩
abbrev S256x3072 : Shape := ⟨2, ![256, 3072]⟩
abbrev S256x1536 : Shape := ⟨2, ![256, 1536]⟩
abbrev S256x192 : Shape := ⟨2, ![256, 192]⟩
abbrev S256x32 : Shape := ⟨2, ![256, 32]⟩
abbrev S32x128 : Shape := ⟨2, ![32, 128]⟩
abbrev S32x128x1 : Shape := ⟨3, ![32, 128, 1]⟩
abbrev S1x128 : Shape := ⟨2, ![1, 128]⟩
abbrev S32x64 : Shape := ⟨2, ![32, 64]⟩

abbrev nBuf : Space → Nat
  | .hbm => 16
  | .vmem => 13
  | .smem => 1
  | _ => 0

abbrev bufTy : (tb : Table) → Fin (tcTables nBuf tb) → BufTy
  | .hbm, ⟨0, _⟩ => ⟨S2x4608x3072, .bf16⟩
  | .hbm, ⟨1, _⟩ => ⟨S3072, .f32⟩
  | .hbm, ⟨2, _⟩ => ⟨S_, .f32⟩
  | .hbm, ⟨3, _⟩ => ⟨S3072x32, .bf16⟩
  | .hbm, ⟨4, _⟩ => ⟨S9216x3072, .bf16⟩
  | .hbm, ⟨5, _⟩ => ⟨S12x128x2, .f32⟩
  | .hbm, ⟨6, _⟩ => ⟨S12x2x128, .f32⟩
  | .hbm, ⟨7, _⟩ => ⟨S1x3072, .f32⟩
  | .hbm, ⟨8, _⟩ => ⟨S12x128x2x32, .bf16⟩
  | .hbm, ⟨9, _⟩ => ⟨S12x2x128x32, .bf16⟩
  | .hbm, ⟨10, _⟩ => ⟨S3072x32, .bf16⟩
  | .hbm, ⟨11, _⟩ => ⟨S1x1, .f32⟩
  | .hbm, ⟨12, _⟩ => ⟨S9216x1536, .i8⟩
  | .hbm, ⟨13, _⟩ => ⟨S9216x192, .fp8e4m3⟩
  | .hbm, ⟨14, _⟩ => ⟨S9216x3072, .bf16⟩
  | .hbm, ⟨15, _⟩ => ⟨S9216x32, .bf16⟩
  | .local _ .vmem, ⟨0, _⟩ => ⟨S256x3072, .bf16⟩
  | .local _ .vmem, ⟨1, _⟩ => ⟨S256x3072, .bf16⟩
  | .local _ .vmem, ⟨2, _⟩ => ⟨S1x3072, .f32⟩
  | .local _ .vmem, ⟨3, _⟩ => ⟨S3072x32, .bf16⟩
  | .local _ .vmem, ⟨4, _⟩ => ⟨S256x1536, .i8⟩
  | .local _ .vmem, ⟨5, _⟩ => ⟨S256x1536, .i8⟩
  | .local _ .vmem, ⟨6, _⟩ => ⟨S256x192, .fp8e4m3⟩
  | .local _ .vmem, ⟨7, _⟩ => ⟨S256x192, .fp8e4m3⟩
  | .local _ .vmem, ⟨8, _⟩ => ⟨S256x3072, .bf16⟩
  | .local _ .vmem, ⟨9, _⟩ => ⟨S256x3072, .bf16⟩
  | .local _ .vmem, ⟨10, _⟩ => ⟨S256x32, .bf16⟩
  | .local _ .vmem, ⟨11, _⟩ => ⟨S256x32, .bf16⟩
  | .local _ .vmem, ⟨12, _⟩ => ⟨S256x3072, .bf16⟩
  | .local _ .smem, ⟨0, _⟩ => ⟨S1x1, .f32⟩
  | _, _ => ⟨S2x4608x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![36], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v9 : Index := Scalar.indexCast v8
  let c0_8 : Index := 0#32
  ![v9.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v12 : Index := Scalar.indexCast v8
  let c128 : Index := 128#32
  ![v12.toNat, 128]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v80 : Index := Scalar.indexCast v8
  let c256 : Index := 256#32
  ![v80.toNat, 256]
def k0_off4 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v83 : Index := Scalar.indexCast v8
  let c384 : Index := 384#32
  ![v83.toNat, 384]
def k0_off5 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v151 : Index := Scalar.indexCast v8
  let c512 : Index := 512#32
  ![v151.toNat, 512]
def k0_off6 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v154 : Index := Scalar.indexCast v8
  let c640 : Index := 640#32
  ![v154.toNat, 640]
def k0_off7 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v222 : Index := Scalar.indexCast v8
  let c768 : Index := 768#32
  ![v222.toNat, 768]
def k0_off8 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v225 : Index := Scalar.indexCast v8
  let c896 : Index := 896#32
  ![v225.toNat, 896]
def k0_off9 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v293 : Index := Scalar.indexCast v8
  let c1024 : Index := 1024#32
  ![v293.toNat, 1024]
def k0_off10 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v296 : Index := Scalar.indexCast v8
  let c1152 : Index := 1152#32
  ![v296.toNat, 1152]
def k0_off11 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v364 : Index := Scalar.indexCast v8
  let c1280 : Index := 1280#32
  ![v364.toNat, 1280]
def k0_off12 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v367 : Index := Scalar.indexCast v8
  let c1408 : Index := 1408#32
  ![v367.toNat, 1408]
def k0_off13 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v435 : Index := Scalar.indexCast v8
  let c1536 : Index := 1536#32
  ![v435.toNat, 1536]
def k0_off14 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v438 : Index := Scalar.indexCast v8
  let c1664 : Index := 1664#32
  ![v438.toNat, 1664]
def k0_off15 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v506 : Index := Scalar.indexCast v8
  let c1792 : Index := 1792#32
  ![v506.toNat, 1792]
def k0_off16 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v509 : Index := Scalar.indexCast v8
  let c1920 : Index := 1920#32
  ![v509.toNat, 1920]
def k0_off17 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v577 : Index := Scalar.indexCast v8
  let c2048 : Index := 2048#32
  ![v577.toNat, 2048]
def k0_off18 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v580 : Index := Scalar.indexCast v8
  let c2176 : Index := 2176#32
  ![v580.toNat, 2176]
def k0_off19 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v648 : Index := Scalar.indexCast v8
  let c2304 : Index := 2304#32
  ![v648.toNat, 2304]
def k0_off20 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v651 : Index := Scalar.indexCast v8
  let c2432 : Index := 2432#32
  ![v651.toNat, 2432]
def k0_off21 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v719 : Index := Scalar.indexCast v8
  let c2560 : Index := 2560#32
  ![v719.toNat, 2560]
def k0_off22 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v722 : Index := Scalar.indexCast v8
  let c2688 : Index := 2688#32
  ![v722.toNat, 2688]
def k0_off23 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v790 : Index := Scalar.indexCast v8
  let c2816 : Index := 2816#32
  ![v790.toNat, 2816]
def k0_off24 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v793 : Index := Scalar.indexCast v8
  let c2944 : Index := 2944#32
  ![v793.toNat, 2944]
def k0_off25 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v1163 : Index := Scalar.indexCast v8
  let c0_320 : Index := 0#32
  ![v1163.toNat, 0]
def k0_off26 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v1175 : Index := Scalar.indexCast v8
  let c128_323 : Index := 128#32
  ![v1175.toNat, 128]
def k0_off27 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v1393 : Index := Scalar.indexCast v8
  let c0_401 : Index := 0#32
  ![v1393.toNat, 0]
def k0_off28 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v1558 : Index := Scalar.indexCast v8
  let c128_471 : Index := 128#32
  ![v1558.toNat, 128]
def k0_off29 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v1723 : Index := Scalar.indexCast v8
  let c256_541 : Index := 256#32
  ![v1723.toNat, 256]
def k0_off30 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v1888 : Index := Scalar.indexCast v8
  let c384_610 : Index := 384#32
  ![v1888.toNat, 384]
def k0_off31 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v2053 : Index := Scalar.indexCast v8
  let c512_680 : Index := 512#32
  ![v2053.toNat, 512]
def k0_off32 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v2218 : Index := Scalar.indexCast v8
  let c640_749 : Index := 640#32
  ![v2218.toNat, 640]
def k0_off33 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v2383 : Index := Scalar.indexCast v8
  let c768_818 : Index := 768#32
  ![v2383.toNat, 768]
def k0_off34 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v2548 : Index := Scalar.indexCast v8
  let c896_887 : Index := 896#32
  ![v2548.toNat, 896]
def k0_off35 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v2713 : Index := Scalar.indexCast v8
  let c1024_957 : Index := 1024#32
  ![v2713.toNat, 1024]
def k0_off36 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v2878 : Index := Scalar.indexCast v8
  let c1152_1027 : Index := 1152#32
  ![v2878.toNat, 1152]
def k0_off37 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v3043 : Index := Scalar.indexCast v8
  let c1280_1097 : Index := 1280#32
  ![v3043.toNat, 1280]
def k0_off38 (k0_t1 : Fin k0_t1_loop.trips) : Fin 2 → Nat :=
  let c0_i32 : BitVec 32 := 0#32
  let c1_i32 : BitVec 32 := 1#32
  let arg10 : BitVec 32 := Scf.iv c0_i32 c1_i32 k0_t1
  let c32_i32 : BitVec 32 := 32#32
  let v8 : BitVec 32 := Scalar.muli arg10 c32_i32
  let v3208 : Index := Scalar.indexCast v8
  let c1408_1167 : Index := 1408#32
  ![v3208.toNat, 1408]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3072x32 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1536 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x32 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QuantiseReferenceIdeal.lean ====
abbrev S2x4608x3072 : Shape := ⟨3, ![2, 4608, 3072]⟩
abbrev S3072 : Shape := ⟨1, ![3072]⟩
abbrev S_ : Shape := ⟨0, ![]⟩
abbrev S3072x32 : Shape := ⟨2, ![3072, 32]⟩
abbrev S1x1x3072 : Shape := ⟨3, ![1, 1, 3072]⟩
abbrev S9216x3072 : Shape := ⟨2, ![9216, 3072]⟩
abbrev S9216x192x16 : Shape := ⟨3, ![9216, 192, 16]⟩
abbrev S9216x192 : Shape := ⟨2, ![9216, 192]⟩
abbrev S9216x192x1 : Shape := ⟨3, ![9216, 192, 1]⟩
abbrev S9216x192x8 : Shape := ⟨3, ![9216, 192, 8]⟩
abbrev S9216x1536 : Shape := ⟨2, ![9216, 1536]⟩
abbrev S9216x1536x2 : Shape := ⟨3, ![9216, 1536, 2]⟩
abbrev S9216x32 : Shape := ⟨2, ![9216, 32]⟩
abbrev S1x1 : Shape := ⟨2, ![1, 1]⟩
abbrev S9216x12x128x2 : Shape := ⟨4, ![9216, 12, 128, 2]⟩
abbrev S9216x12x2x128 : Shape := ⟨4, ![9216, 12, 2, 128]⟩
abbrev S9216x1536x1 : Shape := ⟨3, ![9216, 1536, 1]⟩

abbrev nBuf : Space → Nat
  | .hbm => 37
  | .vmem => 10
  | .smem => 0
  | _ => 0

abbrev bufTy : (tb : Table) → Fin (tcTables nBuf tb) → BufTy
  | .hbm, ⟨0, _⟩ => ⟨S2x4608x3072, .bf16⟩
  | .hbm, ⟨1, _⟩ => ⟨S3072, .f32⟩
  | .hbm, ⟨2, _⟩ => ⟨S_, .f32⟩
  | .hbm, ⟨3, _⟩ => ⟨S3072x32, .bf16⟩
  | .hbm, ⟨4, _⟩ => ⟨S2x4608x3072, .f32⟩
  | .hbm, ⟨5, _⟩ => ⟨S1x1x3072, .f32⟩
  | .hbm, ⟨6, _⟩ => ⟨S2x4608x3072, .f32⟩
  | .hbm, ⟨7, _⟩ => ⟨S2x4608x3072, .f32⟩
  | .hbm, ⟨8, _⟩ => ⟨S9216x3072, .f32⟩
  | .hbm, ⟨9, _⟩ => ⟨S9216x192x16, .f32⟩
  | .hbm, ⟨10, _⟩ => ⟨S9216x192x16, .f32⟩
  | .hbm, ⟨11, _⟩ => ⟨S_, .f32⟩
  | .hbm, ⟨12, _⟩ => ⟨S9216x192, .f32⟩
  | .hbm, ⟨13, _⟩ => ⟨S9216x192x1, .f32⟩
  | .hbm, ⟨14, _⟩ => ⟨S9216x192x16, .f32⟩
  | .hbm, ⟨15, _⟩ => ⟨S9216x3072, .f32⟩
  | .hbm, ⟨16, _⟩ => ⟨S9216x192x1, .f32⟩
  | .hbm, ⟨17, _⟩ => ⟨S9216x192x8, .f32⟩
  | .hbm, ⟨18, _⟩ => ⟨S9216x1536, .f32⟩
  | .hbm, ⟨19, _⟩ => ⟨S9216x1536x2, .f32⟩
  | .hbm, ⟨20, _⟩ => ⟨S9216x3072, .bf16⟩
  | .hbm, ⟨21, _⟩ => ⟨S9216x32, .f32⟩
  | .hbm, ⟨22, _⟩ => ⟨S9216x32, .bf16⟩
  | .hbm, ⟨23, _⟩ => ⟨S1x1, .f32⟩
  | .hbm, ⟨24, _⟩ => ⟨S9216x12x128x2, .f32⟩
  | .hbm, ⟨25, _⟩ => ⟨S9216x12x2x128, .f32⟩
  | .hbm, ⟨26, _⟩ => ⟨S9216x3072, .f32⟩
  | .hbm, ⟨27, _⟩ => ⟨S9216x12x128x2, .f32⟩
  | .hbm, ⟨28, _⟩ => ⟨S9216x12x2x128, .f32⟩
  | .hbm, ⟨29, _⟩ => ⟨S9216x3072, .f32⟩
  | .hbm, ⟨30, _⟩ => ⟨S9216x1536x1, .f32⟩
  | .hbm, ⟨31, _⟩ => ⟨S9216x1536, .f32⟩
  | .hbm, ⟨32, _⟩ => ⟨S9216x1536x1, .f32⟩
  | .hbm, ⟨33, _⟩ => ⟨S9216x1536, .f32⟩
  | .hbm, ⟨34, _⟩ => ⟨S9216x1536, .i8⟩
  | .hbm, ⟨35, _⟩ => ⟨S9216x192, .fp8e4m3⟩
  | .hbm, ⟨36, _⟩ => ⟨S9216x3072, .bf16⟩
  | .local _ .vmem, ⟨0, _⟩ => ⟨S9216x192, .f32⟩
  | .local _ .vmem, ⟨1, _⟩ => ⟨S1x1, .f32⟩
  | .local _ .vmem, ⟨2, _⟩ => ⟨S9216x3072, .f32⟩
  | .local _ .vmem, ⟨3, _⟩ => ⟨S9216x3072, .f32⟩
  | .local _ .vmem, ⟨4, _⟩ => ⟨S9216x1536, .f32⟩
  | .local _ .vmem, ⟨5, _⟩ => ⟨S9216x1536, .f32⟩
  | .local _ .vmem, ⟨6, _⟩ => ⟨S9216x1536, .f32⟩
  | .local _ .vmem, ⟨7, _⟩ => ⟨S9216x1536, .i8⟩
  | .local _ .vmem, ⟨8, _⟩ => ⟨S9216x192, .fp8e4m3⟩
  | .local _ .vmem, ⟨9, _⟩ => ⟨S9216x3072, .bf16⟩
  | _, _ => ⟨S2x4608x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29_0 : Ref sig .tc := ⟨.hbm, 34, rfl⟩
abbrev main_v29_1 : Ref sig .tc := ⟨.hbm, 35, rfl⟩
abbrev main_v29_2 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S9216x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9216x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9216x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S9216x1536 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S9216x192 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S9216x3072 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Nibble.lean ====
/- What the kernel's byte arithmetic reads: one packed byte holds two four-bit codes; moving a code's sign to bit 7
   and its three magnitude bits to bits 4..2 of a byte gives a byte whose float8 value is the code's value over 64.
   The kernel does it on four bytes at a time, in a 32-bit word. -/
module

public import Idealize.ShloMosaic.Lib.BitcastFour
public import Idealize.ShloMosaic.Lib.BitcastPair
public import Idealize.ShloMosaic.PureOps.Ideal
public import Idealize.ShloMosaic.PureOps.Vector

@[expose] public section

set_option maxRecDepth 16384

noncomputable section

namespace Cert.KernelIdeal.Hand

open Idealize.ShloMosaic

/-- The magnitude a three-bit code stands for (times two): 0, 1/2, 1, 3/2, 2, 3, 4, 6. -/
def mag2 : Nat → ℝ
  | 0 => 0
  | 1 => 1
  | 2 => 2
  | 3 => 3
  | 4 => 4
  | 5 => 6
  | 6 => 8
  | _ => 12

/-- The value of a four-bit code: bit 3 the sign, bits 2..0 the magnitude. -/
def nib (n : Nat) : ℝ := (if n < 8 then 1 else -1) * (mag2 (n % 8) / 2)

/-- The code of a packed byte: `p = 0` the low four bits, else the high four. -/
def codeOf (b : BitVec 8) (p : Nat) : Nat := if p = 0 then b.toNat % 16 else b.toNat / 16

/-- The byte made of the low code of `b`. -/
def loByte (b : BitVec 8) : BitVec 8 := ((b <<< 4) &&& 0x80#8) ||| ((b <<< 2) &&& 0x1C#8)

/-- The byte made of the high code of `b`. -/
def hiByte (b : BitVec 8) : BitVec 8 := (b &&& 0x80#8) ||| ((b >>> 2) &&& 0x1C#8)

/-- The byte of the code `n`: the sign in bit 7, the magnitude bits in bits 4..2. -/
def nibByte (n : Nat) : BitVec 8 := BitVec.ofNat 8 (n / 8 * 128 + n % 8 * 4)

theorem loByte_eq : ∀ b : BitVec 8, loByte b = nibByte (b.toNat % 16) := by
  have h : ∀ n : Fin 256, loByte (BitVec.ofFin n) = nibByte ((BitVec.ofFin n : BitVec 8).toNat % 16) := by decide +kernel
  exact fun b => h b.toFin

theorem hiByte_eq : ∀ b : BitVec 8, hiByte b = nibByte (b.toNat / 16) := by
  have h : ∀ n : Fin 256, hiByte (BitVec.ofFin n) = nibByte ((BitVec.ofFin n : BitVec 8).toNat / 16) := by decide +kernel
  exact fun b => h b.toFin

/-- The float8 value of a code's byte is the code's value over 64. -/
theorem ofBits_nibByte (n : Nat) (hn : n < 16) : Ideal.ofBits .fp8e4m3 (nibByte n) = ((nib n / 64 : ℝ) : EReal) := by
  interval_cases n <;>
    (simp [Ideal.ofBits, Ideal.e4m3fn, nibByte, nib, mag2, -EReal.coe_mul] <;> norm_num)

/-- The word that holds the low codes of a word's four bytes. -/
def loWord (w : BitVec 32) : BitVec 32 :=
  ((w <<< 4) &&& 2155905152#32) ||| ((w <<< 2) &&& 471604252#32)

/-- The word that holds the high codes of a word's four bytes. -/
def hiWord (w : BitVec 32) : BitVec 32 :=
  (w &&& 2155905152#32) ||| ((w.sshiftRight 2) &&& 471604252#32)

theorem loWord_getLsbD (w : BitVec 32) (b : BitVec 8) (p : Nat) (hp : p < 4) (hb : ∀ q < 8, w.getLsbD (8 * p + q) = b.getLsbD q)
    (q : Nat) (hq : q < 8) : (loWord w).getLsbD (8 * p + q) = (loByte b).getLsbD q := by
  have h0 := hb 0; have h1 := hb 1; have h2 := hb 2; have h3 := hb 3
  interval_cases p <;> interval_cases q <;> simp [loWord, loByte] <;> simp_all

theorem hiWord_getLsbD (w : BitVec 32) (b : BitVec 8) (p : Nat) (hp : p < 4) (hb : ∀ q < 8, w.getLsbD (8 * p + q) = b.getLsbD q)
    (q : Nat) (hq : q < 8) : (hiWord w).getLsbD (8 * p + q) = (hiByte b).getLsbD q := by
  have h0 := hb 4; have h1 := hb 5; have h2 := hb 6; have h3 := hb 7
  interval_cases p <;> interval_cases q <;> simp [hiWord, hiByte, BitVec.getElem_sshiftRight] <;> simp_all

abbrev T32 : Shape := ⟨2, ![32, 128]⟩
abbrev T8 : Shape := ⟨2, ![8, 128]⟩

/-- Bit `q` of byte row `r` of a column of words is bit `8 * (r % 4) + q` of word row `r / 4`. -/
theorem bitcast_32_8_getLsbD (x : T8.Idx → BitVec 32) (h : T8.Bitcasts 32 T32 8) (r : Fin 32) (l : Fin 128) (q : Nat) (hq : q < 8) :
    (bitcast T32 8 x h (ValueIdx.ix2 r l)).getLsbD q
      = (x (ValueIdx.ix2 (⟨r.val / 4, by omega⟩ : Fin 8) l)).getLsbD (8 * (r.val % 4) + q) := by
  rw [bitcast_getLsbD x h _ q hq (by decide)]
  have hrow : T32.row (ValueIdx.ix2 r l) = r.val := rfl
  have e1 : (T32.row (ValueIdx.ix2 r l) * 8 + q) / 32 = r.val / 4 := by rw [hrow]; omega
  have e2 : (T32.row (ValueIdx.ix2 r l) * 8 + q) % 32 = 8 * (r.val % 4) + q := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Bytes read as words, a function of each word's bytes applied, read as bytes again: that function of each byte. -/
theorem bytes_through_words (x : T32.Idx → BitVec 8) (h : T32.Bitcasts 8 T8 32) (h' : T8.Bitcasts 32 T32 8)
    (fw : BitVec 32 → BitVec 32) (fb : BitVec 8 → BitVec 8)
    (hf : ∀ (w : BitVec 32) (b : BitVec 8) (p : Nat), p < 4 → (∀ q < 8, w.getLsbD (8 * p + q) = b.getLsbD q) →
      ∀ q < 8, (fw w).getLsbD (8 * p + q) = (fb b).getLsbD q)
    (r : Fin 32) (l : Fin 128) :
    bitcast T32 8 (fun i => fw (bitcast T8 32 x h i)) h' (ValueIdx.ix2 r l) = fb (x (ValueIdx.ix2 r l)) := by
  apply BitVec.eq_of_getLsbD_eq
  intro q hq
  rw [bitcast_32_8_getLsbD _ h' r l q hq]
  refine hf _ _ _ (by omega) (fun q' hq' => ?_) q hq
  rw [bitcast_8_32_getLsbD_ix2 x h _ l _ (by omega) r (by show r.val = 4 * (r.val / 4) + _; omega)]
  congr 1; omega

end Cert.KernelIdeal.Hand

end
-- ==== Proof.Tile.lean ====
/- One stored tile of the scratch array, read at an index: the code's value over 64 times its group's scale. -/
module

public import proofs.«01_k».proof.Proof.Gen.KernelIdeal.Value
public import proofs.«01_k».proof.Proof.Nibble
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-- The words of the low codes of a tile of packed bytes. -/
def loWords (x : Vec F S32x128 .i8) : IVec S8x128 32 :=
  ori (andi (shli (bitcast S8x128 32 x bitcasts_S32x128_w8_S8x128_w32) (broadcast S8x128 4#32)) (broadcast S8x128 2155905152#32))
    (andi (shli (bitcast S8x128 32 x bitcasts_S32x128_w8_S8x128_w32) (broadcast S8x128 2#32)) (broadcast S8x128 471604252#32))

/-- The words of the high codes. -/
def hiWords (x : Vec F S32x128 .i8) : IVec S8x128 32 :=
  ori (andi (bitcast S8x128 32 x bitcasts_S32x128_w8_S8x128_w32) (broadcast S8x128 2155905152#32))
    (andi (shrsi (bitcast S8x128 32 x bitcasts_S32x128_w8_S8x128_w32) (broadcast S8x128 2#32)) (broadcast S8x128 471604252#32))

/-- The lane a tile's lane takes its scale from, `g + lane / 8`, as the kernel computes it on one word. -/
def laneWord (g b : BitVec 32) : BitVec 32 :=
  let q := IntOp.divsi .vector b 8#32
  let sb := IntOp.cmpi .sgt b 0#32
  let lb := IntOp.cmpi .slt b 0#32
  let s8 := Scalar.subi (Scalar.extui (Scalar.cmpi .sgt 8#32 0#32) : BitVec 32) (Scalar.extui (Scalar.cmpi .slt 8#32 0#32))
  let ne := IntOp.cmpi .ne (sb.setWidth 32 - lb.setWidth 32) s8
  let rne := IntOp.cmpi .ne (IntOp.remsi .vector b 8#32) 0#32
  let f := Scalar.select (IntOp.andi ne rne) (q - 1#32) q
  let u := g + f
  Scalar.select (IntOp.cmpi .slt u 0#32) (u + 128#32) u

theorem laneWord_eq (a : Nat) (ha : a < 8) (l : Fin 128) :
    (laneWord (BitVec.ofNat 32 (16 * a)) (BitVec.ofNat 32 l.val)).toNat % 128 = 16 * a + l.val / 8 := by
  have h : ∀ a : Fin 8, ∀ l : Fin 128, (laneWord (BitVec.ofNat 32 (16 * a.val)) (BitVec.ofNat 32 l.val)).toNat % 128 = 16 * a.val + l.val / 8 := by
    decide +kernel
  exact h ⟨a, ha⟩ l

/-- A tile's gathered lanes, as the kernel computes them. -/
def laneIdx (g : BitVec 32) : IVec S32x128 32 :=
  shapeCast S32x128 (shapeCast S32x128x1 (fun i => laneWord g (iota .tc S32x128 32 [1] iota_S32x128_d1_w32 i)) shapeCasts_S32x128_S32x128x1)
    shapeCasts_S32x128x1_S32x128

/-- One stored tile: the bytes of `w` read as float8, times the scales gathered at the tile's lanes. -/
def tile (w : IVec S8x128 32) (s : FVec F S32x128 .fp8e4m3) (g : BitVec 32) : FVec F S32x128 .bf16 :=
  mulf (extf .bf16 (bitcastToFloat .fp8e4m3 (bitcast S32x128 8 w bitcasts_S8x128_w32_S32x128_w8)) bitsLt_fp8e4m3_bf16)
    (truncf .bf16 (dynamicGather 1 (extf .f32 s bitsLt_fp8e4m3_f32) (laneIdx g)) bitsLt_bf16_f32)

theorem laneIdx_apply (a : Nat) (ha : a < 8) (r : Fin 32) (l : Fin 128) :
    (laneIdx (BitVec.ofNat 32 (16 * a)) (ValueIdx.ix2 r l)).toNat % 128 = 16 * a + l.val / 8 := by
  unfold laneIdx
  rw [shapeCast_shapeCast]
  have e : iota .tc S32x128 32 [1] iota_S32x128_d1_w32 (ValueIdx.ix2 r l) = BitVec.ofNat 32 l.val := by
    show BitVec.ofNat 32 (0 * 128 + l.val) = _
    rw [Nat.zero_mul, Nat.zero_add]
  rw [e]
  exact laneWord_eq a ha l

theorem gather_apply {α : Type} (s : S32x128.Idx → α) (a : Nat) (ha : a < 8) (r : Fin 32) (l : Fin 128) :
    dynamicGather (s := S32x128) 1 s (laneIdx (BitVec.ofNat 32 (16 * a))) (ValueIdx.ix2 r l)
      = s (ValueIdx.ix2 r (⟨16 * a + l.val / 8, by omega⟩ : Fin 128)) := by
  show s _ = s _
  congr 1
  funext b
  match b with
  | ⟨0, _⟩ => rfl
  | ⟨1, _⟩ => exact Fin.ext (laneIdx_apply a ha r l)

theorem loBytes_apply (x : Vec Ideal S32x128 .i8) (r : Fin 32) (l : Fin 128) :
    bitcast S32x128 8 (loWords (F := Ideal) x) bitcasts_S8x128_w32_S32x128_w8 (ValueIdx.ix2 r l) = loByte (x (ValueIdx.ix2 r l)) :=
  bytes_through_words x _ _ loWord loByte (fun w b p hp h q hq => loWord_getLsbD w b p hp h q hq) r l

theorem hiBytes_apply (x : Vec Ideal S32x128 .i8) (r : Fin 32) (l : Fin 128) :
    bitcast S32x128 8 (hiWords (F := Ideal) x) bitcasts_S8x128_w32_S32x128_w8 (ValueIdx.ix2 r l) = hiByte (x (ValueIdx.ix2 r l)) :=
  bytes_through_words x _ _ hiWord hiByte (fun w b p hp h q hq => hiWord_getLsbD w b p hp h q hq) r l

/-- The tile of the low codes at an index. -/
theorem tile_lo (x : Vec Ideal S32x128 .i8) (s : FVec Ideal S32x128 .fp8e4m3) (a : Nat) (ha : a < 8) (r : Fin 32) (l : Fin 128) :
    (tile (F := Ideal) (loWords (F := Ideal) x) s (BitVec.ofNat 32 (16 * a)) (ValueIdx.ix2 r l) : EReal)
      = ((nib ((x (ValueIdx.ix2 r l) : BitVec 8).toNat % 16) / 64 : ℝ) : EReal) * (s (ValueIdx.ix2 r (⟨16 * a + l.val / 8, by omega⟩ : Fin 128)) : EReal) := by
  show Ideal.ofBits .fp8e4m3 (bitcast S32x128 8 (loWords (F := Ideal) x) bitcasts_S8x128_w32_S32x128_w8 (ValueIdx.ix2 r l))
    * (dynamicGather (s := S32x128) 1 s (laneIdx (BitVec.ofNat 32 (16 * a))) (ValueIdx.ix2 r l) : EReal) = _
  rw [loBytes_apply, gather_apply s a ha, loByte_eq, ofBits_nibByte _ (Nat.mod_lt _ (by decide))]

/-- The tile of the high codes at an index. -/
theorem tile_hi (x : Vec Ideal S32x128 .i8) (s : FVec Ideal S32x128 .fp8e4m3) (a : Nat) (ha : a < 8) (r : Fin 32) (l : Fin 128) :
    (tile (F := Ideal) (hiWords (F := Ideal) x) s (BitVec.ofNat 32 (16 * a)) (ValueIdx.ix2 r l) : EReal)
      = ((nib ((x (ValueIdx.ix2 r l) : BitVec 8).toNat / 16) / 64 : ℝ) : EReal) * (s (ValueIdx.ix2 r (⟨16 * a + l.val / 8, by omega⟩ : Fin 128)) : EReal) := by
  show Ideal.ofBits .fp8e4m3 (bitcast S32x128 8 (hiWords (F := Ideal) x) bitcasts_S8x128_w32_S32x128_w8 (ValueIdx.ix2 r l))
    * (dynamicGather (s := S32x128) 1 s (laneIdx (BitVec.ofNat 32 (16 * a))) (ValueIdx.ix2 r l) : EReal) = _
  have hx : (x (ValueIdx.ix2 r l) : BitVec 8).toNat / 16 < 16 := by
    have := (x (ValueIdx.ix2 r l) : BitVec 8).isLt; omega
  rw [hiBytes_apply, gather_apply s a ha, hiByte_eq, ofBits_nibByte _ hx]

end Cert.KernelIdeal.Hand

end
-- ==== Proof.Scratch.lean ====
/- What the decode loop leaves in the scratch array: at row `r`, column `256 t + 128 p + l`, the value of code `p` of
   packed byte `128 t + l` of the row, over 64, times the scale of that byte's group. Every stored tile agrees with
   that one function, and the tiles cover the array. -/
module

public import proofs.«01_k».proof.Proof.Tile

@[expose] public section

set_option maxRecDepth 16384

noncomputable section

namespace Cert.KernelIdeal.Hand

open Cert.KernelIdeal Cert.KernelIdeal.Gen Idealize.ShloMosaic Idealize.ShloMosaic.TcCoe Idealize.ShloMosaic.Tactic
open Idealize.SL.Sem

/-- The decoded weights of a block of rows, in the kernel's column order and units. -/
def wq {R : Nat} (x3 : (⟨2, ![R, 1536]⟩ : Shape).Idx → BitVec 8) (x4 : (⟨2, ![R, 192]⟩ : Shape).Idx → EReal)
    (r : Fin R) (c : Fin 3072) : EReal :=
  ((nib (codeOf (x3 (ValueIdx.ix2 r (⟨c.val / 256 * 128 + c.val % 128, by omega⟩ : Fin 1536))) (c.val / 128 % 2)) / 64 : ℝ) : EReal)
    * x4 (ValueIdx.ix2 r (⟨c.val / 256 * 16 + c.val % 128 / 8, by omega⟩ : Fin 192))

/-- A tile as it is stored. -/
def stile {F : FTy → Type} [FloatOps F] (w : IVec S8x128 32) (s : FVec F S32x128 .fp8e4m3) (g : BitVec 32) : FVec F S32x128 .bf16 :=
  shapeCast S32x128 (tile w s g) shapeCasts_S32x128_S32x128

theorem wq_of_tile (x3 : S512x1536.Idx → BitVec 8) (x4 : S512x192.Idx → EReal) (k : Nat) (hk : k < 16) (kt : Nat) (hkt : kt < 12) (p : Nat)
    (hp : p < 2) (r : Fin 32) (l : Fin 128) (b : BitVec 8) (s : EReal)
    (hb : b = x3 (ValueIdx.ix2 (⟨32 * k + r.val, by omega⟩ : Fin 512) (⟨128 * kt + l.val, by omega⟩ : Fin 1536)))
    (hs : s = x4 (ValueIdx.ix2 (⟨32 * k + r.val, by omega⟩ : Fin 512) (⟨16 * kt + l.val / 8, by omega⟩ : Fin 192)))
    (y : S512x3072.Idx) (y0 : (y 0).val = 32 * k + r.val) (y1 : (y 1).val = 256 * kt + 128 * p + l.val) :
    ((nib (codeOf b p) / 64 : ℝ) : EReal) * s = wq (R := 512) x3 x4 (y 0) (y 1) := by
  have e0 : y 0 = (⟨32 * k + r.val, by omega⟩ : Fin 512) := Fin.ext y0
  have e1 : y 1 = (⟨256 * kt + 128 * p + l.val, by omega⟩ : Fin 3072) := Fin.ext y1
  rw [e0, e1, hb, hs]
  unfold wq
  have h1 : (256 * kt + 128 * p + l.val) / 256 * 128 + (256 * kt + 128 * p + l.val) % 128 = 128 * kt + l.val := by omega
  have h2 : (256 * kt + 128 * p + l.val) / 128 % 2 = p := by omega
  have h3 : (256 * kt + 128 * p + l.val) / 256 * 16 + (256 * kt + 128 * p + l.val) % 128 / 8 = 16 * kt + l.val / 8 := by omega
  simp only [h1, h2, h3]

/-- A stored piece agrees with the decoded weights. -/
def Agrees (x3 : S512x1536.Idx → BitVec 8) (x4 : S512x192.Idx → EReal) (p : View.Piece (Elt Ideal) S512x3072 .bf16) : Prop :=
  ∀ x : p.1.shape.Idx, (p.2 x : EReal) = wq (R := 512) x3 x4 (p.1.emb x 0) (p.1.emb x 1)

section
variable (x3 : S512x1536.Idx → BitVec 8) (x4 : S512x192.Idx → EReal) (k : Nat) (hk : k < 16) (kt : Nat) (hkt : kt < 12)
  {off : Fin S512x3072.rank → Nat} {inb : ∀ a, off a + S32x128.size a ≤ S512x3072.size a}
  {X : Vec Ideal S32x128 .i8} {S : FVec Ideal S32x128 .fp8e4m3}

theorem agree_lo (ho : off = ![32 * k, 256 * kt])
    (hX : ∀ (r : Fin 32) (l : Fin 128), X (ValueIdx.ix2 r l) = x3 (ValueIdx.ix2 (⟨32 * k + r.val, by omega⟩ : Fin 512) (⟨128 * kt + l.val, by omega⟩ : Fin 1536)))
    (hS : ∀ (r : Fin 32) (l : Fin 128), S (ValueIdx.ix2 r (⟨16 * (kt % 8) + l.val / 8, by omega⟩ : Fin 128))
      = x4 (ValueIdx.ix2 (⟨32 * k + r.val, by omega⟩ : Fin 512) (⟨16 * kt + l.val / 8, by omega⟩ : Fin 192))) :
    Agrees x3 x4 ⟨Rect.unit (s := S512x3072) off S32x128.size inb, stile (loWords (F := Ideal) X) S (BitVec.ofNat 32 (16 * (kt % 8)))⟩ := by
  subst ho
  intro x
  obtain ⟨r, l, rfl⟩ : ∃ (r : Fin 32) (l : Fin 128), x = ValueIdx.ix2 r l := ⟨x 0, x 1, ValueIdx.eq_ix2 x⟩
  show (shapeCast S32x128 (tile (loWords (F := Ideal) X) S _) _ (ValueIdx.ix2 r l) : EReal) = _
  rw [shapeCast_self, tile_lo X S (kt % 8) (by omega) r l]
  exact wq_of_tile x3 x4 k hk kt hkt 0 (by decide) r l _ _ (hX r l) (hS r l) _
    (by show 32 * k + 1 * r.val = _; omega) (by show 256 * kt + 1 * l.val = _; omega)

theorem agree_hi (ho : off = ![32 * k, 256 * kt + 128])
    (hX : ∀ (r : Fin 32) (l : Fin 128), X (ValueIdx.ix2 r l) = x3 (ValueIdx.ix2 (⟨32 * k + r.val, by omega⟩ : Fin 512) (⟨128 * kt + l.val, by omega⟩ : Fin 1536)))
    (hS : ∀ (r : Fin 32) (l : Fin 128), S (ValueIdx.ix2 r (⟨16 * (kt % 8) + l.val / 8, by omega⟩ : Fin 128))
      = x4 (ValueIdx.ix2 (⟨32 * k + r.val, by omega⟩ : Fin 512) (⟨16 * kt + l.val / 8, by omega⟩ : Fin 192))) :
    Agrees x3 x4 ⟨Rect.unit (s := S512x3072) off S32x128.size inb, stile (hiWords (F := Ideal) X) S (BitVec.ofNat 32 (16 * (kt % 8)))⟩ := by
  subst ho
  intro x
  obtain ⟨r, l, rfl⟩ : ∃ (r : Fin 32) (l : Fin 128), x = ValueIdx.ix2 r l := ⟨x 0, x 1, ValueIdx.eq_ix2 x⟩
  show (shapeCast S32x128 (tile (hiWords (F := Ideal) X) S _) _ (ValueIdx.ix2 r l) : EReal) = _
  rw [shapeCast_self, tile_hi X S (kt % 8) (by omega) r l]
  exact wq_of_tile x3 x4 k hk kt hkt 1 (by decide) r l _ _ (hX r l) (hS r l) _
    (by show 32 * k + 1 * r.val = _; omega) (by show 256 * kt + 128 + 1 * l.val = _; omega)
end

section
variable (arg5 : Memref sig .tc .vmem S512x1536 .i8) (X5 : BufTy.Contents (Elt Ideal) arg5.view.ty)
  (arg6 : Memref sig .tc .vmem S512x192 .fp8e4m3) (X6 : BufTy.Contents (Elt Ideal) arg6.view.ty)
  (k : Nat) (hk : k < 16) (kt : Nat)

/-- A loaded tile of packed bytes at an index. -/
theorem byte_at (hkt : kt < 12) {off : Fin S512x1536.rank → Nat} {inb : ∀ a, off a + S32x128.size a ≤ S512x1536.size a}
    (ho : off = ![32 * k, 128 * kt]) (r : Fin 32) (l : Fin 128) :
    arg5.view.readAt (Elt Ideal) (Rect.unit (s := S512x1536) off S32x128.size inb).toLoadRect X5 (ValueIdx.ix2 r l)
      = arg5.view.read (Elt Ideal) X5 (ValueIdx.ix2 (⟨32 * k + r.val, by omega⟩ : Fin 512) (⟨128 * kt + l.val, by omega⟩ : Fin 1536)) := by
  subst ho
  rw [View.readAt_eq_ld]
  show arg5.view.read (Elt Ideal) X5 _ = _
  congr 1
  funext a
  match a with
  | ⟨0, _⟩ => exact Fin.ext (by show 32 * k + 1 * r.val = 32 * k + r.val; omega)
  | ⟨1, _⟩ => exact Fin.ext (by show 128 * kt + 1 * l.val = 128 * kt + l.val; omega)

/-- The scales of the first eight steps: a loaded tile of 128 of them. -/
theorem scale_lo (hkt : kt < 8) {off : Fin S512x192.rank → Nat} {inb : ∀ a, off a + S32x128.size a ≤ S512x192.size a}
    (ho : off = ![32 * k, 0]) (r : Fin 32) (l : Fin 128) :
    arg6.view.readAt (Elt Ideal) (Rect.unit (s := S512x192) off S32x128.size inb).toLoadRect X6
        (ValueIdx.ix2 r (⟨16 * (kt % 8) + l.val / 8, by omega⟩ : Fin 128))
      = arg6.view.read (Elt Ideal) X6 (ValueIdx.ix2 (⟨32 * k + r.val, by omega⟩ : Fin 512) (⟨16 * kt + l.val / 8, by omega⟩ : Fin 192)) := by
  subst ho
  rw [View.readAt_eq_ld]
  show arg6.view.read (Elt Ideal) X6 _ = _
  congr 1
  funext a
  match a with
  | ⟨0, _⟩ => exact Fin.ext (by show 32 * k + 1 * r.val = 32 * k + r.val; omega)
  | ⟨1, _⟩ => exact Fin.ext (by show 0 + 1 * (16 * (kt % 8) + l.val / 8) = 16 * kt + l.val / 8; omega)

/-- The scales of the last four steps: a loaded tile of 64 of them, twice over. -/
theorem scale_hi (hkt : 8 ≤ kt ∧ kt < 12) {off : Fin S512x192.rank → Nat} {inb : ∀ a, off a + S32x64.size a ≤ S512x192.size a}
    (ho : off = ![32 * k, 128]) (r : Fin 32) (l : Fin 128) :
    concatenate S32x128 1
        [⟨S32x64, arg6.view.readAt (Elt Ideal) (Rect.unit (s := S512x192) off S32x64.size inb).toLoadRect X6⟩,
         ⟨S32x64, arg6.view.readAt (Elt Ideal) (Rect.unit (s := S512x192) off S32x64.size inb).toLoadRect X6⟩]
        concatenates_S32x64_S32x64_S32x128_d1 (ValueIdx.ix2 r (⟨16 * (kt % 8) + l.val / 8, by omega⟩ : Fin 128))
      = arg6.view.read (Elt Ideal) X6 (ValueIdx.ix2 (⟨32 * k + r.val, by omega⟩ : Fin 512) (⟨16 * kt + l.val / 8, by omega⟩ : Fin 192)) := by
  subst ho
  rw [concatenate_pair_apply_left (s₁ := S32x64) (s₂ := S32x64) _ _ _ _ _ (by rfl) (ValueIdx.ix2 r (⟨16 * (kt % 8) + l.val / 8, by omega⟩ : Fin 64))]
  · rw [View.readAt_eq_ld]
    show arg6.view.read (Elt Ideal) X6 _ = _
    congr 1
    funext a
    match a with
    | ⟨0, _⟩ => exact Fin.ext (by show 32 * k + 1 * r.val = 32 * k + r.val; omega)
    | ⟨1, _⟩ => exact Fin.ext (by show 128 + 1 * (16 * (kt % 8) + l.val / 8) = 16 * kt + l.val / 8; omega)
  · intro b
    match b with
    | ⟨0, _⟩ => rfl
    | ⟨1, _⟩ => rfl
end

section
variable (𝒱 : Variants) (c : Dev nD) (bd : Option 𝒱.V) (i : grid0.Coords) (arg2 : Memref sig .tc .smem S1x1 .f32) (harg2 : arg2.IsWhole)
  (arg3 : Memref sig .tc .vmem S1024x3072 .bf16) (harg3 : arg3.IsWhole) (arg4 : Memref sig .tc .vmem S1024x32 .bf16) (harg4 : arg4.IsWhole)
  (arg5 : Memref sig .tc .vmem S512x1536 .i8) (harg5 : arg5.IsWhole) (arg6 : Memref sig .tc .vmem S512x192 .fp8e4m3) (harg6 : arg6.IsWhole)
  (arg7 : Memref sig .tc .vmem S32x512 .bf16) (harg7 : arg7.IsWhole) (arg8 : Memref sig .tc .vmem S1x512 .f32) (harg8 : arg8.IsWhole)
  (arg9 : Memref sig .tc .vmem S1024x512 .bf16) (harg9 : arg9.IsWhole) (arg10 : Memref sig .tc .vmem S512x3072 .bf16) (harg10 : arg10.IsWhole)
  (X5 : BufTy.Contents (Elt Ideal) arg5.view.ty) (X6 : BufTy.Contents (Elt Ideal) arg6.view.ty)

set_option maxHeartbeats 4000000 in
/-- Every tile one trip of the loop stores agrees with the decoded weights. -/
theorem trip_agrees (k : Fin k0_t1_loop.trips) :
    ∀ p ∈ tripL_k0_t1 (F := Ideal) 𝒱 c bd i arg2 harg2 arg3 harg3 arg4 harg4 arg5 harg5 arg6 harg6 arg7 harg7 arg8 harg8 arg9 harg9 arg10 harg10 X5 X6 k,
      Agrees (arg5.view.read (Elt Ideal) X5) (arg6.view.read (Elt Ideal) X6) p := by
  have hk : k.val < 16 := Nat.lt_of_lt_of_le k.isLt k0_t1_abs.2.1
  generalize hx3 : arg5.view.read (Elt Ideal) X5 = x3
  generalize hx4 : arg6.view.read (Elt Ideal) X6 = x4
  unfold tripL_k0_t1 trip_k0_t1
  dsimp only
  subst hx3
  subst hx4
  refine List.forall_mem_cons.2 ⟨(agree_hi _ _ k.val hk 11 (by decide) (k0_off38_eq k) (byte_at arg5 X5 k.val hk 11 (by decide) (k0_off36_eq k) (inb := k0_off36_inb k))
    (scale_hi arg6 X6 k.val hk 11 (by decide) (k0_off27_eq k) (inb := k0_off27_inb k)) :), ?_⟩
  refine List.forall_mem_cons.2 ⟨(agree_lo _ _ k.val hk 11 (by decide) (k0_off37_eq k) (byte_at arg5 X5 k.val hk 11 (by decide) (k0_off36_eq k) (inb := k0_off36_inb k))
    (scale_hi arg6 X6 k.val hk 11 (by decide) (k0_off27_eq k) (inb := k0_off27_inb k)) :), ?_⟩
  refine List.forall_mem_cons.2 ⟨(agree_hi _ _ k.val hk 10 (by decide) (k0_off35_eq k) (byte_at arg5 X5 k.val hk 10 (by decide) (k0_off33_eq k) (inb := k0_off33_inb k))
    (scale_hi arg6 X6 k.val hk 10 (by decide) (k0_off27_eq k) (inb := k0_off27_inb k)) :), ?_⟩
  refine List.forall_mem_cons.2 ⟨(agree_lo _ _ k.val hk 10 (by decide) (k0_off34_eq k) (byte_at arg5 X5 k.val hk 10 (by decide) (k0_off33_eq k) (inb := k0_off33_inb k))
    (scale_hi arg6 X6 k.val hk 10 (by decide) (k0_off27_eq k) (inb := k0_off27_inb k)) :), ?_⟩
  refine List.forall_mem_cons.2 ⟨(agree_hi _ _ k.val hk 9 (by decide) (k0_off32_eq k) (byte_at arg5 X5 k.val hk 9 (by decide) (k0_off30_eq k) (inb := k0_off30_inb k))
    (scale_hi arg6 X6 k.val hk 9 (by decide) (k0_off27_eq k) (inb := k0_off27_inb k)) :), ?_⟩
  refine List.forall_mem_cons.2 ⟨(agree_lo _ _ k.val hk 9 (by decide) (k0_off31_eq k) (byte_at arg5 X5 k.val hk 9 (by decide) (k0_off30_eq k) (inb := k0_off30_inb k))
    (scale_hi arg6 X6 k.val hk 9 (by decide) (k0_off27_eq k) (inb := k0_off27_inb k)) :), ?_⟩
  refine List.forall_mem_cons.2 ⟨(agree_hi _ _ k.val hk 8 (by decide) (k0_off29_eq k) (byte_at arg5 X5 k.val hk 8 (by decide) (k0_off26_eq k) (inb := k0_off26_inb k))
    (scale_hi arg6 X6 k.val hk 8 (by decide) (k0_off27_eq k) (inb := k0_off27_inb k)) :), ?_⟩
  refine List.forall_mem_cons.2 ⟨(agree_lo _ _ k.val hk 8 (by decide) (k0_off28_eq k) (byte_at arg5 X5 k.val hk 8 (by decide) (k0_off26_eq k) (inb := k0_off26_inb k))
    (scale_hi arg6 X6 k.val hk 8 (by decide) (k0_off27_eq k) (inb := k0_off27_inb k)) :), ?_⟩
  refine List.forall_mem_cons.2 ⟨(agree_hi _ _ k.val hk 7 (by decide) (k0_off25_eq k) (byte_at arg5 X5 k.val hk 7 (by decide) (k0_off23_eq k) (inb := k0_off23_inb k))
    (scale_lo arg6 X6 k.val hk 7 (by decide) (k0_off2_eq k) (inb := k0_off2_inb k)) :), ?_⟩
  refine List.forall_mem_cons.2 ⟨(agree_lo _ _ k.val hk 7 (by decide) (k0_off24_eq k) (byte_at arg5 X5 k.val hk 7 (by decide) (k0_off23_eq k) (inb := k0_off23_inb k))
    (scale_lo arg6 X6 k.val hk 7 (by decide) (k0_off2_eq k) (inb := k0_off2_inb k)) :), ?_⟩
  refine List.forall_mem_cons.2 ⟨(agree_hi _ _ k.val hk 6 (by decide) (k0_off22_eq k) (byte_at arg5 X5 k.val hk 6 (by decide) (k0_off20_eq k) (inb := k0_off20_inb k))
    (scale_lo arg6 X6 k.val hk 6 (by decide) (k0_off2_eq k) (inb := k0_off2_inb k)) :), ?_⟩
  refine List.forall_mem_cons.2 ⟨(agree_lo _ _ k.val hk 6 (by decide) (k0_off21_eq k) (byte_at arg5 X5 k.val hk 6 (by decide) (k0_off20_eq k) (inb := k0_off20_inb k))
    (scale_lo arg6 X6 k.val hk 6 (by decide) (k0_off2_eq k) (inb := k0_off2_inb k)) :), ?_⟩
  refine List.forall_mem_cons.2 ⟨(agree_hi _ _ k.val hk 5 (by decide) (k0_off19_eq k) (byte_at arg5 X5 k.val hk 5 (by decide) (k0_off17_eq k) (inb := k0_off17_inb k))
    (scale_lo arg6 X6 k.val hk 5 (by decide) (k0_off2_eq k) (inb := k0_off2_inb k)) :), ?_⟩
  refine List.forall_mem_cons.2 ⟨(agree_lo _ _ k.val hk 5 (by decide) (k0_off18_eq k) (byte_at arg5 X5 k.val hk 5 (by decide) (k0_off17_eq k) (inb := k0_off17_inb k))
    (scale_lo arg6 X6 k.val hk 5 (by decide) (k0_off2_eq k) (inb := k0_off2_inb k)) :), ?_⟩
  refine List.forall_mem_cons.2 ⟨(agree_hi _ _ k.val hk 4 (by decide) (k0_off16_eq k) (byte_at arg5 X5 k.val hk 4 (by decide) (k0_off14_eq k) (inb := k0_off14_inb k))
    (scale_lo arg6 X6 k.val hk 4 (by decide) (k0_off2_eq k) (inb := k0_off2_inb k)) :), ?_⟩
  refine List.forall_mem_cons.2 ⟨(agree_lo _ _ k.val hk 4 (by decide) (k0_off15_eq k) (byte_at arg5 X5 k.val hk 4 (by decide) (k0_off14_eq k) (inb := k0_off14_inb k))
    (scale_lo arg6 X6 k.val hk 4 (by decide) (k0_off2_eq k) (inb := k0_off2_inb k)) :), ?_⟩
  refine List.forall_mem_cons.2 ⟨(agree_hi _ _ k.val hk 3 (by decide) (k0_off13_eq k) (byte_at arg5 X5 k.val hk 3 (by decide) (k0_off11_eq k) (inb := k0_off11_inb k))
    (scale_lo arg6 X6 k.val hk 3 (by decide) (k0_off2_eq k) (inb := k0_off2_inb k)) :), ?_⟩
  refine List.forall_mem_cons.2 ⟨(agree_lo _ _ k.val hk 3 (by decide) (k0_off12_eq k) (byte_at arg5 X5 k.val hk 3 (by decide) (k0_off11_eq k) (inb := k0_off11_inb k))
    (scale_lo arg6 X6 k.val hk 3 (by decide) (k0_off2_eq k) (inb := k0_off2_inb k)) :), ?_⟩
  refine List.forall_mem_cons.2 ⟨(agree_hi _ _ k.val hk 2 (by decide) (k0_off10_eq k) (byte_at arg5 X5 k.val hk 2 (by decide) (k0_off8_eq k) (inb := k0_off8_inb k))
    (scale_lo arg6 X6 k.val hk 2 (by decide) (k0_off2_eq k) (inb := k0_off2_inb k)) :), ?_⟩
  refine List.forall_mem_cons.2 ⟨(agree_lo _ _ k.val hk 2 (by decide) (k0_off9_eq k) (byte_at arg5 X5 k.val hk 2 (by decide) (k0_off8_eq k) (inb := k0_off8_inb k))
    (scale_lo arg6 X6 k.val hk 2 (by decide) (k0_off2_eq k) (inb := k0_off2_inb k)) :), ?_⟩
  refine List.forall_mem_cons.2 ⟨(agree_hi _ _ k.val hk 1 (by decide) (k0_off7_eq k) (byte_at arg5 X5 k.val hk 1 (by decide) (k0_off5_eq k) (inb := k0_off5_inb k))
    (scale_lo arg6 X6 k.val hk 1 (by decide) (k0_off2_eq k) (inb := k0_off2_inb k)) :), ?_⟩
  refine List.forall_mem_cons.2 ⟨(agree_lo _ _ k.val hk 1 (by decide) (k0_off6_eq k) (byte_at arg5 X5 k.val hk 1 (by decide) (k0_off5_eq k) (inb := k0_off5_inb k))
    (scale_lo arg6 X6 k.val hk 1 (by decide) (k0_off2_eq k) (inb := k0_off2_inb k)) :), ?_⟩
  refine List.forall_mem_cons.2 ⟨(agree_hi _ _ k.val hk 0 (by decide) (k0_off4_eq k) (byte_at arg5 X5 k.val hk 0 (by decide) (k0_off1_eq k) (inb := k0_off1_inb k))
    (scale_lo arg6 X6 k.val hk 0 (by decide) (k0_off2_eq k) (inb := k0_off2_inb k)) :), ?_⟩
  refine List.forall_mem_cons.2 ⟨(agree_lo _ _ k.val hk 0 (by decide) (k0_off3_eq k) (byte_at arg5 X5 k.val hk 0 (by decide) (k0_off1_eq k) (inb := k0_off1_inb k))
    (scale_lo arg6 X6 k.val hk 0 (by decide) (k0_off2_eq k) (inb := k0_off2_inb k)) :), ?_⟩
  exact fun p hp => absurd hp List.not_mem_nil

/-- So does every tile of the trips before any trip. -/
theorem pb_agrees (n : Nat) (hn : n ≤ k0_t1_loop.trips) :
    ∀ p ∈ (pb_k0_t1 (F := Ideal) 𝒱 c bd i arg2 harg2 arg3 harg3 arg4 harg4 arg5 harg5 arg6 harg6 arg7 harg7 arg8 harg8 arg9 harg9 arg10 harg10 X5 X6 n),
      Agrees (arg5.view.read (Elt Ideal) X5) (arg6.view.read (Elt Ideal) X6) p := by
  induction n with
  | zero => exact fun p hp => absurd hp List.not_mem_nil
  | succ n ih =>
    intro p hp
    rw [pb_k0_t1_succ (F := Ideal) 𝒱 c bd i arg2 harg2 arg3 harg3 arg4 harg4 arg5 harg5 arg6 harg6 arg7 harg7 arg8 harg8 arg9 harg9 arg10 harg10 X5 X6 ⟨n, hn⟩] at hp
    rcases List.mem_append.1 hp with h | h
    · exact trip_agrees 𝒱 c bd i arg2 harg2 arg3 harg3 arg4 harg4 arg5 harg5 arg6 harg6 arg7 harg7 arg8 harg8 arg9 harg9 arg10 harg10 X5 X6 ⟨n, hn⟩ p h
    · exact ih (Nat.le_of_succ_le hn) p h

/-- The scratch array after the loop. -/
theorem scratch_eq {off : Fin S512x3072.rank → Nat} (ho : off = fun _ => 0) (inb : ∀ a, off a + S512x3072.size a ≤ S512x3072.size a) :
    arg10.view.readCov (pb_k0_t1 (F := Ideal) 𝒱 c bd i arg2 harg2 arg3 harg3 arg4 harg4 arg5 harg5 arg6 harg6 arg7 harg7 arg8 harg8 arg9 harg9 arg10 harg10 X5 X6
        (Scf.trips k0_t1_loop.lb k0_t1_loop.ub k0_t1_loop.st)) (Rect.unit (s := S512x3072) off S512x3072.size inb).toLoadRect
      = fun y => wq (R := 512) (arg5.view.read (Elt Ideal) X5) (arg6.view.read (Elt Ideal) X6) (y 0) (y 1) := by
  have cov : ∀ y, ∃ p ∈ (pb_k0_t1 (F := Ideal) 𝒱 c bd i arg2 harg2 arg3 harg3 arg4 harg4 arg5 harg5 arg6 harg6 arg7 harg7 arg8 harg8 arg9 harg9 arg10 harg10 X5 X6 (Scf.trips k0_t1_loop.lb k0_t1_loop.ub k0_t1_loop.st)), y ∈ p.1.set := fun y =>
    View.cover_of_tiledL (pb_k0_t1 (F := Ideal) 𝒱 c bd i arg2 harg2 arg3 harg3 arg4 harg4 arg5 harg5 arg6 harg6 arg7 harg7 arg8 harg8 arg9 harg9 arg10 harg10 X5 X6 (Scf.trips k0_t1_loop.lb k0_t1_loop.ub k0_t1_loop.st)) S32x128.size (by sl_kernel_rfl) y
  rw [View.readCov_eq_canon_ld _ _ _ cov]
  rw [View.ld_unit_zero ho]
  funext y
  exact View.canon_apply_of_pieces (Val := Elt Ideal) (fun y => wq (R := 512) (arg5.view.read (Elt Ideal) X5) (arg6.view.read (Elt Ideal) X6) (y 0) (y 1)) _
    (pb_agrees 𝒱 c bd i arg2 harg2 arg3 harg3 arg4 harg4 arg5 harg5 arg6 harg6 arg7 harg7 arg8 harg8 arg9 harg9 arg10 harg10 X5 X6 _ (Nat.le_refl _)) y (cov y)
end

end Cert.KernelIdeal.Hand

end
-- ==== Proof.Block.lean ====
/- What one grid point writes: the block of the result, read at an index. -/
module

public import proofs.«01_k».proof.Proof.Scratch
public import proofs.«01_k».proof.Proof.Gen.KernelIdeal.Frame
public import Idealize.ShloMosaic.Lib.MatmulPlain
public import Idealize.ShloMosaic.Lib.IdealHost

@[expose] public section

set_option maxRecDepth 16384

noncomputable section

namespace Cert.KernelIdeal.Hand

open Cert.KernelIdeal Cert.KernelIdeal.Gen Idealize.ShloMosaic Idealize.ShloMosaic.TcCoe Idealize.ShloMosaic.Tactic

variable (m : (ℓ : Loc nD τ sig) → Buf (Elt Ideal) ℓ)

/-- The block's value before its index is read: the stored payload over the blocks and the decoded weights. -/
theorem out_eq (c : Dev nD) (i : grid0.Coords) (arg2 : Memref sig .tc .smem S1x1 .f32) (harg2 : arg2.IsWhole) (arg3 : Memref sig .tc .vmem S1024x3072 .bf16) (harg3 : arg3.IsWhole) (arg4 : Memref sig .tc .vmem S1024x32 .bf16) (harg4 : arg4.IsWhole) (arg5 : Memref sig .tc .vmem S512x1536 .i8) (harg5 : arg5.IsWhole) (arg6 : Memref sig .tc .vmem S512x192 .fp8e4m3) (harg6 : arg6.IsWhole) (arg7 : Memref sig .tc .vmem S32x512 .bf16) (harg7 : arg7.IsWhole) (arg8 : Memref sig .tc .vmem S1x512 .f32) (harg8 : arg8.IsWhole) (arg9 : Memref sig .tc .vmem S1024x512 .bf16) (harg9 : arg9.IsWhole) (arg10 : Memref sig .tc .vmem S512x3072 .bf16) (harg10 : arg10.IsWhole)
    (x0 : Vec Ideal S1x1 .f32) (x1 : Vec Ideal S1024x3072 .bf16) (x2 : Vec Ideal S1024x32 .bf16) (x3 : Vec Ideal S512x1536 .i8) (x4 : Vec Ideal S512x192 .fp8e4m3) (x5 : Vec Ideal S32x512 .bf16) (x6 : Vec Ideal S1x512 .f32) :
    out0_A_7 (F := Ideal) c i arg2 harg2 arg3 harg3 arg4 harg4 arg5 harg5 arg6 harg6 arg7 harg7 arg8 harg8 arg9 harg9 arg10 harg10 x0 x1 x2 x3 x4 x5 x6
      = k0_pay2 (F := Ideal) x1 (fun y => wq (R := 512) x3 x4 (y 0) (y 1)) x2 x5 (x0 (ValueIdx.ix2 (0 : Fin 1) (0 : Fin 1))) x6 := by
  unfold out0_A_7
  rw [View.read_writes_eq_canon _ _ _ (cover0_A_7 (F := Ideal) c i arg2 harg2 arg3 harg3 arg4 harg4 arg5 harg5 arg6 harg6 arg7 harg7 arg8 harg8 arg9 harg9 arg10 harg10 x0 x1 x2 x3 x4 x5 x6)]
  unfold kernelRun0_A
  dsimp only
  sl_unfold_words
  have hz2 : (![0, 0] : Fin 2 → Nat) = fun _ => 0 := funext fun a => by fin_cases a <;> rfl
  have e := scratch_eq Variants.none c none i arg2 harg2 arg3 harg3 arg4 harg4 arg5 harg5 arg6 harg6 arg7 harg7 arg8 harg8 arg9 harg9 arg10 harg10 (harg5.unread x3) (harg6.unread x4)
    (off := ![0, 0]) hz2 inb_S512x3072_S512x3072_0_0
  simp only [View.readAt_eq_ld, harg2.read_unread, harg3.read_unread, harg4.read_unread, harg5.read_unread, harg6.read_unread, harg7.read_unread, harg8.read_unread] at e ⊢
  rw [View.canon_unit_zero hz2, View.ld_unit_zero hz2, View.ld_unit_zero hz2, View.ld_unit_zero hz2, View.ld_unit_zero hz2, View.ld_unit_zero hz2]
  refine congrArg₂ (fun w x => k0_pay2 (F := Ideal) x1 w x2 x5 x x6) e ?_
  exact congrArg x0 (funext fun a => by fin_cases a <;> rfl)

/-- The stored payload at row `r`, column `n` of the block. -/
theorem pay_apply (x1 : Vec Ideal S1024x3072 .bf16) (w : Vec Ideal S512x3072 .bf16) (x2 : Vec Ideal S1024x32 .bf16) (x5 : Vec Ideal S32x512 .bf16) (g : EReal) (x6 : Vec Ideal S1x512 .f32)
    (r : Fin 1024) (n : Fin 512) :
    k0_pay2 (F := Ideal) x1 w x2 x5 g x6 (ValueIdx.ix2 r n)
      = ((∑ k : Fin 3072, x1 (ValueIdx.ix2 r k) * w (ValueIdx.ix2 n k)) * g
          + ∑ k : Fin 32, x2 (ValueIdx.ix2 r k) * x5 (ValueIdx.ix2 k n))
        + x6 (ValueIdx.ix2 (0 : Fin 1) n) := by
  have e1 := Ideal.matmul_transposedRhs_apply (M := 1024) (K := 3072) (N := 512) (φ₁ := .bf16) (φ₂ := .bf16) none x1 w (constant S1024x512 .f32 0x00000000#32) r n
  have e2 := Ideal.matmul_plain_apply (M := 1024) (K := 32) (N := 512) (φ₁ := .bf16) (φ₂ := .bf16) none x2 x5 (constant S1024x512 .f32 0x00000000#32) r n
  have z : (constant S1024x512 .f32 0x00000000#32 : FVec Ideal S1024x512 .f32) (ValueIdx.ix2 r n) = 0 := by
    show Ideal.ofBits .f32 0x00000000#32 = 0
    simp [Ideal.ofBits, Ideal.ieee]
  rw [z, zero_add] at e1 e2
  unfold k0_pay2
  rw [shapeCast_self]
  refine congrArg₂ (· + ·) (congrArg₂ (· + ·) (congrArg (· * g) e1) e2) ?_
  exact congrArg x6 (funext fun a => by fin_cases a <;> rfl)

end Cert.KernelIdeal.Hand

end
-- ==== Proof.Array.lean ====
/- The result array after the run, as one function of the arguments: every grid point writes its block of that function,
   and the blocks cover the array. -/
module

public import proofs.«01_k».proof.Proof.Block
public import proofs.«01_k».proof.Proof.Gen.KernelIdeal.Value
public import Idealize.ShloMosaic.Lib.Pipeline.ValueKit.Geometry
public import Idealize.ShloMosaic.Lib.ValueLayout

@[expose] public section

set_option maxRecDepth 16384

noncomputable section

namespace Cert.KernelIdeal.Hand

open Cert.KernelIdeal Cert.KernelIdeal.Gen Idealize.ShloMosaic Idealize.ShloMosaic.TcCoe Idealize.ShloMosaic.Tactic

variable (m : (ℓ : Loc nD τ sig) → Buf (Elt Ideal) ℓ)

/-- What the kernel computes at row `r`, column `n`: the product with the decoded weights, in the columns' packed order,
    times the one factor, plus the low-rank product, plus the bias. -/
def kval (gs : EReal) (xq : S9216x3072.Idx → EReal) (h : S9216x32.Idx → EReal) (wp : S9216x1536.Idx → BitVec 8)
    (ws : S9216x192.Idx → EReal) (lu : S32x9216.Idx → EReal) (b : Fin 9216 → EReal) (r n : Fin 9216) : EReal :=
  ((∑ k : Fin 3072, xq (ValueIdx.ix2 r k) * wq (R := 9216) wp ws n k) * gs
      + ∑ k : Fin 32, h (ValueIdx.ix2 r k) * lu (ValueIdx.ix2 k n))
    + b n

/-! ## The windows' blocks -/

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val / 18 ∧ win0_1.index t 1 = 0 :=
  (by decide +kernel : ∀ t : Fin grid0.N, win0_1.index t 0 = t.val / 18 ∧ win0_1.index t 1 = 0)
theorem idx2 : ∀ t : Fin cfg0.N, win0_2.index t 0 = t.val / 18 ∧ win0_2.index t 1 = 0 :=
  (by decide +kernel : ∀ t : Fin grid0.N, win0_2.index t 0 = t.val / 18 ∧ win0_2.index t 1 = 0)
theorem idx3 : ∀ t : Fin cfg0.N, win0_3.index t 0 = t.val % 18 ∧ win0_3.index t 1 = 0 :=
  (by decide +kernel : ∀ t : Fin grid0.N, win0_3.index t 0 = t.val % 18 ∧ win0_3.index t 1 = 0)
theorem idx4 : ∀ t : Fin cfg0.N, win0_4.index t 0 = t.val % 18 ∧ win0_4.index t 1 = 0 :=
  (by decide +kernel : ∀ t : Fin grid0.N, win0_4.index t 0 = t.val % 18 ∧ win0_4.index t 1 = 0)
theorem idx5 : ∀ t : Fin cfg0.N, win0_5.index t 0 = 0 ∧ win0_5.index t 1 = t.val % 18 :=
  (by decide +kernel : ∀ t : Fin grid0.N, win0_5.index t 0 = 0 ∧ win0_5.index t 1 = t.val % 18)
theorem idx6 : ∀ t : Fin cfg0.N, win0_6.index t 0 = 0 ∧ win0_6.index t 1 = t.val % 18 :=
  (by decide +kernel : ∀ t : Fin grid0.N, win0_6.index t 0 = 0 ∧ win0_6.index t 1 = t.val % 18)
theorem idx7 : ∀ t : Fin cfg0.N, win0_7.index t 0 = t.val / 18 ∧ win0_7.index t 1 = t.val % 18 :=
  (by decide +kernel : ∀ t : Fin grid0.N, win0_7.index t 0 = t.val / 18 ∧ win0_7.index t 1 = t.val % 18)

theorem row_lt (t : Fin cfg0.N) : t.val / 18 < 9 := by
  have h : t.val < 162 := t.isLt
  omega

/-- Row `r` of the point's block of rows. -/
def row (t : Fin cfg0.N) (r : Fin 1024) : Fin 9216 := ⟨t.val / 18 * 1024 + r.val, by have := row_lt t; omega⟩
/-- Column `n` of the point's block of columns. -/
def col (t : Fin cfg0.N) (n : Fin 512) : Fin 9216 := ⟨t.val % 18 * 512 + n.val, by omega⟩

/-- The scalar factor as the grid finds it. -/
def gs (c : Dev nD) : S_.Idx → EReal :=
  mulf (F := Ideal) (mulf (F := Ideal) (m ((c : Thread nD τ).loc main_arg0)) (m ((c : Thread nD τ).loc main_arg1))) (constant (F := Ideal) S_ .f32 0x45800000#32)

theorem V_v2 (c : Dev nD) : V m c main_v2 = shapeCast S1x1 (gs m c) shapeCasts_S_S1x1 := by
  show StableHlo.after hostOps0 _ (Proc.devRef .tc main_v2) = _
  unfold hostOps0 gs
  after_results
  rfl

theorem V_v3 (c : Dev nD) : V m c main_v3 = shapeCast S1x9216 (m ((c : Thread nD τ).loc main_arg7)) shapeCasts_S9216_S1x9216 := by
  show StableHlo.after hostOps0 _ (Proc.devRef .tc main_v3) = _
  unfold hostOps0
  after_results
  rfl

theorem blk0 (c : Dev nD) (t : Fin cfg0.N) (r : Fin 1) (k : Fin 1) :
    iblk m c 0 t (ValueIdx.ix2 r k) = shapeCast S1x1 (gs m c) shapeCasts_S_S1x1 (ValueIdx.ix2 r k) := by
  rw [← V_v2 m c]
  refine congrArg (V m c main_v2) (?_ : ((win0_0.blk t).view.emb (ValueIdx.ix2 r k) : S1x1.Idx) = _)
  funext a; apply Fin.ext
  match a with
  | ⟨0, _⟩ =>
    refine (ValueKit.view_emb_slice_whole_unit_val main_v2 _ _ _ _ _).trans ?_
    show win0_0.index t 0 * 1 + r.val = r.val
    rw [(idx0 t).1]; omega
  | ⟨1, _⟩ =>
    refine (ValueKit.view_emb_slice_whole_unit_val main_v2 _ _ _ _ _).trans ?_
    show win0_0.index t 1 * 1 + k.val = k.val
    rw [(idx0 t).2]; omega

theorem blk1 (c : Dev nD) (t : Fin cfg0.N) (r : Fin 1024) (k : Fin 3072) :
    iblk m c 1 t (ValueIdx.ix2 r k) = m ((c : Thread nD τ).loc main_arg2) (ValueIdx.ix2 (row t r) k) := by
  rw [← V_main_arg2 m c]
  refine congrArg (V m c main_arg2) (?_ : ((win0_1.blk t).view.emb (ValueIdx.ix2 r k) : S9216x3072.Idx) = _)
  funext a; apply Fin.ext
  match a with
  | ⟨0, _⟩ =>
    refine (ValueKit.view_emb_slice_whole_unit_val main_arg2 _ _ _ _ _).trans ?_
    show win0_1.index t 0 * 1024 + r.val = t.val / 18 * 1024 + r.val
    rw [(idx1 t).1]
  | ⟨1, _⟩ =>
    refine (ValueKit.view_emb_slice_whole_unit_val main_arg2 _ _ _ _ _).trans ?_
    show win0_1.index t 1 * 3072 + k.val = k.val
    rw [(idx1 t).2]; omega

theorem blk2 (c : Dev nD) (t : Fin cfg0.N) (r : Fin 1024) (k : Fin 32) :
    iblk m c 2 t (ValueIdx.ix2 r k) = m ((c : Thread nD τ).loc main_arg3) (ValueIdx.ix2 (row t r) k) := by
  rw [← V_main_arg3 m c]
  refine congrArg (V m c main_arg3) (?_ : ((win0_2.blk t).view.emb (ValueIdx.ix2 r k) : S9216x32.Idx) = _)
  funext a; apply Fin.ext
  match a with
  | ⟨0, _⟩ =>
    refine (ValueKit.view_emb_slice_whole_unit_val main_arg3 _ _ _ _ _).trans ?_
    show win0_2.index t 0 * 1024 + r.val = t.val / 18 * 1024 + r.val
    rw [(idx2 t).1]
  | ⟨1, _⟩ =>
    refine (ValueKit.view_emb_slice_whole_unit_val main_arg3 _ _ _ _ _).trans ?_
    show win0_2.index t 1 * 32 + k.val = k.val
    rw [(idx2 t).2]; omega

theorem blk3 (c : Dev nD) (t : Fin cfg0.N) (r : Fin 512) (k : Fin 1536) :
    iblk m c 3 t (ValueIdx.ix2 r k) = m ((c : Thread nD τ).loc main_arg4) (ValueIdx.ix2 (col t r) k) := by
  rw [← V_main_arg4 m c]
  refine congrArg (V m c main_arg4) (?_ : ((win0_3.blk t).view.emb (ValueIdx.ix2 r k) : S9216x1536.Idx) = _)
  funext a; apply Fin.ext
  match a with
  | ⟨0, _⟩ =>
    refine (ValueKit.view_emb_slice_whole_unit_val main_arg4 _ _ _ _ _).trans ?_
    show win0_3.index t 0 * 512 + r.val = t.val % 18 * 512 + r.val
    rw [(idx3 t).1]
  | ⟨1, _⟩ =>
    refine (ValueKit.view_emb_slice_whole_unit_val main_arg4 _ _ _ _ _).trans ?_
    show win0_3.index t 1 * 1536 + k.val = k.val
    rw [(idx3 t).2]; omega

theorem blk4 (c : Dev nD) (t : Fin cfg0.N) (r : Fin 512) (k : Fin 192) :
    iblk m c 4 t (ValueIdx.ix2 r k) = m ((c : Thread nD τ).loc main_arg5) (ValueIdx.ix2 (col t r) k) := by
  rw [← V_main_arg5 m c]
  refine congrArg (V m c main_arg5) (?_ : ((win0_4.blk t).view.emb (ValueIdx.ix2 r k) : S9216x192.Idx) = _)
  funext a; apply Fin.ext
  match a with
  | ⟨0, _⟩ =>
    refine (ValueKit.view_emb_slice_whole_unit_val main_arg5 _ _ _ _ _).trans ?_
    show win0_4.index t 0 * 512 + r.val = t.val % 18 * 512 + r.val
    rw [(idx4 t).1]
  | ⟨1, _⟩ =>
    refine (ValueKit.view_emb_slice_whole_unit_val main_arg5 _ _ _ _ _).trans ?_
    show win0_4.index t 1 * 192 + k.val = k.val
    rw [(idx4 t).2]; omega

theorem blk5 (c : Dev nD) (t : Fin cfg0.N) (r : Fin 32) (k : Fin 512) :
    iblk m c 5 t (ValueIdx.ix2 r k) = m ((c : Thread nD τ).loc main_arg6) (ValueIdx.ix2 r (col t k)) := by
  rw [← V_main_arg6 m c]
  refine congrArg (V m c main_arg6) (?_ : ((win0_5.blk t).view.emb (ValueIdx.ix2 r k) : S32x9216.Idx) = _)
  funext a; apply Fin.ext
  match a with
  | ⟨0, _⟩ =>
    refine (ValueKit.view_emb_slice_whole_unit_val main_arg6 _ _ _ _ _).trans ?_
    show win0_5.index t 0 * 32 + r.val = r.val
    rw [(idx5 t).1]; omega
  | ⟨1, _⟩ =>
    refine (ValueKit.view_emb_slice_whole_unit_val main_arg6 _ _ _ _ _).trans ?_
    show win0_5.index t 1 * 512 + k.val = t.val % 18 * 512 + k.val
    rw [(idx5 t).2]

theorem blk6 (c : Dev nD) (t : Fin cfg0.N) (r : Fin 1) (k : Fin 512) :
    iblk m c 6 t (ValueIdx.ix2 r k) = shapeCast S1x9216 (m ((c : Thread nD τ).loc main_arg7)) shapeCasts_S9216_S1x9216 (ValueIdx.ix2 r (col t k)) := by
  rw [← V_v3 m c]
  refine congrArg (V m c main_v3) (?_ : ((win0_6.blk t).view.emb (ValueIdx.ix2 r k) : S1x9216.Idx) = _)
  funext a; apply Fin.ext
  match a with
  | ⟨0, _⟩ =>
    refine (ValueKit.view_emb_slice_whole_unit_val main_v3 _ _ _ _ _).trans ?_
    show win0_6.index t 0 * 1 + r.val = r.val
    rw [(idx6 t).1]; omega
  | ⟨1, _⟩ =>
    refine (ValueKit.view_emb_slice_whole_unit_val main_v3 _ _ _ _ _).trans ?_
    show win0_6.index t 1 * 512 + k.val = t.val % 18 * 512 + k.val
    rw [(idx6 t).2]

/-- An index of the result's block, placed in the result. -/
theorem emb7 (t : Fin cfg0.N) (r : Fin 1024) (n : Fin 512) :
    ((win0_7.blk t).view.emb (ValueIdx.ix2 r n) : S9216x9216.Idx) = ValueIdx.ix2 (row t r) (col t n) := by
  funext a; apply Fin.ext
  match a with
  | ⟨0, _⟩ =>
    refine (ValueKit.view_emb_slice_whole_unit_val main_v4 _ _ _ _ _).trans ?_
    show win0_7.index t 0 * 1024 + r.val = t.val / 18 * 1024 + r.val
    rw [(idx7 t).1]
  | ⟨1, _⟩ =>
    refine (ValueKit.view_emb_slice_whole_unit_val main_v4 _ _ _ _ _).trans ?_
    show win0_7.index t 1 * 512 + n.val = t.val % 18 * 512 + n.val
    rw [(idx7 t).2]

/-! ## The result array -/

/-- The whole result, index by index. -/
def result (c : Dev nD) : S9216x9216.Idx → EReal := fun y =>
  kval (gs m c ValueIdx.ix0) (m ((c : Thread nD τ).loc main_arg2)) (m ((c : Thread nD τ).loc main_arg3)) (m ((c : Thread nD τ).loc main_arg4))
    (m ((c : Thread nD τ).loc main_arg5)) (m ((c : Thread nD τ).loc main_arg6)) (fun n => m ((c : Thread nD τ).loc main_arg7) (ValueIdx.ix1 n)) (y 0) (y 1)

/-- One decoded weight of the point's block is the whole array's. -/
theorem wq_blk (c : Dev nD) (t : Fin cfg0.N) (n : Fin 512) (k : Fin 3072) :
    wq (R := 512) (iblk m c 3 t) (iblk m c 4 t) n k
      = wq (R := 9216) (m ((c : Thread nD τ).loc main_arg4)) (m ((c : Thread nD τ).loc main_arg5)) (col t n) k := by
  unfold wq
  exact congrArg₂ (fun (b : BitVec 8) (s : EReal) => ((nib (codeOf b (k.val / 128 % 2)) / 64 : ℝ) : EReal) * s) (blk3 m c t n _) (blk4 m c t n _)

theorem out_apply (c : Dev nD) (t : Fin cfg0.N) (r : Fin 1024) (n : Fin 512) :
    outsAt0 m c t (ValueIdx.ix2 r n) = result m c (ValueIdx.ix2 (row t r) (col t n)) := by
  unfold outsAt0
  rw [out_eq, pay_apply]
  unfold result kval
  refine congrArg₂ (· + ·) (congrArg₂ (· + ·) (congrArg₂ (· * ·) ?_ ?_) ?_) ?_
  · exact Finset.sum_congr rfl fun k _ => congrArg₂ (· * ·) (blk1 m c t r k) (wq_blk m c t n k)
  · refine (blk0 m c t 0 0).trans ?_
    exact congrArg (gs m c) (ValueIdx.eq_ix0 _)
  · exact Finset.sum_congr rfl fun k _ => congrArg₂ (· * ·) (blk2 m c t r k) (blk5 m c t k n)
  · refine (blk6 m c t 0 n).trans ?_
    exact ValueIdx.shapeCast_a_1a_apply _ _ _ _

theorem covers7 : (cfg0.win 7).Covers := (by decide +kernel : win0_7.Covers)

/-- What a point writes back is its block of the result. -/
theorem flushed_eq (c : Dev nD) (t : Fin cfg0.N) :
    (dats m 0 c).flushed 7 t = ((cfg0.win 7).blk t).view.read (Elt Ideal) (result m c) := by
  rw [Cert.KernelIdeal.Value.flushed7]
  funext y
  have hy := ValueIdx.eq_ix2 (n0 := 1024) (n1 := 512) y
  refine Eq.trans (b := outsAt0 m c t (ValueIdx.ix2 (n0 := 1024) (n1 := 512) (y 0) (y 1))) (congrArg (outsAt0 m c t) hy) ?_
  refine (out_apply m c t (y 0) (y 1)).trans ?_
  refine Eq.trans (b := result m c ((win0_7.blk t).view.emb (ValueIdx.ix2 (n0 := 1024) (n1 := 512) (y 0) (y 1)))) (congrArg (result m c) (emb7 t (y 0) (y 1)).symm) ?_
  exact congrArg (fun z => result m c ((win0_7.blk t).view.emb z)) hy.symm

/-- The result array after the run. -/
theorem final (c : Dev nD) : (dats m 0 c).arrAt 7 cfg0.N = result m c :=
  (dats m 0 c).arrAt_eq_of_cover 7 (result m c) (fun t _ => flushed_eq m c t) (Pipeline.Window.Covers.cover _ covers7 (Memref.isWhole_whole _))

end Cert.KernelIdeal.Hand

end
-- ==== Proof.RefHost.lean ====
/- What the reference's host operations hand its one kernel call: the activations with their columns put back in order and
   multiplied by 64, the unpacked 4-bit codes decoded, the group scales spread over their columns. -/
module

public import proofs.«01_k».proof.Proof.Gen.ReferenceIdeal.Value
public import proofs.«01_k».proof.Proof.Nibble
public import Idealize.ShloMosaic.Lib.StableHlo.Run

@[expose] public section

set_option maxRecDepth 16384

noncomputable section

namespace Cert.ReferenceIdeal.Hand

open Cert.ReferenceIdeal Cert.ReferenceIdeal.Gen Idealize.ShloMosaic Idealize.ShloMosaic.TcCoe Idealize.ShloMosaic.Tactic

variable (m : (ℓ : Loc nD τ sig) → Buf (Elt Ideal) ℓ)

/-- The activations: columns put back in order, times 64. -/
def acts (x : S9216x3072.Idx → EReal) : S9216x3072.Idx → EReal :=
  mulf (F := Ideal) (φ := .f32)
    (shapeCast S9216x3072 (transpose S9216x12x128x2 [0, 1, 3, 2] (shapeCast S9216x12x2x128 x shapeCasts_S9216x3072_S9216x12x2x128)
      transposes_S9216x12x2x128_S9216x12x128x2_0_1_3_2) shapeCasts_S9216x12x128x2_S9216x3072)
    (broadcastInDim S9216x3072 ![] bcast_S_S9216x3072 (constant (F := Ideal) S_ .f32 0x42800000#32))

/-- The packed bytes as 32-bit integers. -/
def wide (p : S9216x1536.Idx → BitVec 8) : S9216x1536.Idx → BitVec 32 := extui 32 p natLt_8_32

/-- The 4-bit codes, unpacked. -/
def codes (p : S9216x1536.Idx → BitVec 8) : S9216x3072.Idx → BitVec 32 :=
  shapeCast S9216x3072 (concatenate S9216x1536x2 2
    [⟨S9216x1536x1, broadcastInDim S9216x1536x1 ![0, 1] bcast_S9216x1536_S9216x1536x1_0_1 (andi (wide p) (broadcastInDim S9216x1536 ![] bcast_S_S9216x1536 (constantI S_ 32 15#32)))⟩,
     ⟨S9216x1536x1, broadcastInDim S9216x1536x1 ![0, 1] bcast_S9216x1536_S9216x1536x1_0_1 (Host.shrsi (wide p) (broadcastInDim S9216x1536 ![] bcast_S_S9216x1536 (constantI S_ 32 4#32)))⟩]
    concatenates_S9216x1536x1_S9216x1536x1_S9216x1536x2_d2) shapeCasts_S9216x1536x2_S9216x3072

/-- Whether a bit of each code is set. -/
def bit (q : S9216x3072.Idx → BitVec 32) (b : BitVec 32) : S9216x3072.Idx → BitVec 1 :=
  cmpi .ne (andi q (broadcastInDim S9216x3072 ![] bcast_S_S9216x3072 (constantI S_ 32 b))) (broadcastInDim S9216x3072 ![] bcast_S_S9216x3072 (constantI S_ 32 0#32))

/-- A constant over the array. -/
def const (b : BitVec 32) : S9216x3072.Idx → EReal := broadcastInDim S9216x3072 ![] bcast_S_S9216x3072 (constant (F := Ideal) S_ .f32 b)

/-- The magnitudes the codes stand for. -/
def mags (q : S9216x3072.Idx → BitVec 32) : S9216x3072.Idx → EReal :=
  select (bit q 4#32)
    (select (bit q 2#32) (select (bit q 1#32) (const 0x40C00000#32) (const 0x40800000#32)) (select (bit q 1#32) (const 0x40400000#32) (const 0x40000000#32)))
    (select (bit q 2#32) (select (bit q 1#32) (const 0x3FC00000#32) (const 0x3F800000#32)) (select (bit q 1#32) (const 0x3F000000#32) (const 0x00000000#32)))

/-- The decoded codes. -/
def decs (q : S9216x3072.Idx → BitVec 32) : S9216x3072.Idx → EReal :=
  select (bit q 8#32) (Host.negf (F := Ideal) (φ := .f32) (mags q)) (mags q)

/-- The group scales, one per column. -/
def scales (s : S9216x192.Idx → EReal) : S9216x3072.Idx → EReal :=
  shapeCast S9216x3072 (broadcastInDim S9216x192x16 ![0, 1, 2] bcast_S9216x192x1_S9216x192x16_0_1_2
    (broadcastInDim S9216x192x1 ![0, 1] bcast_S9216x192_S9216x192x1_0_1 s)) shapeCasts_S9216x192x16_S9216x3072

theorem V_v6 (c : Dev nD) : V m c main_v6 = acts (m ((c : Thread nD τ).loc main_arg2)) := by
  show StableHlo.after _ _ (Proc.devRef .tc main_v6) = _
  simp only [List.flatten_cons, List.flatten_nil, List.append_nil, List.cons_append, List.nil_append]
  after_results_simp
  rfl

theorem V_v18 (c : Dev nD) : V m c main_v18 = scales (m ((c : Thread nD τ).loc main_arg5)) := by
  show StableHlo.after _ _ (Proc.devRef .tc main_v18) = _
  simp only [List.flatten_cons, List.flatten_nil, List.append_nil, List.cons_append, List.nil_append]
  after_results_simp
  rfl

theorem V_v20 (c : Dev nD) : V m c main_v20 = shapeCast S1x1 (mulf (F := Ideal) (φ := .f32) (s := S_) (m ((c : Thread nD τ).loc main_arg0)) (m ((c : Thread nD τ).loc main_arg1))) shapeCasts_S_S1x1 := by
  show StableHlo.after _ _ (Proc.devRef .tc main_v20) = _
  simp only [List.flatten_cons, List.flatten_nil, List.append_nil, List.cons_append, List.nil_append]
  after_results_simp
  rfl

theorem V_v47 (c : Dev nD) : V m c main_v47 = shapeCast S1x9216 (m ((c : Thread nD τ).loc main_arg7)) shapeCasts_S9216_S1x9216 := by
  show StableHlo.after _ _ (Proc.devRef .tc main_v47) = _
  simp only [List.flatten_cons, List.flatten_nil, List.append_nil, List.cons_append, List.nil_append]
  after_results_simp
  rfl

theorem V_v46 (c : Dev nD) : V m c main_v46 = decs (codes (m ((c : Thread nD τ).loc main_arg4))) := by
  show StableHlo.after _ _ (Proc.devRef .tc main_v46) = _
  simp only [List.flatten_cons, List.flatten_nil, List.append_nil, List.cons_append, List.nil_append]
  after_results_simp
  rfl

end Cert.ReferenceIdeal.Hand

end
-- ==== Proof.RefRead.lean ====
/- The reference's prepared operands, read at an index. -/
module

public import proofs.«01_k».proof.Proof.RefHost
public import Idealize.ShloMosaic.Lib.Pipeline.Value
public import Idealize.ShloMosaic.Lib.IdealHost
public import Idealize.ShloMosaic.Lib.ValueIdxCore

@[expose] public section

set_option maxRecDepth 16384

noncomputable section

namespace Cert.ReferenceIdeal.Hand

open Cert.ReferenceIdeal Cert.ReferenceIdeal.Gen Cert.KernelIdeal.Hand Idealize.ShloMosaic Idealize.ShloMosaic.TcCoe Idealize.ShloMosaic.Tactic

/-- Where column `d`, in order, lies in the packed order: column `256 t + 2 l + p` at `256 t + 128 p + l`. -/
def packedCol (d : Fin 3072) : Fin 3072 := ⟨d.val / 256 * 256 + d.val % 2 * 128 + d.val % 256 / 2, by omega⟩

theorem acts_apply (x : S9216x3072.Idx → EReal) (r : Fin 9216) (d : Fin 3072) :
    acts x (ValueIdx.ix2 r d) = x (ValueIdx.ix2 r (packedCol d)) * ((64 : ℝ) : EReal) := by
  unfold acts
  refine congrArg₂ (· * ·) ?_ ?_
  · rw [shapeCast_apply _ _ _ (ValueIdx.ix4 (n0 := 9216) (n1 := 12) (n2 := 128) (n3 := 2) r ⟨d.val / 256, by omega⟩ ⟨d.val % 256 / 2, by omega⟩ ⟨d.val % 2, by omega⟩) ?_]
    · rw [transpose_apply _ _ _ _ (ValueIdx.ix4 (n0 := 9216) (n1 := 12) (n2 := 2) (n3 := 128) r ⟨d.val / 256, by omega⟩ ⟨d.val % 2, by omega⟩ ⟨d.val % 256 / 2, by omega⟩) ?_]
      · refine shapeCast_apply _ _ _ _ ?_
        rw [Shape.rowMajor_val_two, Shape.rowMajor_val_four]
        show r.val * 3072 + (d.val / 256 * 256 + d.val % 2 * 128 + d.val % 256 / 2) = ((r.val * 12 + d.val / 256) * 2 + d.val % 2) * 128 + d.val % 256 / 2
        omega
      · intro b
        match b with
        | ⟨0, _⟩ => rfl
        | ⟨1, _⟩ => rfl
        | ⟨2, _⟩ => rfl
        | ⟨3, _⟩ => rfl
    · rw [Shape.rowMajor_val_two, Shape.rowMajor_val_four]
      show ((r.val * 12 + d.val / 256) * 128 + d.val % 256 / 2) * 2 + d.val % 2 = r.val * 3072 + d.val
      omega
  · refine (broadcastInDim_apply _ _ _ _ ValueIdx.ix0 (fun a => a.elim0)).trans ?_
    show Ideal.ofBits .f32 0x42800000#32 = _
    simp [Ideal.ofBits, Ideal.ieee, -EReal.coe_mul]; norm_num

theorem scales_apply (s : S9216x192.Idx → EReal) (r : Fin 9216) (d : Fin 3072) :
    scales s (ValueIdx.ix2 r d) = s (ValueIdx.ix2 r (⟨d.val / 16, by omega⟩ : Fin 192)) := by
  unfold scales
  rw [shapeCast_apply _ _ _ (ValueIdx.ix3 (n0 := 9216) (n1 := 192) (n2 := 16) r ⟨d.val / 16, by omega⟩ ⟨d.val % 16, by omega⟩) ?_]
  · rw [broadcastInDim_apply _ _ _ _ (ValueIdx.ix3 (n0 := 9216) (n1 := 192) (n2 := 1) r ⟨d.val / 16, by omega⟩ 0) ?_]
    · refine broadcastInDim_apply _ _ _ _ _ ?_
      intro a
      match a with
      | ⟨0, _⟩ => rfl
      | ⟨1, _⟩ => rfl
    · intro a
      match a with
      | ⟨0, _⟩ => rfl
      | ⟨1, _⟩ => rfl
      | ⟨2, _⟩ => rfl
  · rw [Shape.rowMajor_val_two, Shape.rowMajor_val_three]
    show (r.val * 192 + d.val / 16) * 16 + d.val % 16 = r.val * 3072 + d.val
    omega

/-- The two codes of a byte, as the host takes them out of the widened byte. -/
theorem lo_word : ∀ b : BitVec 8, (IntOp.andi (b.setWidth 32) 15#32).toNat = codeOf b 0 := by
  have h : ∀ n : Fin 256, (IntOp.andi ((BitVec.ofFin n : BitVec 8).setWidth 32) 15#32).toNat = codeOf (BitVec.ofFin n : BitVec 8) 0 := by decide +kernel
  exact fun b => h b.toFin
theorem hi_word : ∀ b : BitVec 8, (IntOp.shrsi .host (b.setWidth 32) 4#32).toNat = codeOf b 1 := by
  have h : ∀ n : Fin 256, (IntOp.shrsi .host ((BitVec.ofFin n : BitVec 8).setWidth 32) 4#32).toNat = codeOf (BitVec.ofFin n : BitVec 8) 1 := by decide +kernel
  exact fun b => h b.toFin

theorem pair_lo (a b : S9216x1536x1.Idx → BitVec 32) (r : Fin 9216) (k : Fin 1536) (p : Fin 2) (hp : p.val = 0) :
    concatenate S9216x1536x2 2 [⟨S9216x1536x1, a⟩, ⟨S9216x1536x1, b⟩] concatenates_S9216x1536x1_S9216x1536x1_S9216x1536x2_d2 (ValueIdx.ix3 r k p)
      = a (ValueIdx.ix3 r k (0 : Fin 1)) := by
  refine concatenate_pair_apply_left (t := S9216x1536x2) (s₁ := S9216x1536x1) (s₂ := S9216x1536x1) 2 a b _ _ rfl (ValueIdx.ix3 r k (0 : Fin 1)) ?_
  intro a
  match a with
  | ⟨0, _⟩ => rfl
  | ⟨1, _⟩ => rfl
  | ⟨2, _⟩ => exact hp.symm

theorem pair_hi (a b : S9216x1536x1.Idx → BitVec 32) (r : Fin 9216) (k : Fin 1536) (p : Fin 2) (hp : p.val = 1) :
    concatenate S9216x1536x2 2 [⟨S9216x1536x1, a⟩, ⟨S9216x1536x1, b⟩] concatenates_S9216x1536x1_S9216x1536x1_S9216x1536x2_d2 (ValueIdx.ix3 r k p)
      = b (ValueIdx.ix3 r k (0 : Fin 1)) := by
  refine concatenate_pair_apply_right (t := S9216x1536x2) (s₁ := S9216x1536x1) (s₂ := S9216x1536x1) 2 a b _ _ rfl rfl (ValueIdx.ix3 r k (0 : Fin 1)) ?_ ?_
  · intro a ha
    match a with
    | ⟨0, _⟩ => rfl
    | ⟨1, _⟩ => rfl
    | ⟨2, _⟩ => exact absurd rfl ha
  · exact hp.symm

theorem lift_apply (a : S9216x1536.Idx → BitVec 32) (r : Fin 9216) (k : Fin 1536) :
    broadcastInDim S9216x1536x1 ![0, 1] bcast_S9216x1536_S9216x1536x1_0_1 a (ValueIdx.ix3 r k (0 : Fin 1)) = a (ValueIdx.ix2 r k) := by
  refine broadcastInDim_apply _ _ _ _ _ ?_
  intro a
  match a with
  | ⟨0, _⟩ => rfl
  | ⟨1, _⟩ => rfl

theorem codes_apply (p : S9216x1536.Idx → BitVec 8) (r : Fin 9216) (d : Fin 3072) :
    (codes p (ValueIdx.ix2 r d)).toNat = codeOf (p (ValueIdx.ix2 r (⟨d.val / 2, by omega⟩ : Fin 1536))) (d.val % 2) := by
  unfold codes
  rw [shapeCast_apply _ _ _ (ValueIdx.ix3 (n0 := 9216) (n1 := 1536) (n2 := 2) r ⟨d.val / 2, by omega⟩ ⟨d.val % 2, by omega⟩) ?_]
  · rcases Nat.mod_two_eq_zero_or_one d.val with h | h
    · refine Eq.trans ?_ (congrArg (codeOf _) h.symm)
      rw [pair_lo _ _ _ _ _ h, lift_apply]
      exact lo_word _
    · refine Eq.trans ?_ (congrArg (codeOf _) h.symm)
      rw [pair_hi _ _ _ _ _ h, lift_apply]
      exact hi_word _
  · rw [Shape.rowMajor_val_two, Shape.rowMajor_val_three]
    show (r.val * 1536 + d.val / 2) * 2 + d.val % 2 = r.val * 3072 + d.val
    omega

theorem codeOf_lt (b : BitVec 8) (p : Nat) : codeOf b p < 16 := by
  have := b.isLt
  unfold codeOf
  split <;> omega

/-! ## The decode -/

theorem const_apply (b : BitVec 32) (y : S9216x3072.Idx) : const b y = Ideal.ofBits .f32 b :=
  broadcastInDim_apply _ _ _ _ ValueIdx.ix0 (fun a => a.elim0)

theorem bit_apply (q : S9216x3072.Idx → BitVec 32) (b : BitVec 32) (y : S9216x3072.Idx) :
    bit q b y = IntOp.cmpi .ne (IntOp.andi (q y) b) 0#32 := rfl

theorem negf_apply (x : S9216x3072.Idx → EReal) (y : S9216x3072.Idx) : Host.negf (F := Ideal) (φ := .f32) x y = - x y := rfl

theorem bits_six : Ideal.ofBits .f32 0x40C00000#32 = ((6 : ℝ) : EReal) := by
  simp [Ideal.ofBits, Ideal.ieee, -EReal.coe_mul] <;> norm_num
theorem bits_four : Ideal.ofBits .f32 0x40800000#32 = ((4 : ℝ) : EReal) := by
  simp [Ideal.ofBits, Ideal.ieee, -EReal.coe_mul] <;> norm_num
theorem bits_three : Ideal.ofBits .f32 0x40400000#32 = ((3 : ℝ) : EReal) := by
  simp [Ideal.ofBits, Ideal.ieee, -EReal.coe_mul] <;> norm_num
theorem bits_two : Ideal.ofBits .f32 0x40000000#32 = ((2 : ℝ) : EReal) := by
  simp [Ideal.ofBits, Ideal.ieee, -EReal.coe_mul] <;> norm_num
theorem bits_threeHalves : Ideal.ofBits .f32 0x3FC00000#32 = ((3 / 2 : ℝ) : EReal) := by
  simp [Ideal.ofBits, Ideal.ieee, -EReal.coe_mul] <;> norm_num
theorem bits_one : Ideal.ofBits .f32 0x3F800000#32 = ((1 : ℝ) : EReal) := by
  simp [Ideal.ofBits, Ideal.ieee, -EReal.coe_mul] <;> norm_num
theorem bits_half : Ideal.ofBits .f32 0x3F000000#32 = ((1 / 2 : ℝ) : EReal) := by
  simp [Ideal.ofBits, Ideal.ieee, -EReal.coe_mul] <;> norm_num
theorem bits_zero : Ideal.ofBits .f32 0x00000000#32 = ((0 : ℝ) : EReal) := by
  simp [Ideal.ofBits, Ideal.ieee, -EReal.coe_mul] <;> norm_num

/-- The decode of one word: bit 3 the sign, bits 2..0 choosing among the eight magnitudes. -/
def ladder (w : BitVec 32) : ℝ :=
  (if w &&& 8#32 = 0#32 then 1 else -1) *
    (if w &&& 4#32 = 0#32 then
      if w &&& 2#32 = 0#32 then if w &&& 1#32 = 0#32 then 0 else 1 / 2 else if w &&& 1#32 = 0#32 then 1 else 3 / 2
    else
      if w &&& 2#32 = 0#32 then if w &&& 1#32 = 0#32 then 2 else 3 else if w &&& 1#32 = 0#32 then 4 else 6)

theorem ladder_eq (n : Nat) (h : n < 16) : ladder (BitVec.ofNat 32 n) = nib n := by
  interval_cases n <;> simp [ladder, nib, mag2] <;> norm_num

theorem select_ne {α : Type} (u v : BitVec 32) (a b : α) : Scalar.select (IntOp.cmpi .ne u v) a b = if u = v then b else a := by
  unfold Scalar.select IntOp.cmpi
  by_cases h : u = v
  · simp [h]
  · have e : (u != v) = true := bne_iff_ne.2 h
    simp [h, e]

/-- The decode ladder at a code below 16 is the code's value. -/
theorem decs_apply (q : S9216x3072.Idx → BitVec 32) (y : S9216x3072.Idx) (h : (q y).toNat < 16) :
    decs q y = ((nib (q y).toNat : ℝ) : EReal) := by
  have e : ladder (q y) = nib (q y).toNat := by
    have := ladder_eq (q y).toNat h
    rwa [BitVec.ofNat_toNat, BitVec.setWidth_eq] at this
  rw [← e]
  unfold decs mags
  simp only [select, bit_apply, negf_apply, const_apply, select_ne, bits_six, bits_four, bits_three, bits_two, bits_threeHalves, bits_one, bits_half, bits_zero, IntOp.andi]
  unfold ladder
  by_cases h8 : q y &&& 8#32 = 0#32 <;> by_cases h4 : q y &&& 4#32 = 0#32 <;> by_cases h2 : q y &&& 2#32 = 0#32 <;> by_cases h1 : q y &&& 1#32 = 0#32 <;>
    simp only [h8, h4, h2, h1, if_true, if_false, one_mul, neg_mul, EReal.coe_neg]

end Cert.ReferenceIdeal.Hand

end
-- ==== Proof.RefArray.lean ====
/- The reference's result, read at an index. -/
module

public import proofs.«01_k».proof.Proof.RefRead
public import Idealize.ShloMosaic.Lib.Pipeline.Value
public import Idealize.ShloMosaic.Lib.Affine
public import Idealize.ShloMosaic.Lib.MatmulPlain
public import Idealize.ShloMosaic.Lib.ValueLayout

@[expose] public section

set_option maxRecDepth 16384

noncomputable section

namespace Cert.ReferenceIdeal.Hand

open Cert.ReferenceIdeal Cert.ReferenceIdeal.Gen Cert.KernelIdeal.Hand Idealize.ShloMosaic Idealize.ShloMosaic.TcCoe Idealize.ShloMosaic.Tactic

variable (m : (ℓ : Loc nD τ sig) → Buf (Elt Ideal) ℓ)

/-- The stored payload at row `r`, column `n`. -/
theorem pay_apply (w : Vec Ideal S9216x3072 .bf16) (s : Vec Ideal S9216x3072 .fp8e4m3) (x : Vec Ideal S9216x3072 .bf16) (h : Vec Ideal S9216x32 .bf16)
    (lu : Vec Ideal S32x9216 .bf16) (g : Vec Ideal S1x1 .f32) (b : Vec Ideal S1x9216 .f32) (r n : Fin 9216) :
    k0_pay1 (F := Ideal) w s x h lu g b (ValueIdx.ix2 r n)
      = ((∑ k : Fin 3072, x (ValueIdx.ix2 r k) * (w (ValueIdx.ix2 n k) * s (ValueIdx.ix2 n k))) * g (ValueIdx.ix2 (0 : Fin 1) (0 : Fin 1))
          + ∑ k : Fin 32, h (ValueIdx.ix2 r k) * lu (ValueIdx.ix2 k n))
        + b (ValueIdx.ix2 (0 : Fin 1) n) := by
  have e1 := Ideal.matmul_transposedRhs_apply (M := 9216) (K := 3072) (N := 9216) (φ₁ := .bf16) (φ₂ := .bf16) none x (mulf (F := Ideal) (φ := .bf16) w (extf .bf16 (φ := .fp8e4m3) s bitsLt_fp8e4m3_bf16)) (constant S9216x9216 .f32 0x00000000#32) r n
  have e2 := Ideal.matmul_plain_apply (M := 9216) (K := 32) (N := 9216) (φ₁ := .bf16) (φ₂ := .bf16) none h lu (constant S9216x9216 .f32 0x00000000#32) r n
  have z : (constant S9216x9216 .f32 0x00000000#32 : FVec Ideal S9216x9216 .f32) (ValueIdx.ix2 r n) = 0 := by
    show Ideal.ofBits .f32 0x00000000#32 = 0
    simp [Ideal.ofBits, Ideal.ieee]
  rw [z, zero_add] at e1 e2
  unfold k0_pay1
  simp only [shapeCast_self]
  refine congrArg₂ (· + ·) (congrArg₂ (· + ·) (congrArg₂ (· * ·) e1 ?_) e2) ?_
  · exact congrArg g (funext fun a => by fin_cases a <;> rfl)
  · exact congrArg b (funext fun a => by fin_cases a <;> rfl)

/-- The one grid point. -/
def t₀ : Fin cfg0.N := ⟨0, by decide⟩

/-- The result array after the run is what the one point's write-back wrote. -/
theorem final_out (c : Dev nD) :
    ((cfg0.win 7).blk t₀).view.read (Elt Ideal) ((dats (F := Ideal) m 0 c).arrAt 7 cfg0.N) = (dats (F := Ideal) m 0 c).flushed 7 t₀ :=
  Cert.ReferenceIdeal.Value.blocks7 m c t₀ (by decide)

/-- The whole-buffer loads read the buffers and the one covering store leaves its payload. -/
theorem out_eq (x0 : Vec Ideal S1x1 .f32) (x1 : Vec Ideal S9216x3072 .bf16) (x2 : Vec Ideal S9216x3072 .bf16) (x3 : Vec Ideal S9216x3072 .fp8e4m3) (x4 : Vec Ideal S9216x32 .bf16)
    (x5 : Vec Ideal S32x9216 .bf16) (x6 : Vec Ideal S1x9216 .f32) : out0_7 (F := Ideal) x0 x1 x2 x3 x4 x5 x6 = k0_pay1 (F := Ideal) x2 x3 x1 x4 x5 x0 x6 := by
  have hz : (![0, 0] : Fin 2 → Nat) = fun _ => 0 := funext fun a => by fin_cases a <;> rfl
  unfold out0_7
  rw [View.canon_unit_zero hz, View.ld_unit_zero hz, View.ld_unit_zero hz, View.ld_unit_zero hz, View.ld_unit_zero hz, View.ld_unit_zero hz, View.ld_unit_zero hz, View.ld_unit_zero hz]

theorem final (c : Dev nD) :
    (dats (F := Ideal) m 0 c).arrAt 7 cfg0.N
      = k0_pay1 (F := Ideal) (V m c main_v46) (V m c main_v18) (V m c main_v6) (V m c main_arg3) (V m c main_arg6) (V m c main_v20) (V m c main_v47) := by
  have ho := final_out m c
  have hz7 : (fun a => (win0_7.index t₀) a * main_v48.ty.shape.size a) = fun _ => 0 := funext fun a => by fin_cases a <;> decide
  have hr7 := fun f => Memref.read_access_unit_zero (Elt Ideal) main_v48 hz7 (fun a => by fin_cases a <;> decide) f
  rw [hr7] at ho
  rw [ho, Cert.ReferenceIdeal.Value.flushed7, out_eq]
  have hz0 : (fun a => (win0_0.index t₀) a * main_v20.ty.shape.size a) = fun _ => 0 := funext fun a => by fin_cases a <;> decide
  have hr0 := fun f => Memref.read_access_unit_zero (Elt Ideal) main_v20 hz0 (fun a => by fin_cases a <;> decide) f
  have hz1 : (fun a => (win0_1.index t₀) a * main_v6.ty.shape.size a) = fun _ => 0 := funext fun a => by fin_cases a <;> decide
  have hr1 := fun f => Memref.read_access_unit_zero (Elt Ideal) main_v6 hz1 (fun a => by fin_cases a <;> decide) f
  have hz2 : (fun a => (win0_2.index t₀) a * main_v46.ty.shape.size a) = fun _ => 0 := funext fun a => by fin_cases a <;> decide
  have hr2 := fun f => Memref.read_access_unit_zero (Elt Ideal) main_v46 hz2 (fun a => by fin_cases a <;> decide) f
  have hz3 : (fun a => (win0_3.index t₀) a * main_v18.ty.shape.size a) = fun _ => 0 := funext fun a => by fin_cases a <;> decide
  have hr3 := fun f => Memref.read_access_unit_zero (Elt Ideal) main_v18 hz3 (fun a => by fin_cases a <;> decide) f
  have hz4 : (fun a => (win0_4.index t₀) a * main_arg3.ty.shape.size a) = fun _ => 0 := funext fun a => by fin_cases a <;> decide
  have hr4 := fun f => Memref.read_access_unit_zero (Elt Ideal) main_arg3 hz4 (fun a => by fin_cases a <;> decide) f
  have hz5 : (fun a => (win0_5.index t₀) a * main_arg6.ty.shape.size a) = fun _ => 0 := funext fun a => by fin_cases a <;> decide
  have hr5 := fun f => Memref.read_access_unit_zero (Elt Ideal) main_arg6 hz5 (fun a => by fin_cases a <;> decide) f
  have hz6 : (fun a => (win0_6.index t₀) a * main_v47.ty.shape.size a) = fun _ => 0 := funext fun a => by fin_cases a <;> decide
  have hr6 := fun f => Memref.read_access_unit_zero (Elt Ideal) main_v47 hz6 (fun a => by fin_cases a <;> decide) f
  unfold iblk
  rw [hr0, hr1, hr2, hr3, hr4, hr5, hr6]
  rfl

/-- What the reference computes at row `r`, column `n`: the activations times 64, in order, against the decoded weights
    times their group's scale; that times the two scalars' product; plus the low-rank product; plus the bias. -/
def rval (g : EReal) (xq : S9216x3072.Idx → EReal) (h : S9216x32.Idx → EReal) (wp : S9216x1536.Idx → BitVec 8)
    (ws : S9216x192.Idx → EReal) (lu : S32x9216.Idx → EReal) (b : Fin 9216 → EReal) (r n : Fin 9216) : EReal :=
  ((∑ d : Fin 3072, (xq (ValueIdx.ix2 r (packedCol d)) * ((64 : ℝ) : EReal))
        * (((nib (codeOf (wp (ValueIdx.ix2 n (⟨d.val / 2, by omega⟩ : Fin 1536))) (d.val % 2)) : ℝ) : EReal) * ws (ValueIdx.ix2 n (⟨d.val / 16, by omega⟩ : Fin 192)))) * g
      + ∑ k : Fin 32, h (ValueIdx.ix2 r k) * lu (ValueIdx.ix2 k n))
    + b n

/-- The reference's result array at an index. -/
theorem final_apply (c : Dev nD) (r n : Fin 9216) :
    (dats (F := Ideal) m 0 c).arrAt 7 cfg0.N (ValueIdx.ix2 r n)
      = rval (mulf (F := Ideal) (φ := .f32) (s := S_) (m ((c : Thread nD τ).loc main_arg0)) (m ((c : Thread nD τ).loc main_arg1)) ValueIdx.ix0)
          (m ((c : Thread nD τ).loc main_arg2)) (m ((c : Thread nD τ).loc main_arg3)) (m ((c : Thread nD τ).loc main_arg4)) (m ((c : Thread nD τ).loc main_arg5))
          (m ((c : Thread nD τ).loc main_arg6)) (fun n => m ((c : Thread nD τ).loc main_arg7) (ValueIdx.ix1 n)) r n := by
  rw [final, pay_apply, V_v46, V_v18, V_v6, V_v20, V_v47, V_main_arg3, V_main_arg6]
  unfold rval
  refine congrArg₂ (· + ·) (congrArg₂ (· + ·) (congrArg₂ (· * ·) ?_ ?_) rfl) ?_
  · refine Finset.sum_congr rfl fun d _ => congrArg₂ (· * ·) (acts_apply _ r d) (congrArg₂ (· * ·) ?_ (scales_apply _ n d))
    rw [decs_apply _ _ (by rw [codes_apply]; exact codeOf_lt _ _), codes_apply]
  · exact congrArg (mulf (F := Ideal) (φ := .f32) (s := S_) (m ((c : Thread nD τ).loc main_arg0)) (m ((c : Thread nD τ).loc main_arg1))) (ValueIdx.eq_ix0 _)
  · exact ValueIdx.shapeCast_a_1a_apply _ _ _ _

end Cert.ReferenceIdeal.Hand

end
-- ==== Proof.Equation.lean ====
/- The two values are equal. The reference's column `256 t + 2 l + p` is the kernel's column `256 t + 128 p + l`, and the
   kernel's weights are the reference's over 64 while its factor is the reference's times 4096, which pays for both
   that 64 and the one the reference multiplies the activations by. -/
module

public import proofs.«01_k».proof.Proof.Array
public import proofs.«01_k».proof.Proof.RefArray

@[expose] public section

noncomputable section

namespace Cert.Proof

open Idealize.ShloMosaic Cert.KernelIdeal.Hand Cert.ReferenceIdeal.Hand

/-- The parts of the packed column `256 t + 128 p + l`. -/
theorem packed_parts (t p l : ℕ) (hp : p < 2) (hl : l < 128) :
    (t * 256 + p * 128 + l) / 256 = t ∧ (t * 256 + p * 128 + l) % 128 = l ∧ (t * 256 + p * 128 + l) / 128 % 2 = p :=
  ⟨by omega, by omega, by omega⟩

/-- The parts of the column in order `256 t + 2 l + p`. -/
theorem ordered_parts (t p l : ℕ) (hp : p < 2) (hl : l < 128) :
    (t * 256 + l * 2 + p) / 256 = t ∧ (t * 256 + l * 2 + p) % 256 / 2 = l ∧ (t * 256 + l * 2 + p) % 2 = p :=
  ⟨by omega, by omega, by omega⟩

/-- The packed column's parts, from the column in order. -/
theorem packedCol_parts (d : Fin 3072) :
    (packedCol d).val / 256 = d.val / 256 ∧ (packedCol d).val % 128 = d.val % 256 / 2 ∧ (packedCol d).val / 128 % 2 = d.val % 2 :=
  packed_parts (d.val / 256) (d.val % 2) (d.val % 256 / 2) (by omega) (by omega)

/-- The bijection between the columns in order and the columns as packed. -/
def colEquiv : Fin 3072 ≃ Fin 3072 where
  toFun := packedCol
  invFun c := ⟨c.val / 256 * 256 + c.val % 128 * 2 + c.val / 128 % 2, by omega⟩
  left_inv d := by
    obtain ⟨h1, h2, h3⟩ := packedCol_parts d
    apply Fin.ext
    show (packedCol d).val / 256 * 256 + (packedCol d).val % 128 * 2 + (packedCol d).val / 128 % 2 = d.val
    rw [h1, h2, h3]
    omega
  right_inv c := by
    obtain ⟨h1, h2, h3⟩ := ordered_parts (c.val / 256) (c.val / 128 % 2) (c.val % 128) (by omega) (by omega)
    apply Fin.ext
    show (c.val / 256 * 256 + c.val % 128 * 2 + c.val / 128 % 2) / 256 * 256 + (c.val / 256 * 256 + c.val % 128 * 2 + c.val / 128 % 2) % 2 * 128
      + (c.val / 256 * 256 + c.val % 128 * 2 + c.val / 128 % 2) % 256 / 2 = c.val
    rw [h1, h2, h3]
    omega

/-- A finite nonnegative real goes through a sum of extended reals. -/
theorem sum_mul_real {n : Nat} (f : Fin n → EReal) (r : ℝ) (hr : 0 ≤ r) : ∑ k, f k * ((r : ℝ) : EReal) = (∑ k, f k) * ((r : ℝ) : EReal) := by
  have key : ∀ s : Finset (Fin n), ∑ k ∈ s, f k * ((r : ℝ) : EReal) = (∑ k ∈ s, f k) * ((r : ℝ) : EReal) := by
    intro s
    classical
    induction s using Finset.induction_on with
    | empty => simp
    | insert a s ha ih =>
      rw [Finset.sum_insert ha, Finset.sum_insert ha, ih]
      exact (EReal.right_distrib_of_nonneg_of_ne_top (EReal.coe_nonneg.2 hr) (EReal.coe_ne_top r) _ _).symm
  exact key Finset.univ

/-- One term of the sum: the reference's is the kernel's times 4096. -/
theorem term_eq (x s : EReal) (v : ℝ) :
    (x * ((64 : ℝ) : EReal)) * (((v : ℝ) : EReal) * s) = (x * (((v / 64 : ℝ) : EReal) * s)) * ((4096 : ℝ) : EReal) := by
  have e : ((v : ℝ) : EReal) = ((v / 64 : ℝ) : EReal) * ((64 : ℝ) : EReal) := by
    rw [← EReal.coe_mul]; congr 1; ring
  have e2 : ((4096 : ℝ) : EReal) = ((64 : ℝ) : EReal) * ((64 : ℝ) : EReal) := by
    rw [← EReal.coe_mul]; congr 1; norm_num
  rw [e, e2]
  ac_rfl

/-- The kernel's value is the reference's. -/
theorem kval_eq (g : EReal) (xq : (⟨2, ![9216, 3072]⟩ : Shape).Idx → EReal) (h : (⟨2, ![9216, 32]⟩ : Shape).Idx → EReal)
    (wp : (⟨2, ![9216, 1536]⟩ : Shape).Idx → BitVec 8) (ws : (⟨2, ![9216, 192]⟩ : Shape).Idx → EReal) (lu : (⟨2, ![32, 9216]⟩ : Shape).Idx → EReal)
    (b : Fin 9216 → EReal) (r n : Fin 9216) :
    kval (g * ((4096 : ℝ) : EReal)) xq h wp ws lu b r n = rval g xq h wp ws lu b r n := by
  unfold kval rval
  refine congrArg (· + b n) (congrArg (· + _) ?_)
  rw [mul_comm g, ← mul_assoc, ← sum_mul_real _ _ (by norm_num)]
  refine congrArg (· * g) ?_
  rw [← Equiv.sum_comp colEquiv]
  refine Finset.sum_congr rfl fun d _ => ?_
  rw [term_eq]
  refine congrArg (fun z => xq (ValueIdx.ix2 r (packedCol d)) * z * ((4096 : ℝ) : EReal)) ?_
  unfold wq
  obtain ⟨e1, e2, e3⟩ := packedCol_parts d
  have h1 : (colEquiv d).val / 256 * 128 + (colEquiv d).val % 128 = d.val / 2 := by
    show (packedCol d).val / 256 * 128 + (packedCol d).val % 128 = d.val / 2
    rw [e1, e2]; omega
  have h2 : (colEquiv d).val / 128 % 2 = d.val % 2 := e3
  have h3 : (colEquiv d).val / 256 * 16 + (colEquiv d).val % 128 / 8 = d.val / 16 := by
    show (packedCol d).val / 256 * 16 + (packedCol d).val % 128 / 8 = d.val / 16
    rw [e1, e2]; omega
  refine congrArg₂ (· * ·) ?_ (congrArg ws (congrArg (ValueIdx.ix2 n) (Fin.ext h3)))
  rw [h2]
  exact congrArg (fun i => ((nib (codeOf (wp (ValueIdx.ix2 n i)) (d.val % 2)) / 64 : ℝ) : EReal)) (Fin.ext h1)

end Cert.Proof

end
-- ==== Proof.QuantTile.lean ====
/- One step of the quantising loop: the even and the odd features of 256, taken apart and times the smoothing factors,
   read at an index; and the largest magnitudes merged lane by lane. -/
module

public import proofs.«01_k».proof.Proof.Gen.QuantiseIdeal.Value
public import Idealize.ShloMosaic.Lib.Pointwise
public import Idealize.ShloMosaic.Lib.ValueLayout

@[expose] public section

set_option maxRecDepth 16384

noncomputable section

namespace Cert.QuantiseIdeal.Hand

open Cert.QuantiseIdeal Cert.QuantiseIdeal.Gen Idealize.ShloMosaic Idealize.ShloMosaic.TcCoe Idealize.SL.Sem

variable {F : FTy → Type} [FloatOps F]

/-- The lane numbers of a tile. -/
def lanes : IVec S32x128 32 := iota .tc S32x128 32 [1] iota_S32x128_d1_w32

/-- The tile of lane numbers. -/
theorem lanes_apply (r : Fin 32) (l : Fin 128) : lanes (ValueIdx.ix2 r l) = BitVec.ofNat 32 l.val := by
  show BitVec.ofNat 32 (0 * 128 + l.val) = _
  rw [Nat.zero_mul, Nat.zero_add]

/-- A negative lane counted from the end. -/
def wrapLane (b : BitVec 32) : BitVec 32 := Scalar.select (IntOp.cmpi .slt b 0#32) (b + 128#32) b

/-- A tile's lanes taken in another order: lane `l` of the result is lane `f l` of the tile. -/
def take (f : BitVec 32 → BitVec 32) (v : FVec F S32x128 .f32) : FVec F S32x128 .f32 :=
  dynamicGather 1 v (shapeCast S32x128 (shapeCast S32x128x1 (fun i => wrapLane (f (lanes i))) shapeCasts_S32x128_S32x128x1) shapeCasts_S32x128x1_S32x128)

/-- A gather along the lanes at an index. -/
theorem take_apply (f : BitVec 32 → BitVec 32) (v : FVec F S32x128 .f32) (r : Fin 32) (l k : Fin 128)
    (h : (wrapLane (f (BitVec.ofNat 32 l.val))).toNat % 128 = k.val) :
    take f v (ValueIdx.ix2 r l) = v (ValueIdx.ix2 r k) := by
  unfold take
  show v _ = v _
  congr 1
  funext b
  match b with
  | ⟨0, _⟩ => rfl
  | ⟨1, _⟩ =>
    refine Fin.ext ?_
    rw [shapeCast_shapeCast]
    show (wrapLane (f (lanes (ValueIdx.ix2 r l)))).toNat % 128 = k.val
    rw [lanes_apply]
    exact h

/-! ## Even and odd features -/

/-- Whether a lane is one of the first 64. -/
def isLow (b : BitVec 32) : BitVec 1 := IntOp.cmpi .slt b 64#32
/-- The lane of the first loaded half that a lane takes. -/
def laneA (b : BitVec 32) : BitVec 32 := Scalar.select (isLow b) (2#32 * b) (2#32 * b - 127#32)
/-- The lane of the second loaded half that a lane takes. -/
def laneB (b : BitVec 32) : BitVec 32 := Scalar.select (isLow b) (2#32 * b + 1#32) (2#32 * b - 128#32)

/-- A loaded half, its lanes taken in another order. -/
def half (f : BitVec 32 → BitVec 32) (a : Vec F S32x128 .bf16) : FVec F S32x128 .f32 :=
  take f (extf .f32 (φ := .bf16) (shapeCast S32x128 a shapeCasts_S32x128_S32x128) bitsLt_bf16_f32)

/-- A tile of features in the narrow format, times the smoothing factors. -/
def smoothed (v : FVec F S32x128 .f32) (s : Vec F S1x128 .f32) : FVec F S32x128 .f32 :=
  mulf (extf .f32 (truncf .bf16 v bitsLt_bf16_f32) bitsLt_bf16_f32)
    (broadcastTo S32x128 (shapeCast S1x128 s shapeCasts_S1x128_S1x128) broadcasts_S1x128_S32x128)

/-- The even features, smoothed. -/
def evenT (a b : Vec F S32x128 .bf16) (s : Vec F S1x128 .f32) : FVec F S32x128 .f32 :=
  smoothed (select (fun i => isLow (lanes i)) (half laneA a) (half laneB b)) s

/-- The odd features, smoothed. -/
def oddT (a b : Vec F S32x128 .bf16) (s : Vec F S1x128 .f32) : FVec F S32x128 .f32 :=
  smoothed (dynamicRotate 1 64#32 none (select (fun i => isLow (lanes i)) (half laneB b) (half laneA a)) rotates_S32x128_d1) s

/-- A tile as it is stored. -/
def stored (v : FVec F S32x128 .f32) : FVec F S32x128 .bf16 :=
  shapeCast S32x128 (truncf .bf16 v bitsLt_bf16_f32) shapeCasts_S32x128_S32x128

/-- The larger magnitude of each pair of features. -/
def pairMax (a b : Vec F S32x128 .bf16) (s s' : Vec F S1x128 .f32) : FVec F S32x128 .f32 :=
  maximumf (absf (evenT a b s)) (absf (oddT a b s'))

/-- Whether a lane is in the low half. -/
theorem low_word : ∀ l : Fin 128, isLow (BitVec.ofNat 32 l.val) = if l.val < 64 then 1#1 else 0#1 := by decide +kernel

/-- The lanes that the two gathers of the deinterleaving read, in each half. -/
theorem laneA_low : ∀ l : Fin 128, l.val < 64 → (wrapLane (laneA (BitVec.ofNat 32 l.val))).toNat % 128 = 2 * l.val := by decide +kernel
theorem laneA_high : ∀ l : Fin 128, 64 ≤ l.val → (wrapLane (laneA (BitVec.ofNat 32 l.val))).toNat % 128 = 2 * l.val - 127 := by decide +kernel
theorem laneB_low : ∀ l : Fin 128, l.val < 64 → (wrapLane (laneB (BitVec.ofNat 32 l.val))).toNat % 128 = 2 * l.val + 1 := by decide +kernel
theorem laneB_high : ∀ l : Fin 128, 64 ≤ l.val → (wrapLane (laneB (BitVec.ofNat 32 l.val))).toNat % 128 = 2 * l.val - 128 := by decide +kernel

/-- One gather of the deinterleaving. -/
theorem half_apply (f : BitVec 32 → BitVec 32) (a : Vec Ideal S32x128 .bf16) (r : Fin 32) (l k : Fin 128)
    (h : (wrapLane (f (BitVec.ofNat 32 l.val))).toNat % 128 = k.val) :
    (half (F := Ideal) f a (ValueIdx.ix2 r l) : EReal) = a (ValueIdx.ix2 r k) := by
  unfold half
  rw [take_apply f _ r l k h, shapeCast_self]
  rfl

/-- A feature times its smoothing factor. -/
theorem smoothed_apply (v : FVec Ideal S32x128 .f32) (s : Vec Ideal S1x128 .f32) (r : Fin 32) (l : Fin 128) :
    (smoothed (F := Ideal) v s (ValueIdx.ix2 r l) : EReal) = (v (ValueIdx.ix2 r l) : EReal) * (s (ValueIdx.ix2 (0 : Fin 1) l) : EReal) := by
  unfold smoothed
  rw [shapeCast_self]
  refine congrArg₂ (fun a b : EReal => a * b) rfl ?_
  exact ValueIdx.broadcastTo_1b_ab_apply (a := 32) (b := 128) s _ r l

/-- Feature `c` of the 256 that the two loaded halves hold. -/
def feature (a b : Vec Ideal S32x128 .bf16) (r : Fin 32) (c : Nat) : EReal :=
  if h : c < 128 then a (ValueIdx.ix2 r (⟨c, h⟩ : Fin 128)) else b (ValueIdx.ix2 r (⟨(c - 128) % 128, Nat.mod_lt _ (by decide)⟩ : Fin 128))

/-- The tile of even features. -/
theorem evenT_apply (a b : Vec Ideal S32x128 .bf16) (s : Vec Ideal S1x128 .f32) (r : Fin 32) (l : Fin 128) :
    (evenT (F := Ideal) a b s (ValueIdx.ix2 r l) : EReal) = feature a b r (2 * l.val) * (s (ValueIdx.ix2 (0 : Fin 1) l) : EReal) := by
  unfold evenT
  rw [smoothed_apply]
  congr 1
  show Scalar.select (isLow (lanes (ValueIdx.ix2 r l))) (half (F := Ideal) laneA a (ValueIdx.ix2 r l)) (half (F := Ideal) laneB b (ValueIdx.ix2 r l)) = _
  rw [lanes_apply, low_word]
  by_cases hl : l.val < 64
  · rw [if_pos hl]
    refine Eq.trans (half_apply laneA a r l ⟨2 * l.val, by omega⟩ (laneA_low l hl)) ?_
    unfold feature
    rw [dif_pos (by omega)]
  · rw [if_neg hl]
    refine Eq.trans (half_apply laneB b r l ⟨2 * l.val - 128, by omega⟩ (laneB_high l (by omega))) ?_
    unfold feature
    rw [dif_neg (by omega)]
    congr 2
    exact Fin.ext (by show 2 * l.val - 128 = (2 * l.val - 128) % 128; omega)

/-- A rotation by half the lanes. -/
theorem rotate_apply {α : Type} (x : S32x128.Idx → α) (r : Fin 32) (l : Fin 128) :
    dynamicRotate (s := S32x128) 1 64#32 none x rotates_S32x128_d1 (ValueIdx.ix2 r l) = x (ValueIdx.ix2 r (⟨(l.val + 64) % 128, by omega⟩ : Fin 128)) := by
  show x _ = x _
  congr 1
  funext b
  match b with
  | ⟨0, _⟩ => rfl
  | ⟨1, _⟩ => exact Fin.ext (by show (l.val + 128 - 64) % 128 = (l.val + 64) % 128; omega)

/-- The tile of odd features. -/
theorem oddT_apply (a b : Vec Ideal S32x128 .bf16) (s : Vec Ideal S1x128 .f32) (r : Fin 32) (l : Fin 128) :
    (oddT (F := Ideal) a b s (ValueIdx.ix2 r l) : EReal) = feature a b r (2 * l.val + 1) * (s (ValueIdx.ix2 (0 : Fin 1) l) : EReal) := by
  unfold oddT
  rw [smoothed_apply]
  congr 1
  rw [rotate_apply]
  have e : ∀ k : Fin 128, k.val = (l.val + 64) % 128 →
      (select (fun i => isLow (lanes i)) (half (F := Ideal) laneB b) (half (F := Ideal) laneA a) (ValueIdx.ix2 r k) : EReal) = feature a b r (2 * l.val + 1) := by
    intro k hk
    show Scalar.select (isLow (lanes (ValueIdx.ix2 r k))) (half (F := Ideal) laneB b (ValueIdx.ix2 r k)) (half (F := Ideal) laneA a (ValueIdx.ix2 r k)) = _
    rw [lanes_apply, low_word]
    by_cases hl : k.val < 64
    · rw [if_pos hl]
      refine Eq.trans (half_apply laneB b r k ⟨2 * k.val + 1, by omega⟩ (laneB_low k hl)) ?_
      unfold feature
      rw [dif_neg (by omega)]
      congr 2
      exact Fin.ext (by show 2 * k.val + 1 = (2 * l.val + 1 - 128) % 128; omega)
    · rw [if_neg hl]
      refine Eq.trans (half_apply laneA a r k ⟨2 * k.val - 127, by omega⟩ (laneA_high k (by omega))) ?_
      unfold feature
      rw [dif_pos (by omega)]
      congr 2
      exact Fin.ext (by show 2 * k.val - 127 = 2 * l.val + 1; omega)
  exact e _ rfl

/-! ## The largest magnitude of each group, merged over eight tiles -/

/-- Whether a lane's number has the bit `d`. -/
def hasBit (d b : BitVec 32) : BitVec 1 := IntOp.cmpi .ne (IntOp.andi b d) 0#32

/-- One merge: where a lane has bit `d` the second tile's larger of the lane and its partner, else the first's. -/
def mergeMax (d : BitVec 32) (a b : FVec F S32x128 .f32) : FVec F S32x128 .f32 :=
  maximumf (select (fun i => hasBit d (lanes i)) b a) (take (fun w => w ^^^ d) (select (fun i => hasBit d (lanes i)) a b))

/-- The merges of eight tiles. -/
def groupMax8 (t0 t1 t2 t3 t4 t5 t6 t7 : FVec F S32x128 .f32) : FVec F S32x128 .f32 :=
  mergeMax 1#32 (mergeMax 2#32 (mergeMax 4#32 t0 t1) (mergeMax 4#32 t2 t3)) (mergeMax 2#32 (mergeMax 4#32 t4 t5) (mergeMax 4#32 t6 t7))

/-- The merges of four tiles. -/
def groupMax4 (t0 t1 t2 t3 : FVec F S32x128 .f32) : FVec F S32x128 .f32 :=
  maximumf (mergeMax 2#32 (mergeMax 4#32 t0 t1) (mergeMax 4#32 t2 t3))
    (take (fun w => w ^^^ 1#32) (mergeMax 2#32 (mergeMax 4#32 t0 t1) (mergeMax 4#32 t2 t3)))

/-- A lane with bit `d` flipped. -/
def flip (d : Nat) (l : Fin 128) : Fin 128 := ⟨(l.val ^^^ d) % 128, Nat.mod_lt _ (by decide)⟩

/-- One merge of two tiles at an index. -/
theorem mergeMax_apply (d : Nat) (hd : d = 4 ∨ d = 2 ∨ d = 1) (a b : FVec Ideal S32x128 .f32) (r : Fin 32) (l : Fin 128) :
    (mergeMax (F := Ideal) (BitVec.ofNat 32 d) a b (ValueIdx.ix2 r l) : EReal)
      = max ((if l.val &&& d = 0 then a else b) (ValueIdx.ix2 r l) : EReal) ((if l.val &&& d = 0 then a else b) (ValueIdx.ix2 r (flip d l)) : EReal) := by
  have hb : ∀ k : Fin 128, hasBit (BitVec.ofNat 32 d) (BitVec.ofNat 32 k.val) = if k.val &&& d = 0 then 0#1 else 1#1 := by
    rcases hd with rfl | rfl | rfl <;> decide +kernel
  have hf : ∀ k : Fin 128, (flip d k).val &&& d = 0 ↔ ¬ (k.val &&& d = 0) := by
    rcases hd with rfl | rfl | rfl <;> decide +kernel
  have hx : ∀ k : Fin 128, (wrapLane (BitVec.ofNat 32 k.val ^^^ BitVec.ofNat 32 d)).toNat % 128 = (flip d k).val := by
    rcases hd with rfl | rfl | rfl <;> decide +kernel
  have e1 : (select (fun i => hasBit (BitVec.ofNat 32 d) (lanes i)) b a (ValueIdx.ix2 r l) : EReal) = (if l.val &&& d = 0 then a else b) (ValueIdx.ix2 r l) := by
    show Scalar.select (hasBit _ (lanes (ValueIdx.ix2 r l))) (b (ValueIdx.ix2 r l)) (a (ValueIdx.ix2 r l)) = _
    rw [lanes_apply, hb l]
    by_cases h : l.val &&& d = 0
    · rw [if_pos h, if_pos h]; rfl
    · rw [if_neg h, if_neg h]; rfl
  have e2 : (select (fun i => hasBit (BitVec.ofNat 32 d) (lanes i)) a b (ValueIdx.ix2 r (flip d l)) : EReal) = (if l.val &&& d = 0 then a else b) (ValueIdx.ix2 r (flip d l)) := by
    show Scalar.select (hasBit _ (lanes (ValueIdx.ix2 r (flip d l)))) (a (ValueIdx.ix2 r (flip d l))) (b (ValueIdx.ix2 r (flip d l))) = _
    rw [lanes_apply, hb (flip d l)]
    by_cases h : l.val &&& d = 0
    · rw [if_neg (fun e => (hf l).1 e h), if_pos h]; rfl
    · rw [if_pos ((hf l).2 h), if_neg h]; rfl
  have e3 := take_apply (F := Ideal) (fun w => w ^^^ BitVec.ofNat 32 d) (select (fun i => hasBit (BitVec.ofNat 32 d) (lanes i)) a b) r l (flip d l) (hx l)
  unfold mergeMax
  exact congrArg₂ (fun x y : EReal => max x y) e1 (e3.trans e2)

end Cert.QuantiseIdeal.Hand

end
-- ==== Proof.QuantMax.lean ====
/- The merged maxima read at an index: of each group's eight lanes, the largest, and where it lies. -/
module

public import proofs.«01_k».proof.Proof.QuantTile

@[expose] public section

set_option maxRecDepth 16384

noncomputable section

namespace Cert.QuantiseIdeal.Hand

open Cert.QuantiseIdeal Cert.QuantiseIdeal.Gen Idealize.ShloMosaic Idealize.ShloMosaic.TcCoe Idealize.SL.Sem

/-- Lane `e` of the eight lanes of group `q` of a tile. -/
def octLane (q : Fin 16) (e : Fin 8) : Fin 128 := ⟨8 * q.val + e.val, by omega⟩

/-- The lane, of a group's eight, where the merges leave the maximum of tile `j`: `j` with its three bits reversed. -/
def codeLane (j : Fin 8) : Fin 8 := ⟨4 * (j.val % 2) + 2 * (j.val / 2 % 2) + j.val / 4, by omega⟩

/-- One merge on a row. -/
def rowMerge (d : Nat) (a b : Fin 128 → EReal) (l : Fin 128) : EReal :=
  max ((if l.val &&& d = 0 then a else b) l) ((if l.val &&& d = 0 then a else b) (flip d l))

/-- One merge of two tiles, row by row. -/
theorem mergeMax_row (d : Nat) (hd : d = 4 ∨ d = 2 ∨ d = 1) (a b : FVec Ideal S32x128 .f32) (r : Fin 32) :
    (fun l : Fin 128 => (mergeMax (F := Ideal) (BitVec.ofNat 32 d) a b (ValueIdx.ix2 r l) : EReal))
      = rowMerge d (fun l => a (ValueIdx.ix2 r l)) (fun l => b (ValueIdx.ix2 r l)) := by
  funext l
  rw [mergeMax_apply d hd]
  unfold rowMerge
  by_cases h : l.val &&& d = 0
  · simp only [if_pos h]
  · simp only [if_neg h]

/-- A lane's bit 4, 2 or 1 is that of its place in its eight lanes. -/
theorem bit_octLane : ∀ (d : Nat), d = 4 ∨ d = 2 ∨ d = 1 → ∀ (q : Fin 16) (e : Fin 8), ((octLane q e).val &&& d = 0) = (e.val &&& d = 0) := by
  rintro d (rfl | rfl | rfl) <;> intro q e <;> apply propext <;> revert q e <;> decide +kernel

/-- Flipping such a bit stays in the same eight lanes. -/
theorem flip_octLane : ∀ (d : Nat), d = 4 ∨ d = 2 ∨ d = 1 → ∀ (q : Fin 16) (e : Fin 8), flip d (octLane q e) = octLane q ⟨(e.val ^^^ d) % 8, Nat.mod_lt _ (by decide)⟩ := by
  rintro d (rfl | rfl | rfl) <;> decide +kernel

/-- A merge on eight lanes. -/
theorem rowMerge_oct (d : Nat) (hd : d = 4 ∨ d = 2 ∨ d = 1) (a b : Fin 128 → EReal) (q : Fin 16) (e : Fin 8) :
    rowMerge d a b (octLane q e)
      = max ((if e.val &&& d = 0 then a else b) (octLane q e)) ((if e.val &&& d = 0 then a else b) (octLane q ⟨(e.val ^^^ d) % 8, Nat.mod_lt _ (by decide)⟩)) := by
  unfold rowMerge
  rw [flip_octLane d hd]
  simp only [bit_octLane d hd]

/-- The largest of eight. -/
theorem sup_eight (f : Fin 8 → EReal) :
    Finset.univ.sup f = max (max (max (f 0) (f 1)) (max (f 2) (f 3))) (max (max (f 4) (f 5)) (max (f 6) (f 7))) := by
  apply le_antisymm
  · refine Finset.sup_le fun e _ => ?_
    fin_cases e <;> simp
  · simp only [max_le_iff]
    exact ⟨⟨⟨Finset.le_sup (Finset.mem_univ _), Finset.le_sup (Finset.mem_univ _)⟩, ⟨Finset.le_sup (Finset.mem_univ _), Finset.le_sup (Finset.mem_univ _)⟩⟩,
      ⟨⟨Finset.le_sup (Finset.mem_univ _), Finset.le_sup (Finset.mem_univ _)⟩, ⟨Finset.le_sup (Finset.mem_univ _), Finset.le_sup (Finset.mem_univ _)⟩⟩⟩

/-- Two rows of merges, by bit 4 and then by bit 2, on the lanes of one group: lanes with equal bits hold equal maxima. -/
theorem merge_two (f : Fin 4 → Fin 128 → EReal) (q : Fin 16) (e : Fin 8) :
    rowMerge 2 (rowMerge 4 (f 0) (f 1)) (rowMerge 4 (f 2) (f 3)) (octLane q e)
      = (fun g : Fin 8 → EReal => if e.val % 2 = 0 then max (max (g 0) (g 4)) (max (g 2) (g 6)) else max (max (g 1) (g 5)) (max (g 3) (g 7)))
          (fun k => f ⟨e.val / 4 + 2 * (e.val / 2 % 2), by omega⟩ (octLane q k)) := by
  fin_cases e <;> simp [rowMerge_oct, max_comm, max_left_comm, max_assoc]

set_option maxHeartbeats 4000000 in
/-- Three rounds of merges over eight tiles: each lane ends with the largest of eight lanes of one tile. -/
theorem merge_eight (f : Fin 8 → Fin 128 → EReal) (q : Fin 16) (j : Fin 8) :
    rowMerge 1 (rowMerge 2 (rowMerge 4 (f 0) (f 1)) (rowMerge 4 (f 2) (f 3))) (rowMerge 2 (rowMerge 4 (f 4) (f 5)) (rowMerge 4 (f 6) (f 7))) (octLane q (codeLane j))
      = Finset.univ.sup fun e : Fin 8 => f j (octLane q e) := by
  have h1 : ∀ e, rowMerge 2 (rowMerge 4 (f 0) (f 1)) (rowMerge 4 (f 2) (f 3)) (octLane q e) = _ := merge_two (fun i => f ⟨i.val, by omega⟩) q
  have h2 : ∀ e, rowMerge 2 (rowMerge 4 (f 4) (f 5)) (rowMerge 4 (f 6) (f 7)) (octLane q e) = _ := merge_two (fun i => f ⟨i.val + 4, by omega⟩) q
  rw [rowMerge_oct 1 (by decide), sup_eight]
  generalize rowMerge 2 (rowMerge 4 (f 0) (f 1)) (rowMerge 4 (f 2) (f 3)) = A at h1 ⊢
  generalize rowMerge 2 (rowMerge 4 (f 4) (f 5)) (rowMerge 4 (f 6) (f 7)) = B at h2 ⊢
  fin_cases j <;> simp [h1, h2, codeLane, max_comm, max_left_comm, max_assoc]

set_option maxHeartbeats 4000000 in
/-- With four tiles the last step takes the larger of a lane and its neighbour. -/
theorem merge_four (f : Fin 4 → Fin 128 → EReal) (q : Fin 16) (j : Fin 8) (hj : j.val < 4) :
    max (rowMerge 2 (rowMerge 4 (f 0) (f 1)) (rowMerge 4 (f 2) (f 3)) (octLane q (codeLane j)))
        (rowMerge 2 (rowMerge 4 (f 0) (f 1)) (rowMerge 4 (f 2) (f 3)) (flip 1 (octLane q (codeLane j))))
      = Finset.univ.sup fun e : Fin 8 => f ⟨j.val, hj⟩ (octLane q e) := by
  have h1 := merge_two f q
  rw [flip_octLane 1 (by decide), sup_eight]
  generalize rowMerge 2 (rowMerge 4 (f 0) (f 1)) (rowMerge 4 (f 2) (f 3)) = A at h1 ⊢
  fin_cases j <;> first | (exact absurd hj (by decide)) | simp [h1, codeLane, max_comm, max_left_comm, max_assoc]

/-- Eight tiles merged: tile `j`'s maximum over group `q` lies at the group's lane `codeLane j`. -/
theorem groupMax8_apply (t : Fin 8 → FVec Ideal S32x128 .f32) (r : Fin 32) (q : Fin 16) (j : Fin 8) :
    (groupMax8 (F := Ideal) (t 0) (t 1) (t 2) (t 3) (t 4) (t 5) (t 6) (t 7) (ValueIdx.ix2 r (octLane q (codeLane j))) : EReal)
      = Finset.univ.sup fun e : Fin 8 => (t j (ValueIdx.ix2 r (octLane q e)) : EReal) := by
  have h := merge_eight (fun j l => (t j (ValueIdx.ix2 r l) : EReal)) q j
  have h4 := fun a b => mergeMax_row 4 (by decide) a b r
  have h2 := fun a b => mergeMax_row 2 (by decide) a b r
  refine Eq.trans ?_ h
  unfold groupMax8
  refine (congrFun (mergeMax_row 1 (by decide) _ _ r) _).trans ?_
  rw [← h4, ← h4, ← h4, ← h4, ← h2, ← h2]

/-- Four tiles merged. -/
theorem groupMax4_apply (t : Fin 4 → FVec Ideal S32x128 .f32) (r : Fin 32) (q : Fin 16) (j : Fin 8) (hj : j.val < 4) :
    (groupMax4 (F := Ideal) (t 0) (t 1) (t 2) (t 3) (ValueIdx.ix2 r (octLane q (codeLane j))) : EReal)
      = Finset.univ.sup fun e : Fin 8 => (t ⟨j.val, hj⟩ (ValueIdx.ix2 r (octLane q e)) : EReal) := by
  have h := merge_four (fun j l => (t j (ValueIdx.ix2 r l) : EReal)) q j hj
  have h4 := fun a b => mergeMax_row 4 (by decide) a b r
  have h2 := fun a b => mergeMax_row 2 (by decide) a b r
  have hx : ∀ k : Fin 128, (wrapLane (BitVec.ofNat 32 k.val ^^^ 1#32)).toNat % 128 = (flip 1 k).val := by decide +kernel
  refine Eq.trans ?_ h
  rw [← h4, ← h4, ← h2]
  unfold groupMax4
  exact congrArg₂ (fun x y : EReal => max x y) rfl (take_apply (F := Ideal) (fun w => w ^^^ 1#32) _ r _ _ (hx _))

/-! ## The scales -/

variable {F : FTy → Type} [FloatOps F]

/-- The lane that output column `o` of a scale tile is taken from, as the kernel computes it on one word. -/
def sixteenth (b : BitVec 32) : BitVec 32 :=
  let q := IntOp.divsi .vector b 16#32
  let ne := IntOp.cmpi .ne ((IntOp.cmpi .sgt b 0#32).setWidth 32 - (IntOp.cmpi .slt b 0#32).setWidth 32)
    (Scalar.subi (Scalar.extui (Scalar.cmpi .sgt 16#32 0#32) : BitVec 32) (Scalar.extui (Scalar.cmpi .slt 16#32 0#32)))
  let rne := IntOp.cmpi .ne (IntOp.remsi .vector b 16#32) 0#32
  Scalar.select (IntOp.andi ne rne) (q - 1#32) q

/-- The remainder by 16, the same way. -/
def rest16 (b : BitVec 32) : BitVec 32 :=
  let d := Scalar.select (Scalar.cmpi .eq 16#32 0#32) 1#32 16#32
  let u := IntOp.remsi .vector b d
  Scalar.select (IntOp.andi (IntOp.xori (IntOp.cmpi .slt u 0#32) (Scalar.cmpi .slt d 0#32)) (IntOp.cmpi .ne u 0#32)) (u + d) u

/-- The lane that output lane `b` takes its scale from. -/
def outLane (b : BitVec 32) : BitVec 32 :=
  ((8#32 * rest16 b + 4#32 * IntOp.andi (sixteenth b) 1#32) + 2#32 * IntOp.andi (IntOp.shrsi .vector (sixteenth b) 1#32) 1#32)
    + IntOp.andi (IntOp.shrsi .vector (sixteenth b) 2#32) 1#32

/-- That lane, by group and step. -/
theorem outLane_eq : ∀ o : Fin 128, (wrapLane (outLane (BitVec.ofNat 32 o.val))).toNat % 128
    = (octLane ⟨o.val % 16, Nat.mod_lt _ (by decide)⟩ (codeLane ⟨o.val / 16, by omega⟩)).val := by decide +kernel

/-- A group's scale from its largest magnitude `a` and 6 times the global factor: `a / g6` clipped to [0, 448], and 1 for 0. -/
def scaleTile (g6 : F .f32) (a : FVec F S32x128 .f32) : FVec F S32x128 .f32 :=
  have s : FVec F S32x128 .f32 := extf .f32 (truncf .fp8e4m3 (minimumf (broadcast S32x128 (Scalar.ofBits .f32 0x43E00000#32))
    (maximumf (broadcast S32x128 (Scalar.ofBits .f32 0x00000000#32)) (divf a (broadcast S32x128 g6)))) bitsLt_fp8e4m3_f32) bitsLt_fp8e4m3_f32
  extf .f32 (truncf .fp8e4m3 (select (cmpf .oeq s (broadcast S32x128 (Scalar.ofBits .f32 0x00000000#32))) (broadcast S32x128 (Scalar.ofBits .f32 0x3F800000#32)) s)
    bitsLt_fp8e4m3_f32) bitsLt_fp8e4m3_f32

/-- The scales of a tile in the output's order. -/
def outScales (g : F .f32) (a : FVec F S32x128 .f32) : FVec F S32x128 .fp8e4m3 :=
  truncf .fp8e4m3 (take outLane (scaleTile (Scalar.mulf (Scalar.ofBits .f32 0x40C00000#32) g) a)) bitsLt_fp8e4m3_f32

/-- One scale over the extended reals. -/
def scaleOf (g a : EReal) : EReal :=
  have s : EReal := min (Ideal.ofBits .f32 0x43E00000#32) (max (Ideal.ofBits .f32 0x00000000#32) (FloatOps.divf (F := Ideal) (φ := .f32) a (Ideal.ofBits .f32 0x40C00000#32 * g : EReal)))
  Scalar.select (FloatOps.cmpf (F := Ideal) (φ := .f32) .oeq s (Ideal.ofBits .f32 0x00000000#32)) (Ideal.ofBits .f32 0x3F800000#32) s

/-- The stored scales at an index. -/
theorem outScales_apply (g : EReal) (a : FVec Ideal S32x128 .f32) (r : Fin 32) (o : Fin 128) :
    (outScales (F := Ideal) g a (ValueIdx.ix2 r o) : EReal)
      = scaleOf g (a (ValueIdx.ix2 r (octLane ⟨o.val % 16, Nat.mod_lt _ (by decide)⟩ (codeLane ⟨o.val / 16, by omega⟩)))) := by
  have h := take_apply (F := Ideal) outLane (scaleTile (F := Ideal) (Scalar.mulf (F := Ideal) (Scalar.ofBits .f32 0x40C00000#32) g) a) r o _ (outLane_eq o)
  unfold outScales
  exact Eq.trans h rfl

end Cert.QuantiseIdeal.Hand

end
-- ==== Proof.QuantScratch.lean ====
/- What the quantising loop leaves behind: in the scratch array, the smoothed features of a block of rows in the kernel's
   column order (each 256 features as 128 even ones, then 128 odd ones); in the block of scales, one scale for each
   sixteen features. Every stored tile agrees with those two functions. -/
module

public import proofs.«01_k».proof.Proof.QuantMax

@[expose] public section

set_option maxRecDepth 16384

noncomputable section

namespace Cert.QuantiseIdeal.Hand

open Cert.QuantiseIdeal Cert.QuantiseIdeal.Gen Idealize.ShloMosaic Idealize.ShloMosaic.TcCoe Idealize.ShloMosaic.Tactic
open Idealize.SL.Sem

/-- The feature that the kernel keeps in column `c`. -/
def unperm (c : Fin 3072) : Fin 3072 := ⟨256 * (c.val / 256) + 2 * (c.val % 128) + c.val / 128 % 2, by omega⟩

/-- The smoothed features of some rows, in the kernel's column order. -/
def xsp {R : Nat} (x2 : (⟨2, ![R, 3072]⟩ : Shape).Idx → EReal) (s3 : S1x3072.Idx → EReal) (r : Fin R) (c : Fin 3072) : EReal :=
  x2 (ValueIdx.ix2 r (unperm c)) * s3 (ValueIdx.ix2 (0 : Fin 1) c)

/-- The larger magnitude of the features in columns `c` and `c + 128`. -/
def pairTop {R : Nat} (x2 : (⟨2, ![R, 3072]⟩ : Shape).Idx → EReal) (s3 : S1x3072.Idx → EReal) (r : Fin R) (c c' : Fin 3072) : EReal :=
  max (max (xsp x2 s3 r c) (-xsp x2 s3 r c)) (max (xsp x2 s3 r c') (-xsp x2 s3 r c'))

/-- The largest magnitude of group `n` of a row: of its sixteen features, eight lie in the even half and eight in the odd half of step `n / 16`. -/
def topAt {R : Nat} (x2 : (⟨2, ![R, 3072]⟩ : Shape).Idx → EReal) (s3 : S1x3072.Idx → EReal) (r : Fin R) (n : Fin 192) : EReal :=
  Finset.univ.sup fun e : Fin 8 => pairTop x2 s3 r
    (⟨256 * (n.val / 16) + 8 * (n.val % 16) + e.val, by omega⟩ : Fin 3072) (⟨256 * (n.val / 16) + 128 + 8 * (n.val % 16) + e.val, by omega⟩ : Fin 3072)

/-- The scale of group `n` of a row. -/
def scaleAt {R : Nat} (g : EReal) (x2 : (⟨2, ![R, 3072]⟩ : Shape).Idx → EReal) (s3 : S1x3072.Idx → EReal) (r : Fin R) (n : Fin 192) : EReal :=
  scaleOf g (topAt x2 s3 r n)

/-- A stored tile of the scratch array agrees with the smoothed features. -/
def Agrees (x2 : S256x3072.Idx → EReal) (s3 : S1x3072.Idx → EReal) (p : View.Piece (Elt Ideal) S256x3072 .bf16) : Prop :=
  ∀ x : p.1.shape.Idx, (p.2 x : EReal) = xsp (R := 256) x2 s3 (p.1.emb x 0) (p.1.emb x 1)

/-- A stored tile of scales agrees with the scales. -/
def ScaleAgrees (g : EReal) (x2 : S256x3072.Idx → EReal) (s3 : S1x3072.Idx → EReal) (p : View.Piece (Elt Ideal) S256x192 .fp8e4m3) : Prop :=
  ∀ x : p.1.shape.Idx, (p.2 x : EReal) = scaleAt (R := 256) g x2 s3 (p.1.emb x 0) (p.1.emb x 1)

/-- The 128 features of a tile: what a load at column `256 kt + 128 p` reads. -/
def Reads (x2 : S256x3072.Idx → EReal) (k : Nat) (hk : k < 8) (kt : Nat) (hkt : kt < 12) (p : Nat) (hp : p < 2) (A : Vec Ideal S32x128 .bf16) : Prop :=
  ∀ (r : Fin 32) (l : Fin 128), (A (ValueIdx.ix2 r l) : EReal) = x2 (ValueIdx.ix2 (⟨32 * k + r.val, by omega⟩ : Fin 256) (⟨256 * kt + 128 * p + l.val, by omega⟩ : Fin 3072))

/-- The 128 smoothing factors of a half step. -/
def ReadsRow (s3 : S1x3072.Idx → EReal) (kt : Nat) (hkt : kt < 12) (p : Nat) (hp : p < 2) (S : Vec Ideal S1x128 .f32) : Prop :=
  ∀ l : Fin 128, (S (ValueIdx.ix2 (0 : Fin 1) l) : EReal) = s3 (ValueIdx.ix2 (0 : Fin 1) (⟨256 * kt + 128 * p + l.val, by omega⟩ : Fin 3072))

/-- A tile that holds the pair maxima of step `kt`. -/
def HoldsPairs (x2 : S256x3072.Idx → EReal) (s3 : S1x3072.Idx → EReal) (k : Nat) (hk : k < 8) (kt : Nat) (hkt : kt < 12) (t : FVec Ideal S32x128 .f32) : Prop :=
  ∀ (r : Fin 32) (l : Fin 128), (t (ValueIdx.ix2 r l) : EReal)
    = pairTop (R := 256) x2 s3 (⟨32 * k + r.val, by omega⟩ : Fin 256) (⟨256 * kt + l.val, by omega⟩ : Fin 3072) (⟨256 * kt + 128 + l.val, by omega⟩ : Fin 3072)

section
variable (x2 : S256x3072.Idx → EReal) (s3 : S1x3072.Idx → EReal) (k : Nat) (hk : k < 8) (kt : Nat) (hkt : kt < 12)

variable {A B : Vec Ideal S32x128 .bf16} {S S' : Vec Ideal S1x128 .f32}

/-- A feature of step `kt`, from the two tiles loaded for it. -/
theorem feature_of (hA : Reads x2 k hk kt hkt 0 (by decide) A) (hB : Reads x2 k hk kt hkt 1 (by decide) B) (r : Fin 32) (c : Fin 256) :
    (feature A B r c.val : EReal) = x2 (ValueIdx.ix2 (⟨32 * k + r.val, by omega⟩ : Fin 256) (⟨256 * kt + c.val, by omega⟩ : Fin 3072)) := by
  unfold feature
  split
  · rename_i h
    exact (hA r ⟨c.val, h⟩).trans (congrArg (fun b => x2 (ValueIdx.ix2 (⟨32 * k + r.val, by omega⟩ : Fin 256) b)) (Fin.ext (by show 256 * kt + 128 * 0 + c.val = 256 * kt + c.val; omega)))
  · rename_i h
    exact (hB r ⟨(c.val - 128) % 128, Nat.mod_lt _ (by decide)⟩).trans (congrArg (fun b => x2 (ValueIdx.ix2 (⟨32 * k + r.val, by omega⟩ : Fin 256) b))
      (Fin.ext (by show 256 * kt + 128 * 1 + (c.val - 128) % 128 = 256 * kt + c.val; omega)))

/-- One smoothed feature, by its lane in the even (`p = 0`) or odd (`p = 1`) half of step `kt`. -/
theorem xsp_at (hk' : 32 * k + 31 < 256) (hkt' : 256 * kt + 255 < 3072) (r : Fin 32) (l : Fin 128) (p : Nat) (hp : p < 2) (y0 : Fin 256) (y1 : Fin 3072) (h0 : y0.val = 32 * k + r.val) (h1 : y1.val = 256 * kt + 128 * p + l.val) :
    x2 (ValueIdx.ix2 (⟨32 * k + r.val, by omega⟩ : Fin 256) (⟨256 * kt + (2 * l.val + p), by omega⟩ : Fin 3072))
        * s3 (ValueIdx.ix2 (0 : Fin 1) (⟨256 * kt + 128 * p + l.val, by omega⟩ : Fin 3072)) = xsp (R := 256) x2 s3 y0 y1 := by
  have e0 : y0 = (⟨32 * k + r.val, by omega⟩ : Fin 256) := Fin.ext h0
  have e1 : y1 = (⟨256 * kt + 128 * p + l.val, by omega⟩ : Fin 3072) := Fin.ext h1
  have eu : unperm y1 = (⟨256 * kt + (2 * l.val + p), by omega⟩ : Fin 3072) := Fin.ext (by
    show 256 * (y1.val / 256) + 2 * (y1.val % 128) + y1.val / 128 % 2 = 256 * kt + (2 * l.val + p)
    rw [h1]; omega)
  exact congrArg₂ (fun x y : EReal => x * y) (congrArg₂ (fun a b => x2 (ValueIdx.ix2 a b)) e0.symm eu.symm) (congrArg (fun b => s3 (ValueIdx.ix2 (0 : Fin 1) b)) e1.symm)

/-- The even features of a step. -/
theorem even_at (hA : Reads x2 k hk kt hkt 0 (by decide) A) (hB : Reads x2 k hk kt hkt 1 (by decide) B) (hS : ReadsRow s3 kt hkt 0 (by decide) S)
    (r : Fin 32) (l : Fin 128) (y0 : Fin 256) (y1 : Fin 3072) (h0 : y0.val = 32 * k + r.val) (h1 : y1.val = 256 * kt + l.val) :
    (evenT (F := Ideal) A B S (ValueIdx.ix2 r l) : EReal) = xsp (R := 256) x2 s3 y0 y1 :=
  (evenT_apply A B S r l).trans ((congrArg₂ (fun x y : EReal => x * y) (feature_of x2 k hk kt hkt hA hB r (⟨2 * l.val, by omega⟩ : Fin 256)) (hS l)).trans
    (xsp_at x2 s3 k kt (by omega) (by omega) r l 0 (by decide) y0 y1 h0 h1))

/-- The odd features of a step. -/
theorem odd_at (hA : Reads x2 k hk kt hkt 0 (by decide) A) (hB : Reads x2 k hk kt hkt 1 (by decide) B) (hS : ReadsRow s3 kt hkt 1 (by decide) S)
    (r : Fin 32) (l : Fin 128) (y0 : Fin 256) (y1 : Fin 3072) (h0 : y0.val = 32 * k + r.val) (h1 : y1.val = 256 * kt + 128 + l.val) :
    (oddT (F := Ideal) A B S (ValueIdx.ix2 r l) : EReal) = xsp (R := 256) x2 s3 y0 y1 :=
  (oddT_apply A B S r l).trans ((congrArg₂ (fun x y : EReal => x * y) (feature_of x2 k hk kt hkt hA hB r (⟨2 * l.val + 1, by omega⟩ : Fin 256)) (hS l)).trans
    (xsp_at x2 s3 k kt (by omega) (by omega) r l 1 (by decide) y0 y1 h0 h1))

/-- The larger magnitude of a pair of features. -/
theorem pair_at (hA : Reads x2 k hk kt hkt 0 (by decide) A) (hB : Reads x2 k hk kt hkt 1 (by decide) B)
    (hS : ReadsRow s3 kt hkt 0 (by decide) S) (hS' : ReadsRow s3 kt hkt 1 (by decide) S')
    (r : Fin 32) (l : Fin 128) (y0 : Fin 256) (y1 y1' : Fin 3072) (h0 : y0.val = 32 * k + r.val) (h1 : y1.val = 256 * kt + l.val) (h1' : y1'.val = 256 * kt + 128 + l.val) :
    (pairMax (F := Ideal) A B S S' (ValueIdx.ix2 r l) : EReal) = pairTop (R := 256) x2 s3 y0 y1 y1' :=
  congrArg₂ (fun x y : EReal => max (max x (-x)) (max y (-y))) (even_at x2 s3 k hk kt hkt hA hB hS r l y0 y1 h0 h1) (odd_at x2 s3 k hk kt hkt hA hB hS' r l y0 y1' h0 h1')

/-- The tile of pair maxima of a step. -/
theorem holds_pair (hA : Reads x2 k hk kt hkt 0 (by decide) A) (hB : Reads x2 k hk kt hkt 1 (by decide) B)
    (hS : ReadsRow s3 kt hkt 0 (by decide) S) (hS' : ReadsRow s3 kt hkt 1 (by decide) S') : HoldsPairs x2 s3 k hk kt hkt (pairMax (F := Ideal) A B S S') :=
  fun r l => pair_at x2 s3 k hk kt hkt hA hB hS hS' r l _ _ _ rfl rfl rfl

variable {off : Fin S256x3072.rank → Nat} {inb : ∀ a, off a + S32x128.size a ≤ S256x3072.size a}

/-- The stored tile of even features. -/
theorem agree_even (ho : off = ![32 * k, 256 * kt]) (hA : Reads x2 k hk kt hkt 0 (by decide) A) (hB : Reads x2 k hk kt hkt 1 (by decide) B)
    (hS : ReadsRow s3 kt hkt 0 (by decide) S) :
    Agrees x2 s3 ⟨Rect.unit (s := S256x3072) off S32x128.size inb, stored (evenT (F := Ideal) A B S)⟩ := by
  subst ho
  intro x
  obtain ⟨r, l, rfl⟩ : ∃ (r : Fin 32) (l : Fin 128), x = ValueIdx.ix2 r l := ⟨x 0, x 1, ValueIdx.eq_ix2 x⟩
  show (shapeCast S32x128 (truncf .bf16 (evenT (F := Ideal) A B S) _) _ (ValueIdx.ix2 r l) : EReal) = _
  rw [shapeCast_self]
  exact even_at x2 s3 k hk kt hkt hA hB hS r l _ _ (by show 32 * k + 1 * r.val = _; omega) (by show 256 * kt + 1 * l.val = _; omega)

/-- The stored tile of odd features. -/
theorem agree_odd (ho : off = ![32 * k, 256 * kt + 128]) (hA : Reads x2 k hk kt hkt 0 (by decide) A) (hB : Reads x2 k hk kt hkt 1 (by decide) B)
    (hS : ReadsRow s3 kt hkt 1 (by decide) S) :
    Agrees x2 s3 ⟨Rect.unit (s := S256x3072) off S32x128.size inb, stored (oddT (F := Ideal) A B S)⟩ := by
  subst ho
  intro x
  obtain ⟨r, l, rfl⟩ : ∃ (r : Fin 32) (l : Fin 128), x = ValueIdx.ix2 r l := ⟨x 0, x 1, ValueIdx.eq_ix2 x⟩
  show (shapeCast S32x128 (truncf .bf16 (oddT (F := Ideal) A B S) _) _ (ValueIdx.ix2 r l) : EReal) = _
  rw [shapeCast_self]
  exact odd_at x2 s3 k hk kt hkt hA hB hS r l _ _ (by show 32 * k + 1 * r.val = _; omega) (by show 256 * kt + 128 + 1 * l.val = _; omega)
end

section
variable (g : EReal) (x2 : S256x3072.Idx → EReal) (s3 : S1x3072.Idx → EReal) (k : Nat) (hk : k < 8)

/-- The largest magnitude of group `q` of step `kt`, from the tile of that step. -/
theorem topAt_of (kt : Nat) (hkt : kt < 12) (t : FVec Ideal S32x128 .f32) (ht : HoldsPairs x2 s3 k hk kt hkt t) (r : Fin 32) (q : Fin 16)
    (y0 : Fin 256) (y1 : Fin 192) (h0 : y0.val = 32 * k + r.val) (h1 : y1.val = 16 * kt + q.val) :
    (Finset.univ.sup fun e : Fin 8 => (t (ValueIdx.ix2 r (octLane q e)) : EReal)) = topAt (R := 256) x2 s3 y0 y1 := by
  unfold topAt
  refine congrArg (Finset.univ.sup) (funext fun e => ?_)
  have h16 : y1.val / 16 = kt := by omega
  have hq : y1.val % 16 = q.val := by omega
  refine (ht r (octLane q e)).trans ?_
  have e0 : (⟨32 * k + r.val, by omega⟩ : Fin 256) = y0 := Fin.ext h0.symm
  have e1 : (⟨256 * kt + (octLane q e).val, by omega⟩ : Fin 3072) = (⟨256 * (y1.val / 16) + 8 * (y1.val % 16) + e.val, by omega⟩ : Fin 3072) :=
    Fin.ext (by show 256 * kt + (8 * q.val + e.val) = _; simp only [h16, hq]; omega)
  have e2 : (⟨256 * kt + 128 + (octLane q e).val, by omega⟩ : Fin 3072) = (⟨256 * (y1.val / 16) + 128 + 8 * (y1.val % 16) + e.val, by omega⟩ : Fin 3072) :=
    Fin.ext (by show 256 * kt + 128 + (8 * q.val + e.val) = _; simp only [h16, hq]; omega)
  rw [e0, e1, e2]

/-- The scale of group `q` of step `kt`, from the tile of that step. -/
theorem scaleAt_of (kt : Nat) (hkt : kt < 12) (t : FVec Ideal S32x128 .f32) (ht : HoldsPairs x2 s3 k hk kt hkt t) (r : Fin 32) (q : Fin 16)
    (y0 : Fin 256) (y1 : Fin 192) (h0 : y0.val = 32 * k + r.val) (h1 : y1.val = 16 * kt + q.val) :
    scaleOf g (Finset.univ.sup fun e : Fin 8 => (t (ValueIdx.ix2 r (octLane q e)) : EReal)) = scaleAt (R := 256) g x2 s3 y0 y1 :=
  congrArg (scaleOf g) (topAt_of x2 s3 k hk kt hkt t ht r q y0 y1 h0 h1)

/-- The first 128 groups of a row slab: the scales of steps 0 to 7. -/
theorem agree_scales8 {off : Fin S256x192.rank → Nat} {inb : ∀ a, off a + S32x128.size a ≤ S256x192.size a} (ho : off = ![32 * k, 0])
    (t : Fin 8 → FVec Ideal S32x128 .f32) (ht : ∀ j : Fin 8, HoldsPairs x2 s3 k hk j.val (by omega) (t j)) :
    ScaleAgrees g x2 s3 ⟨Rect.unit (s := S256x192) off S32x128.size inb,
      outScales (F := Ideal) g (groupMax8 (F := Ideal) (t 0) (t 1) (t 2) (t 3) (t 4) (t 5) (t 6) (t 7))⟩ := by
  subst ho
  intro x
  obtain ⟨r, o, rfl⟩ : ∃ (r : Fin 32) (o : Fin 128), x = ValueIdx.ix2 r o := ⟨x 0, x 1, ValueIdx.eq_ix2 x⟩
  refine (outScales_apply g _ r o).trans ?_
  refine (congrArg (scaleOf g) (groupMax8_apply t r ⟨o.val % 16, Nat.mod_lt _ (by decide)⟩ ⟨o.val / 16, by omega⟩)).trans ?_
  exact scaleAt_of g x2 s3 k hk (o.val / 16) (by omega) _ (ht ⟨o.val / 16, by omega⟩) r ⟨o.val % 16, Nat.mod_lt _ (by decide)⟩ _ _
    (by show 32 * k + 1 * r.val = _; omega) (by show 0 + 1 * o.val = 16 * (o.val / 16) + o.val % 16; omega)

/-- The last 64 groups of a row slab: the scales of steps 8 to 11. -/
theorem agree_scales4 {off : Fin S256x192.rank → Nat} {inb : ∀ a, off a + S32x64.size a ≤ S256x192.size a} (ho : off = ![32 * k, 128])
    (t : Fin 4 → FVec Ideal S32x128 .f32) (ht : ∀ j : Fin 4, HoldsPairs x2 s3 k hk (8 + j.val) (by omega) (t j)) :
    ScaleAgrees g x2 s3 ⟨Rect.unit (s := S256x192) off S32x64.size inb,
      extractStridedSlice S32x64 ![0, 0] (outScales (F := Ideal) g (groupMax4 (F := Ideal) (t 0) (t 1) (t 2) (t 3))) slices_S32x128_o0_0_S32x64⟩ := by
  subst ho
  intro x
  obtain ⟨r, o, rfl⟩ : ∃ (r : Fin 32) (o : Fin 64), x = ValueIdx.ix2 r o := ⟨x 0, x 1, ValueIdx.eq_ix2 x⟩
  have e : extractStridedSlice S32x64 ![0, 0] (outScales (F := Ideal) g (groupMax4 (F := Ideal) (t 0) (t 1) (t 2) (t 3))) slices_S32x128_o0_0_S32x64 (ValueIdx.ix2 r o)
      = outScales (F := Ideal) g (groupMax4 (F := Ideal) (t 0) (t 1) (t 2) (t 3)) (ValueIdx.ix2 r (⟨o.val, by omega⟩ : Fin 128)) := by
    refine congrArg (outScales (F := Ideal) g (groupMax4 (F := Ideal) (t 0) (t 1) (t 2) (t 3))) (funext fun a => ?_)
    match a with
    | ⟨0, _⟩ => exact Fin.ext (by show 0 + r.val = r.val; omega)
    | ⟨1, _⟩ => exact Fin.ext (by show 0 + o.val = o.val; omega)
  refine e.trans ((outScales_apply g _ r _).trans ?_)
  refine (congrArg (scaleOf g) (groupMax4_apply t r ⟨o.val % 16, Nat.mod_lt _ (by decide)⟩ ⟨o.val / 16, by omega⟩ (by show o.val / 16 < 4; omega))).trans ?_
  exact scaleAt_of g x2 s3 k hk (8 + o.val / 16) (by omega) _ (ht ⟨o.val / 16, by omega⟩) r ⟨o.val % 16, Nat.mod_lt _ (by decide)⟩ _ _
    (by show 32 * k + 1 * r.val = _; omega) (by show 128 + 1 * o.val = 16 * (8 + o.val / 16) + o.val % 16; omega)
end

section
variable (g : EReal) (x2 : S256x3072.Idx → EReal) (s3 : S1x3072.Idx → EReal) (k : Nat) (hk : k < 8) {t0 t1 t2 t3 t4 t5 t6 t7 : FVec Ideal S32x128 .f32}

/-- The stored tile of the first 128 scales. -/
theorem agree_first {off : Fin S256x192.rank → Nat} {inb : ∀ a, off a + S32x128.size a ≤ S256x192.size a} (ho : off = ![32 * k, 0])
    (h0 : HoldsPairs x2 s3 k hk 0 (by decide) t0) (h1 : HoldsPairs x2 s3 k hk 1 (by decide) t1) (h2 : HoldsPairs x2 s3 k hk 2 (by decide) t2)
    (h3 : HoldsPairs x2 s3 k hk 3 (by decide) t3) (h4 : HoldsPairs x2 s3 k hk 4 (by decide) t4) (h5 : HoldsPairs x2 s3 k hk 5 (by decide) t5)
    (h6 : HoldsPairs x2 s3 k hk 6 (by decide) t6) (h7 : HoldsPairs x2 s3 k hk 7 (by decide) t7) :
    ScaleAgrees g x2 s3 ⟨Rect.unit (s := S256x192) off S32x128.size inb, outScales (F := Ideal) g (groupMax8 (F := Ideal) t0 t1 t2 t3 t4 t5 t6 t7)⟩ :=
  agree_scales8 g x2 s3 k hk ho ![t0, t1, t2, t3, t4, t5, t6, t7] (fun j => by fin_cases j; exacts [h0, h1, h2, h3, h4, h5, h6, h7])

/-- The stored tile of the last 64 scales. -/
theorem agree_last {off : Fin S256x192.rank → Nat} {inb : ∀ a, off a + S32x64.size a ≤ S256x192.size a} (ho : off = ![32 * k, 128])
    (h0 : HoldsPairs x2 s3 k hk 8 (by decide) t0) (h1 : HoldsPairs x2 s3 k hk 9 (by decide) t1) (h2 : HoldsPairs x2 s3 k hk 10 (by decide) t2)
    (h3 : HoldsPairs x2 s3 k hk 11 (by decide) t3) :
    ScaleAgrees g x2 s3 ⟨Rect.unit (s := S256x192) off S32x64.size inb,
      extractStridedSlice S32x64 ![0, 0] (outScales (F := Ideal) g (groupMax4 (F := Ideal) t0 t1 t2 t3)) slices_S32x128_o0_0_S32x64⟩ :=
  agree_scales4 g x2 s3 k hk ho ![t0, t1, t2, t3] (fun j => by fin_cases j; exacts [h0, h1, h2, h3])
end

section
variable (arg2 : Memref sig .tc .vmem S256x3072 .bf16) (X2 : BufTy.Contents (Elt Ideal) arg2.view.ty)
  (arg3 : Memref sig .tc .vmem S1x3072 .f32) (X3 : BufTy.Contents (Elt Ideal) arg3.view.ty) (k : Nat) (hk : k < 8) (kt : Nat) (hkt : kt < 12)

/-- A loaded tile of features at an index. -/
theorem reads_at (p : Nat) (hp : p < 2) {off : Fin S256x3072.rank → Nat} {inb : ∀ a, off a + S32x128.size a ≤ S256x3072.size a} (ho : off = ![32 * k, 256 * kt + 128 * p]) :
    Reads (arg2.view.read (Elt Ideal) X2) k hk kt hkt p hp (arg2.view.readAt (Elt Ideal) (Rect.unit (s := S256x3072) off S32x128.size inb).toLoadRect X2) := by
  subst ho
  intro r l
  rw [View.readAt_eq_ld]
  show arg2.view.read (Elt Ideal) X2 _ = _
  congr 1
  funext a
  match a with
  | ⟨0, _⟩ => exact Fin.ext (by show 32 * k + 1 * r.val = 32 * k + r.val; omega)
  | ⟨1, _⟩ => exact Fin.ext (by show 256 * kt + 128 * p + 1 * l.val = 256 * kt + 128 * p + l.val; omega)

/-- A loaded row of smoothing factors at an index. -/
theorem readsRow_at (p : Nat) (hp : p < 2) {off : Fin S1x3072.rank → Nat} {inb : ∀ a, off a + S1x128.size a ≤ S1x3072.size a} (ho : off = ![0, 256 * kt + 128 * p]) :
    ReadsRow (arg3.view.read (Elt Ideal) X3) kt hkt p hp (arg3.view.readAt (Elt Ideal) (Rect.unit (s := S1x3072) off S1x128.size inb).toLoadRect X3) := by
  subst ho
  intro l
  rw [View.readAt_eq_ld]
  show arg3.view.read (Elt Ideal) X3 _ = _
  congr 1
  funext a
  match a with
  | ⟨0, _⟩ => rfl
  | ⟨1, _⟩ => exact Fin.ext (by show 256 * kt + 128 * p + 1 * l.val = 256 * kt + 128 * p + l.val; omega)
end

section
variable (𝒱 : Variants) (c : Dev nD) (bd : Option 𝒱.V) (i : grid0.Coords)
  (arg1 : Memref sig .tc .smem S1x1 .f32) (harg1 : arg1.IsWhole)
  (arg2 : Memref sig .tc .vmem S256x3072 .bf16) (harg2 : arg2.IsWhole)
  (arg3 : Memref sig .tc .vmem S1x3072 .f32) (harg3 : arg3.IsWhole)
  (arg4 : Memref sig .tc .vmem S3072x32 .bf16) (harg4 : arg4.IsWhole)
  (arg5 : Memref sig .tc .vmem S256x1536 .i8) (harg5 : arg5.IsWhole)
  (arg6 : Memref sig .tc .vmem S256x192 .fp8e4m3) (harg6 : arg6.IsWhole)
  (arg7 : Memref sig .tc .vmem S256x3072 .bf16) (harg7 : arg7.IsWhole)
  (arg8 : Memref sig .tc .vmem S256x32 .bf16) (harg8 : arg8.IsWhole)
  (arg9 : Memref sig .tc .vmem S256x3072 .bf16) (harg9 : arg9.IsWhole)
  (X1 : BufTy.Contents (Elt Ideal) arg1.view.ty) (X2 : BufTy.Contents (Elt Ideal) arg2.view.ty) (X3 : BufTy.Contents (Elt Ideal) arg3.view.ty)

set_option maxHeartbeats 4000000 in
/-- Every tile one trip of the loop stores in the scratch array agrees with the smoothed features. -/
theorem trip_agrees (k : Fin k0_t1_loop.trips) :
    ∀ p ∈ (tripL_k0_t1 (F := Ideal) 𝒱 c bd i arg1 harg1 arg2 harg2 arg3 harg3 arg4 harg4 arg5 harg5 arg6 harg6 arg7 harg7 arg8 harg8 arg9 harg9 X1 X2 X3 k).2.2.2,
      Agrees (arg2.view.read (Elt Ideal) X2) (arg3.view.read (Elt Ideal) X3) p := by
  have hk : k.val < 8 := Nat.lt_of_lt_of_le k.isLt k0_t1_abs.2.1
  generalize hx2 : arg2.view.read (Elt Ideal) X2 = x2
  generalize hx3 : arg3.view.read (Elt Ideal) X3 = x3
  unfold tripL_k0_t1 trip_k0_t1
  dsimp only
  subst hx2
  subst hx3
  refine List.forall_mem_cons.2 ⟨(agree_odd _ _ k.val hk 11 (by decide) (k0_off24_eq k) (reads_at arg2 X2 k.val hk 11 (by decide) 0 (by decide) (k0_off23_eq k) (inb := k0_off23_inb k))
    (reads_at arg2 X2 k.val hk 11 (by decide) 1 (by decide) (k0_off24_eq k) (inb := k0_off24_inb k)) (readsRow_at arg3 X3 11 (by decide) 1 (by decide) (rfl : (![0, 2944] : Fin 2 → Nat) = _) (inb := inb_S1x3072_S1x128_0_2944)) :), ?_⟩
  refine List.forall_mem_cons.2 ⟨(agree_even _ _ k.val hk 11 (by decide) (k0_off23_eq k) (reads_at arg2 X2 k.val hk 11 (by decide) 0 (by decide) (k0_off23_eq k) (inb := k0_off23_inb k))
    (reads_at arg2 X2 k.val hk 11 (by decide) 1 (by decide) (k0_off24_eq k) (inb := k0_off24_inb k)) (readsRow_at arg3 X3 11 (by decide) 0 (by decide) (rfl : (![0, 2816] : Fin 2 → Nat) = _) (inb := inb_S1x3072_S1x128_0_2816)) :), ?_⟩
  refine List.forall_mem_cons.2 ⟨(agree_odd _ _ k.val hk 10 (by decide) (k0_off22_eq k) (reads_at arg2 X2 k.val hk 10 (by decide) 0 (by decide) (k0_off21_eq k) (inb := k0_off21_inb k))
    (reads_at arg2 X2 k.val hk 10 (by decide) 1 (by decide) (k0_off22_eq k) (inb := k0_off22_inb k)) (readsRow_at arg3 X3 10 (by decide) 1 (by decide) (rfl : (![0, 2688] : Fin 2 → Nat) = _) (inb := inb_S1x3072_S1x128_0_2688)) :), ?_⟩
  refine List.forall_mem_cons.2 ⟨(agree_even _ _ k.val hk 10 (by decide) (k0_off21_eq k) (reads_at arg2 X2 k.val hk 10 (by decide) 0 (by decide) (k0_off21_eq k) (inb := k0_off21_inb k))
    (reads_at arg2 X2 k.val hk 10 (by decide) 1 (by decide) (k0_off22_eq k) (inb := k0_off22_inb k)) (readsRow_at arg3 X3 10 (by decide) 0 (by decide) (rfl : (![0, 2560] : Fin 2 → Nat) = _) (inb := inb_S1x3072_S1x128_0_2560)) :), ?_⟩
  refine List.forall_mem_cons.2 ⟨(agree_odd _ _ k.val hk 9 (by decide) (k0_off20_eq k) (reads_at arg2 X2 k.val hk 9 (by decide) 0 (by decide) (k0_off19_eq k) (inb := k0_off19_inb k))
    (reads_at arg2 X2 k.val hk 9 (by decide) 1 (by decide) (k0_off20_eq k) (inb := k0_off20_inb k)) (readsRow_at arg3 X3 9 (by decide) 1 (by decide) (rfl : (![0, 2432] : Fin 2 → Nat) = _) (inb := inb_S1x3072_S1x128_0_2432)) :), ?_⟩
  refine List.forall_mem_cons.2 ⟨(agree_even _ _ k.val hk 9 (by decide) (k0_off19_eq k) (reads_at arg2 X2 k.val hk 9 (by decide) 0 (by decide) (k0_off19_eq k) (inb := k0_off19_inb k))
    (reads_at arg2 X2 k.val hk 9 (by decide) 1 (by decide) (k0_off20_eq k) (inb := k0_off20_inb k)) (readsRow_at arg3 X3 9 (by decide) 0 (by decide) (rfl : (![0, 2304] : Fin 2 → Nat) = _) (inb := inb_S1x3072_S1x128_0_2304)) :), ?_⟩
  refine List.forall_mem_cons.2 ⟨(agree_odd _ _ k.val hk 8 (by decide) (k0_off18_eq k) (reads_at arg2 X2 k.val hk 8 (by decide) 0 (by decide) (k0_off17_eq k) (inb := k0_off17_inb k))
    (reads_at arg2 X2 k.val hk 8 (by decide) 1 (by decide) (k0_off18_eq k) (inb := k0_off18_inb k)) (readsRow_at arg3 X3 8 (by decide) 1 (by decide) (rfl : (![0, 2176] : Fin 2 → Nat) = _) (inb := inb_S1x3072_S1x128_0_2176)) :), ?_⟩
  refine List.forall_mem_cons.2 ⟨(agree_even _ _ k.val hk 8 (by decide) (k0_off17_eq k) (reads_at arg2 X2 k.val hk 8 (by decide) 0 (by decide) (k0_off17_eq k) (inb := k0_off17_inb k))
    (reads_at arg2 X2 k.val hk 8 (by decide) 1 (by decide) (k0_off18_eq k) (inb := k0_off18_inb k)) (readsRow_at arg3 X3 8 (by decide) 0 (by decide) (rfl : (![0, 2048] : Fin 2 → Nat) = _) (inb := inb_S1x3072_S1x128_0_2048)) :), ?_⟩
  refine List.forall_mem_cons.2 ⟨(agree_odd _ _ k.val hk 7 (by decide) (k0_off16_eq k) (reads_at arg2 X2 k.val hk 7 (by decide) 0 (by decide) (k0_off15_eq k) (inb := k0_off15_inb k))
    (reads_at arg2 X2 k.val hk 7 (by decide) 1 (by decide) (k0_off16_eq k) (inb := k0_off16_inb k)) (readsRow_at arg3 X3 7 (by decide) 1 (by decide) (rfl : (![0, 1920] : Fin 2 → Nat) = _) (inb := inb_S1x3072_S1x128_0_1920)) :), ?_⟩
  refine List.forall_mem_cons.2 ⟨(agree_even _ _ k.val hk 7 (by decide) (k0_off15_eq k) (reads_at arg2 X2 k.val hk 7 (by decide) 0 (by decide) (k0_off15_eq k) (inb := k0_off15_inb k))
    (reads_at arg2 X2 k.val hk 7 (by decide) 1 (by decide) (k0_off16_eq k) (inb := k0_off16_inb k)) (readsRow_at arg3 X3 7 (by decide) 0 (by decide) (rfl : (![0, 1792] : Fin 2 → Nat) = _) (inb := inb_S1x3072_S1x128_0_1792)) :), ?_⟩
  refine List.forall_mem_cons.2 ⟨(agree_odd _ _ k.val hk 6 (by decide) (k0_off14_eq k) (reads_at arg2 X2 k.val hk 6 (by decide) 0 (by decide) (k0_off13_eq k) (inb := k0_off13_inb k))
    (reads_at arg2 X2 k.val hk 6 (by decide) 1 (by decide) (k0_off14_eq k) (inb := k0_off14_inb k)) (readsRow_at arg3 X3 6 (by decide) 1 (by decide) (rfl : (![0, 1664] : Fin 2 → Nat) = _) (inb := inb_S1x3072_S1x128_0_1664)) :), ?_⟩
  refine List.forall_mem_cons.2 ⟨(agree_even _ _ k.val hk 6 (by decide) (k0_off13_eq k) (reads_at arg2 X2 k.val hk 6 (by decide) 0 (by decide) (k0_off13_eq k) (inb := k0_off13_inb k))
    (reads_at arg2 X2 k.val hk 6 (by decide) 1 (by decide) (k0_off14_eq k) (inb := k0_off14_inb k)) (readsRow_at arg3 X3 6 (by decide) 0 (by decide) (rfl : (![0, 1536] : Fin 2 → Nat) = _) (inb := inb_S1x3072_S1x128_0_1536)) :), ?_⟩
  refine List.forall_mem_cons.2 ⟨(agree_odd _ _ k.val hk 5 (by decide) (k0_off12_eq k) (reads_at arg2 X2 k.val hk 5 (by decide) 0 (by decide) (k0_off11_eq k) (inb := k0_off11_inb k))
    (reads_at arg2 X2 k.val hk 5 (by decide) 1 (by decide) (k0_off12_eq k) (inb := k0_off12_inb k)) (readsRow_at arg3 X3 5 (by decide) 1 (by decide) (rfl : (![0, 1408] : Fin 2 → Nat) = _) (inb := inb_S1x3072_S1x128_0_1408)) :), ?_⟩
  refine List.forall_mem_cons.2 ⟨(agree_even _ _ k.val hk 5 (by decide) (k0_off11_eq k) (reads_at arg2 X2 k.val hk 5 (by decide) 0 (by decide) (k0_off11_eq k) (inb := k0_off11_inb k))
    (reads_at arg2 X2 k.val hk 5 (by decide) 1 (by decide) (k0_off12_eq k) (inb := k0_off12_inb k)) (readsRow_at arg3 X3 5 (by decide) 0 (by decide) (rfl : (![0, 1280] : Fin 2 → Nat) = _) (inb := inb_S1x3072_S1x128_0_1280)) :), ?_⟩
  refine List.forall_mem_cons.2 ⟨(agree_odd _ _ k.val hk 4 (by decide) (k0_off10_eq k) (reads_at arg2 X2 k.val hk 4 (by decide) 0 (by decide) (k0_off9_eq k) (inb := k0_off9_inb k))
    (reads_at arg2 X2 k.val hk 4 (by decide) 1 (by decide) (k0_off10_eq k) (inb := k0_off10_inb k)) (readsRow_at arg3 X3 4 (by decide) 1 (by decide) (rfl : (![0, 1152] : Fin 2 → Nat) = _) (inb := inb_S1x3072_S1x128_0_1152)) :), ?_⟩
  refine List.forall_mem_cons.2 ⟨(agree_even _ _ k.val hk 4 (by decide) (k0_off9_eq k) (reads_at arg2 X2 k.val hk 4 (by decide) 0 (by decide) (k0_off9_eq k) (inb := k0_off9_inb k))
    (reads_at arg2 X2 k.val hk 4 (by decide) 1 (by decide) (k0_off10_eq k) (inb := k0_off10_inb k)) (readsRow_at arg3 X3 4 (by decide) 0 (by decide) (rfl : (![0, 1024] : Fin 2 → Nat) = _) (inb := inb_S1x3072_S1x128_0_1024)) :), ?_⟩
  refine List.forall_mem_cons.2 ⟨(agree_odd _ _ k.val hk 3 (by decide) (k0_off8_eq k) (reads_at arg2 X2 k.val hk 3 (by decide) 0 (by decide) (k0_off7_eq k) (inb := k0_off7_inb k))
    (reads_at arg2 X2 k.val hk 3 (by decide) 1 (by decide) (k0_off8_eq k) (inb := k0_off8_inb k)) (readsRow_at arg3 X3 3 (by decide) 1 (by decide) (rfl : (![0, 896] : Fin 2 → Nat) = _) (inb := inb_S1x3072_S1x128_0_896)) :), ?_⟩
  refine List.forall_mem_cons.2 ⟨(agree_even _ _ k.val hk 3 (by decide) (k0_off7_eq k) (reads_at arg2 X2 k.val hk 3 (by decide) 0 (by decide) (k0_off7_eq k) (inb := k0_off7_inb k))
    (reads_at arg2 X2 k.val hk 3 (by decide) 1 (by decide) (k0_off8_eq k) (inb := k0_off8_inb k)) (readsRow_at arg3 X3 3 (by decide) 0 (by decide) (rfl : (![0, 768] : Fin 2 → Nat) = _) (inb := inb_S1x3072_S1x128_0_768)) :), ?_⟩
  refine List.forall_mem_cons.2 ⟨(agree_odd _ _ k.val hk 2 (by decide) (k0_off6_eq k) (reads_at arg2 X2 k.val hk 2 (by decide) 0 (by decide) (k0_off5_eq k) (inb := k0_off5_inb k))
    (reads_at arg2 X2 k.val hk 2 (by decide) 1 (by decide) (k0_off6_eq k) (inb := k0_off6_inb k)) (readsRow_at arg3 X3 2 (by decide) 1 (by decide) (rfl : (![0, 640] : Fin 2 → Nat) = _) (inb := inb_S1x3072_S1x128_0_640)) :), ?_⟩
  refine List.forall_mem_cons.2 ⟨(agree_even _ _ k.val hk 2 (by decide) (k0_off5_eq k) (reads_at arg2 X2 k.val hk 2 (by decide) 0 (by decide) (k0_off5_eq k) (inb := k0_off5_inb k))
    (reads_at arg2 X2 k.val hk 2 (by decide) 1 (by decide) (k0_off6_eq k) (inb := k0_off6_inb k)) (readsRow_at arg3 X3 2 (by decide) 0 (by decide) (rfl : (![0, 512] : Fin 2 → Nat) = _) (inb := inb_S1x3072_S1x128_0_512)) :), ?_⟩
  refine List.forall_mem_cons.2 ⟨(agree_odd _ _ k.val hk 1 (by decide) (k0_off4_eq k) (reads_at arg2 X2 k.val hk 1 (by decide) 0 (by decide) (k0_off3_eq k) (inb := k0_off3_inb k))
    (reads_at arg2 X2 k.val hk 1 (by decide) 1 (by decide) (k0_off4_eq k) (inb := k0_off4_inb k)) (readsRow_at arg3 X3 1 (by decide) 1 (by decide) (rfl : (![0, 384] : Fin 2 → Nat) = _) (inb := inb_S1x3072_S1x128_0_384)) :), ?_⟩
  refine List.forall_mem_cons.2 ⟨(agree_even _ _ k.val hk 1 (by decide) (k0_off3_eq k) (reads_at arg2 X2 k.val hk 1 (by decide) 0 (by decide) (k0_off3_eq k) (inb := k0_off3_inb k))
    (reads_at arg2 X2 k.val hk 1 (by decide) 1 (by decide) (k0_off4_eq k) (inb := k0_off4_inb k)) (readsRow_at arg3 X3 1 (by decide) 0 (by decide) (rfl : (![0, 256] : Fin 2 → Nat) = _) (inb := inb_S1x3072_S1x128_0_256)) :), ?_⟩
  refine List.forall_mem_cons.2 ⟨(agree_odd _ _ k.val hk 0 (by decide) (k0_off2_eq k) (reads_at arg2 X2 k.val hk 0 (by decide) 0 (by decide) (k0_off1_eq k) (inb := k0_off1_inb k))
    (reads_at arg2 X2 k.val hk 0 (by decide) 1 (by decide) (k0_off2_eq k) (inb := k0_off2_inb k)) (readsRow_at arg3 X3 0 (by decide) 1 (by decide) (rfl : (![0, 128] : Fin 2 → Nat) = _) (inb := inb_S1x3072_S1x128_0_128)) :), ?_⟩
  refine List.forall_mem_cons.2 ⟨(agree_even _ _ k.val hk 0 (by decide) (k0_off1_eq k) (reads_at arg2 X2 k.val hk 0 (by decide) 0 (by decide) (k0_off1_eq k) (inb := k0_off1_inb k))
    (reads_at arg2 X2 k.val hk 0 (by decide) 1 (by decide) (k0_off2_eq k) (inb := k0_off2_inb k)) (readsRow_at arg3 X3 0 (by decide) 0 (by decide) (rfl : (![0, 0] : Fin 2 → Nat) = _) (inb := inb_S1x3072_S1x128_0_0)) :), ?_⟩
  exact fun p hp => absurd hp List.not_mem_nil

set_option maxHeartbeats 4000000 in
/-- Both tiles of scales that one trip of the loop stores agree with the scales. -/
theorem trip_scales (k : Fin k0_t1_loop.trips) :
    ∀ p ∈ (tripL_k0_t1 (F := Ideal) 𝒱 c bd i arg1 harg1 arg2 harg2 arg3 harg3 arg4 harg4 arg5 harg5 arg6 harg6 arg7 harg7 arg8 harg8 arg9 harg9 X1 X2 X3 k).2.1,
      ScaleAgrees (arg1.view.read (Elt Ideal) X1 (ValueIdx.ix2 (0 : Fin 1) (0 : Fin 1))) (arg2.view.read (Elt Ideal) X2) (arg3.view.read (Elt Ideal) X3) p := by
  have hk : k.val < 8 := Nat.lt_of_lt_of_le k.isLt k0_t1_abs.2.1
  have hg : arg1.view.readAt (Elt Ideal) (Rect.unit ![0, 0] S1x1.size inb_S1x1_S1x1_0_0).toLoadRect X1 (Shape.Idx.first (Nat.lt_of_lt_of_eq Nat.zero_lt_one numel1_S1x1.symm))
      = arg1.view.read (Elt Ideal) X1 (ValueIdx.ix2 (0 : Fin 1) (0 : Fin 1)) := by
    rw [View.readAt_eq_ld]
    exact congrArg (arg1.view.read (Elt Ideal) X1) (funext fun a => by fin_cases a <;> rfl)
  rw [← hg]
  generalize hx2 : arg2.view.read (Elt Ideal) X2 = x2
  generalize hx3 : arg3.view.read (Elt Ideal) X3 = x3
  unfold tripL_k0_t1 trip_k0_t1
  dsimp only
  subst hx2
  subst hx3
  refine List.forall_mem_cons.2 ⟨(agree_last _ _ _ k.val hk (k0_off26_eq k)
      (holds_pair _ _ k.val hk 8 (by decide) (reads_at arg2 X2 k.val hk 8 (by decide) 0 (by decide) (k0_off17_eq k) (inb := k0_off17_inb k))
      (reads_at arg2 X2 k.val hk 8 (by decide) 1 (by decide) (k0_off18_eq k) (inb := k0_off18_inb k))
      (readsRow_at arg3 X3 8 (by decide) 0 (by decide) (rfl : (![0, 2048] : Fin 2 → Nat) = _) (inb := inb_S1x3072_S1x128_0_2048)) (readsRow_at arg3 X3 8 (by decide) 1 (by decide) (rfl : (![0, 2176] : Fin 2 → Nat) = _) (inb := inb_S1x3072_S1x128_0_2176)))
      (holds_pair _ _ k.val hk 9 (by decide) (reads_at arg2 X2 k.val hk 9 (by decide) 0 (by decide) (k0_off19_eq k) (inb := k0_off19_inb k))
      (reads_at arg2 X2 k.val hk 9 (by decide) 1 (by decide) (k0_off20_eq k) (inb := k0_off20_inb k))
      (readsRow_at arg3 X3 9 (by decide) 0 (by decide) (rfl : (![0, 2304] : Fin 2 → Nat) = _) (inb := inb_S1x3072_S1x128_0_2304)) (readsRow_at arg3 X3 9 (by decide) 1 (by decide) (rfl : (![0, 2432] : Fin 2 → Nat) = _) (inb := inb_S1x3072_S1x128_0_2432)))
      (holds_pair _ _ k.val hk 10 (by decide) (reads_at arg2 X2 k.val hk 10 (by decide) 0 (by decide) (k0_off21_eq k) (inb := k0_off21_inb k))
      (reads_at arg2 X2 k.val hk 10 (by decide) 1 (by decide) (k0_off22_eq k) (inb := k0_off22_inb k))
      (readsRow_at arg3 X3 10 (by decide) 0 (by decide) (rfl : (![0, 2560] : Fin 2 → Nat) = _) (inb := inb_S1x3072_S1x128_0_2560)) (readsRow_at arg3 X3 10 (by decide) 1 (by decide) (rfl : (![0, 2688] : Fin 2 → Nat) = _) (inb := inb_S1x3072_S1x128_0_2688)))
      (holds_pair _ _ k.val hk 11 (by decide) (reads_at arg2 X2 k.val hk 11 (by decide) 0 (by decide) (k0_off23_eq k) (inb := k0_off23_inb k))
      (reads_at arg2 X2 k.val hk 11 (by decide) 1 (by decide) (k0_off24_eq k) (inb := k0_off24_inb k))
      (readsRow_at arg3 X3 11 (by decide) 0 (by decide) (rfl : (![0, 2816] : Fin 2 → Nat) = _) (inb := inb_S1x3072_S1x128_0_2816)) (readsRow_at arg3 X3 11 (by decide) 1 (by decide) (rfl : (![0, 2944] : Fin 2 → Nat) = _) (inb := inb_S1x3072_S1x128_0_2944))) :), ?_⟩
  refine List.forall_mem_cons.2 ⟨(agree_first _ _ _ k.val hk (k0_off25_eq k)
      (holds_pair _ _ k.val hk 0 (by decide) (reads_at arg2 X2 k.val hk 0 (by decide) 0 (by decide) (k0_off1_eq k) (inb := k0_off1_inb k))
      (reads_at arg2 X2 k.val hk 0 (by decide) 1 (by decide) (k0_off2_eq k) (inb := k0_off2_inb k))
      (readsRow_at arg3 X3 0 (by decide) 0 (by decide) (rfl : (![0, 0] : Fin 2 → Nat) = _) (inb := inb_S1x3072_S1x128_0_0)) (readsRow_at arg3 X3 0 (by decide) 1 (by decide) (rfl : (![0, 128] : Fin 2 → Nat) = _) (inb := inb_S1x3072_S1x128_0_128)))
      (holds_pair _ _ k.val hk 1 (by decide) (reads_at arg2 X2 k.val hk 1 (by decide) 0 (by decide) (k0_off3_eq k) (inb := k0_off3_inb k))
      (reads_at arg2 X2 k.val hk 1 (by decide) 1 (by decide) (k0_off4_eq k) (inb := k0_off4_inb k))
      (readsRow_at arg3 X3 1 (by decide) 0 (by decide) (rfl : (![0, 256] : Fin 2 → Nat) = _) (inb := inb_S1x3072_S1x128_0_256)) (readsRow_at arg3 X3 1 (by decide) 1 (by decide) (rfl : (![0, 384] : Fin 2 → Nat) = _) (inb := inb_S1x3072_S1x128_0_384)))
      (holds_pair _ _ k.val hk 2 (by decide) (reads_at arg2 X2 k.val hk 2 (by decide) 0 (by decide) (k0_off5_eq k) (inb := k0_off5_inb k))
      (reads_at arg2 X2 k.val hk 2 (by decide) 1 (by decide) (k0_off6_eq k) (inb := k0_off6_inb k))
      (readsRow_at arg3 X3 2 (by decide) 0 (by decide) (rfl : (![0, 512] : Fin 2 → Nat) = _) (inb := inb_S1x3072_S1x128_0_512)) (readsRow_at arg3 X3 2 (by decide) 1 (by decide) (rfl : (![0, 640] : Fin 2 → Nat) = _) (inb := inb_S1x3072_S1x128_0_640)))
      (holds_pair _ _ k.val hk 3 (by decide) (reads_at arg2 X2 k.val hk 3 (by decide) 0 (by decide) (k0_off7_eq k) (inb := k0_off7_inb k))
      (reads_at arg2 X2 k.val hk 3 (by decide) 1 (by decide) (k0_off8_eq k) (inb := k0_off8_inb k))
      (readsRow_at arg3 X3 3 (by decide) 0 (by decide) (rfl : (![0, 768] : Fin 2 → Nat) = _) (inb := inb_S1x3072_S1x128_0_768)) (readsRow_at arg3 X3 3 (by decide) 1 (by decide) (rfl : (![0, 896] : Fin 2 → Nat) = _) (inb := inb_S1x3072_S1x128_0_896)))
      (holds_pair _ _ k.val hk 4 (by decide) (reads_at arg2 X2 k.val hk 4 (by decide) 0 (by decide) (k0_off9_eq k) (inb := k0_off9_inb k))
      (reads_at arg2 X2 k.val hk 4 (by decide) 1 (by decide) (k0_off10_eq k) (inb := k0_off10_inb k))
      (readsRow_at arg3 X3 4 (by decide) 0 (by decide) (rfl : (![0, 1024] : Fin 2 → Nat) = _) (inb := inb_S1x3072_S1x128_0_1024)) (readsRow_at arg3 X3 4 (by decide) 1 (by decide) (rfl : (![0, 1152] : Fin 2 → Nat) = _) (inb := inb_S1x3072_S1x128_0_1152)))
      (holds_pair _ _ k.val hk 5 (by decide) (reads_at arg2 X2 k.val hk 5 (by decide) 0 (by decide) (k0_off11_eq k) (inb := k0_off11_inb k))
      (reads_at arg2 X2 k.val hk 5 (by decide) 1 (by decide) (k0_off12_eq k) (inb := k0_off12_inb k))
      (readsRow_at arg3 X3 5 (by decide) 0 (by decide) (rfl : (![0, 1280] : Fin 2 → Nat) = _) (inb := inb_S1x3072_S1x128_0_1280)) (readsRow_at arg3 X3 5 (by decide) 1 (by decide) (rfl : (![0, 1408] : Fin 2 → Nat) = _) (inb := inb_S1x3072_S1x128_0_1408)))
      (holds_pair _ _ k.val hk 6 (by decide) (reads_at arg2 X2 k.val hk 6 (by decide) 0 (by decide) (k0_off13_eq k) (inb := k0_off13_inb k))
      (reads_at arg2 X2 k.val hk 6 (by decide) 1 (by decide) (k0_off14_eq k) (inb := k0_off14_inb k))
      (readsRow_at arg3 X3 6 (by decide) 0 (by decide) (rfl : (![0, 1536] : Fin 2 → Nat) = _) (inb := inb_S1x3072_S1x128_0_1536)) (readsRow_at arg3 X3 6 (by decide) 1 (by decide) (rfl : (![0, 1664] : Fin 2 → Nat) = _) (inb := inb_S1x3072_S1x128_0_1664)))
      (holds_pair _ _ k.val hk 7 (by decide) (reads_at arg2 X2 k.val hk 7 (by decide) 0 (by decide) (k0_off15_eq k) (inb := k0_off15_inb k))
      (reads_at arg2 X2 k.val hk 7 (by decide) 1 (by decide) (k0_off16_eq k) (inb := k0_off16_inb k))
      (readsRow_at arg3 X3 7 (by decide) 0 (by decide) (rfl : (![0, 1792] : Fin 2 → Nat) = _) (inb := inb_S1x3072_S1x128_0_1792)) (readsRow_at arg3 X3 7 (by decide) 1 (by decide) (rfl : (![0, 1920] : Fin 2 → Nat) = _) (inb := inb_S1x3072_S1x128_0_1920))) :), ?_⟩
  exact fun p hp => absurd hp List.not_mem_nil

/-- So does every tile of the trips before any trip. -/
theorem pb_agrees (n : Nat) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 X1 X2 X3 n).2.2.2,
      Agrees (arg2.view.read (Elt Ideal) X2) (arg3.view.read (Elt Ideal) X3) p := by
  induction n with
  | zero => exact fun p hp => absurd hp List.not_mem_nil
  | succ n ih =>
    intro p hp
    rw [pb_k0_t1_succ (F := Ideal) 𝒱 c bd i arg1 harg1 arg2 harg2 arg3 harg3 arg4 harg4 arg5 harg5 arg6 harg6 arg7 harg7 arg8 harg8 arg9 harg9 X1 X2 X3 ⟨n, hn⟩] at hp
    rcases List.mem_append.1 hp with h | h
    · exact trip_agrees 𝒱 c bd i arg1 harg1 arg2 harg2 arg3 harg3 arg4 harg4 arg5 harg5 arg6 harg6 arg7 harg7 arg8 harg8 arg9 harg9 X1 X2 X3 ⟨n, hn⟩ p h
    · exact ih (Nat.le_of_succ_le hn) p h

/-- And every tile of scales. -/
theorem pb_scales (n : Nat) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 X1 X2 X3 n).2.1,
      ScaleAgrees (arg1.view.read (Elt Ideal) X1 (ValueIdx.ix2 (0 : Fin 1) (0 : Fin 1))) (arg2.view.read (Elt Ideal) X2) (arg3.view.read (Elt Ideal) X3) p := by
  induction n with
  | zero => exact fun p hp => absurd hp List.not_mem_nil
  | succ n ih =>
    intro p hp
    rw [pb_k0_t1_succ (F := Ideal) 𝒱 c bd i arg1 harg1 arg2 harg2 arg3 harg3 arg4 harg4 arg5 harg5 arg6 harg6 arg7 harg7 arg8 harg8 arg9 harg9 X1 X2 X3 ⟨n, hn⟩] at hp
    rcases List.mem_append.1 hp with h | h
    · exact trip_scales 𝒱 c bd i arg1 harg1 arg2 harg2 arg3 harg3 arg4 harg4 arg5 harg5 arg6 harg6 arg7 harg7 arg8 harg8 arg9 harg9 X1 X2 X3 ⟨n, hn⟩ p h
    · exact ih (Nat.le_of_succ_le hn) p h

/-- The scratch array after the loop. -/
theorem scratch_eq {off : Fin S256x3072.rank → Nat} (ho : off = fun _ => 0) (inb : ∀ a, off a + S256x3072.size a ≤ S256x3072.size a) :
    arg9.view.readCov (pb_k0_t1 (F := Ideal) 𝒱 c bd i arg1 harg1 arg2 harg2 arg3 harg3 arg4 harg4 arg5 harg5 arg6 harg6 arg7 harg7 arg8 harg8 arg9 harg9 X1 X2 X3
        (Scf.trips k0_t1_loop.lb k0_t1_loop.ub k0_t1_loop.st)).2.2.2 (Rect.unit (s := S256x3072) off S256x3072.size inb).toLoadRect
      = fun y => xsp (R := 256) (arg2.view.read (Elt Ideal) X2) (arg3.view.read (Elt Ideal) X3) (y 0) (y 1) := by
  have cov : ∀ y, ∃ p ∈ (pb_k0_t1 (F := Ideal) 𝒱 c bd i arg1 harg1 arg2 harg2 arg3 harg3 arg4 harg4 arg5 harg5 arg6 harg6 arg7 harg7 arg8 harg8 arg9 harg9 X1 X2 X3 (Scf.trips k0_t1_loop.lb k0_t1_loop.ub k0_t1_loop.st)).2.2.2, y ∈ p.1.set := fun y =>
    View.cover_of_tiledL (pb_k0_t1 (F := Ideal) 𝒱 c bd i arg1 harg1 arg2 harg2 arg3 harg3 arg4 harg4 arg5 harg5 arg6 harg6 arg7 harg7 arg8 harg8 arg9 harg9 X1 X2 X3 (Scf.trips k0_t1_loop.lb k0_t1_loop.ub k0_t1_loop.st)).2.2.2 S32x128.size (by sl_kernel_rfl) y
  rw [View.readCov_eq_canon_ld _ _ _ cov]
  rw [View.ld_unit_zero ho]
  funext y
  exact View.canon_apply_of_pieces (Val := Elt Ideal) (fun y => xsp (R := 256) (arg2.view.read (Elt Ideal) X2) (arg3.view.read (Elt Ideal) X3) (y 0) (y 1)) _
    (pb_agrees 𝒱 c bd i arg1 harg1 arg2 harg2 arg3 harg3 arg4 harg4 arg5 harg5 arg6 harg6 arg7 harg7 arg8 harg8 arg9 harg9 X1 X2 X3 _ (Nat.le_refl _)) y (cov y)
end

end Cert.QuantiseIdeal.Hand

end
-- ==== Proof.QuantValue.lean ====
/- The dequantised activations that the quantising loop stores: each smoothed feature times the reciprocal of its group's
   scale, clipped, and times the scale again. Over the reals the rounding by adding and taking away a constant is the
   identity. -/
module

public import proofs.«01_k».proof.Proof.QuantScratch

@[expose] public section

set_option maxRecDepth 16384

noncomputable section

namespace Cert.QuantiseIdeal.Hand

open Cert.QuantiseIdeal Cert.QuantiseIdeal.Gen Idealize.ShloMosaic Idealize.ShloMosaic.TcCoe Idealize.ShloMosaic.Tactic
open Idealize.SL.Sem

section
variable {F : FTy → Type} [FloatOps F]

/-- A lane's number divided by 8, as the kernel computes it on one word. -/
def eighth (b : BitVec 32) : BitVec 32 :=
  let q := IntOp.divsi .vector b 8#32
  let ne := IntOp.cmpi .ne ((IntOp.cmpi .sgt b 0#32).setWidth 32 - (IntOp.cmpi .slt b 0#32).setWidth 32)
    (Scalar.subi (Scalar.extui (Scalar.cmpi .sgt 8#32 0#32) : BitVec 32) (Scalar.extui (Scalar.cmpi .slt 8#32 0#32)))
  let rne := IntOp.cmpi .ne (IntOp.remsi .vector b 8#32) 0#32
  Scalar.select (IntOp.andi ne rne) (q - 1#32) q

/-- The lane, of a lane's eight, whose place is `code`. -/
def segLane (code b : BitVec 32) : BitVec 32 := 8#32 * eighth b + code

/-- A group's scale, before it is stored in its format a second time. -/
def scalePre (g6 : F .f32) (a : FVec F S32x128 .f32) : FVec F S32x128 .f32 :=
  have s : FVec F S32x128 .f32 := extf .f32 (truncf .fp8e4m3 (minimumf (broadcast S32x128 (Scalar.ofBits .f32 0x43E00000#32))
    (maximumf (broadcast S32x128 (Scalar.ofBits .f32 0x00000000#32)) (divf a (broadcast S32x128 g6)))) bitsLt_fp8e4m3_f32) bitsLt_fp8e4m3_f32
  select (cmpf .oeq s (broadcast S32x128 (Scalar.ofBits .f32 0x00000000#32))) (broadcast S32x128 (Scalar.ofBits .f32 0x3F800000#32)) s

/-- The factor that takes a group's features to codes, in units of 1/64. -/
def recipTile (g : F .f32) (a : FVec F S32x128 .f32) : FVec F S32x128 .f32 :=
  mulf (divf (broadcast S32x128 (Scalar.ofBits .f32 0x3F800000#32)) (mulf (scalePre (Scalar.mulf (Scalar.ofBits .f32 0x40C00000#32) g) a) (broadcast S32x128 g)))
    (broadcast S32x128 (Scalar.ofBits .f32 0x3C800000#32))

/-- A tile clipped to 6 units. -/
def clipTile (v : FVec F S32x128 .f32) : FVec F S32x128 .f32 :=
  minimumf (broadcast S32x128 (Scalar.ofBits .f32 0x3DC00000#32)) (maximumf (broadcast S32x128 (Scalar.ofBits .f32 0xBDC00000#32)) v)

/-- The constant that the rounding adds and takes away, by the size of what it rounds. -/
def magicTile (t : FVec F S32x128 .f32) : FVec F S32x128 .f32 :=
  mulf (maximumf (select (cmpf .oge (absf t) (broadcast S32x128 (Scalar.ofBits .f32 0x3D800000#32))) (broadcast S32x128 (Scalar.ofBits .f32 0x3D800000#32))
      (select (cmpf .oge (absf t) (broadcast S32x128 (Scalar.ofBits .f32 0x3D000000#32))) (broadcast S32x128 (Scalar.ofBits .f32 0x3D000000#32))
        (broadcast S32x128 (Scalar.ofBits .f32 0x3C800000#32))))
    (broadcast S32x128 (Scalar.ofBits .f32 0x3C800000#32))) (broadcast S32x128 (Scalar.ofBits .f32 0x4AC00000#32))

/-- A tile rounded. -/
def roundTile (t : FVec F S32x128 .f32) : FVec F S32x128 .f32 := subf (addf t (magicTile t)) (magicTile t)

/-- A tile of features dequantised: `a` holds the largest magnitudes of their groups, at the place `code` of each eight lanes. -/
def valueTile (code : BitVec 32) (g : F .f32) (a v : FVec F S32x128 .f32) : FVec F S32x128 .bf16 :=
  mulf (truncf .bf16 (roundTile (clipTile (mulf v (take (segLane code) (recipTile g a))))) bitsLt_bf16_f32)
    (truncf .bf16 (take (segLane code) (scaleTile (Scalar.mulf (Scalar.ofBits .f32 0x40C00000#32) g) a)) bitsLt_bf16_f32)
end

/-- The lane that such a gather reads. -/
theorem segLane_eq : ∀ (j : Fin 8) (l : Fin 128), (wrapLane (segLane (BitVec.ofNat 32 (codeLane j).val) (BitVec.ofNat 32 l.val))).toNat % 128
    = (octLane ⟨l.val / 8, by omega⟩ (codeLane j)).val := by decide +kernel

/-- The constant of the rounding is a real number. -/
theorem magic_real (b b' : BitVec 1) : ∃ x : ℝ,
    (max (Scalar.select b (Ideal.ofBits .f32 0x3D800000#32) (Scalar.select b' (Ideal.ofBits .f32 0x3D000000#32) (Ideal.ofBits .f32 0x3C800000#32))) (Ideal.ofBits .f32 0x3C800000#32)
      * Ideal.ofBits .f32 0x4AC00000#32 : EReal) = x := by
  have h1 : ∃ x : ℝ, Ideal.ofBits .f32 0x3D800000#32 = (x : EReal) := ⟨1 / 16, by simp [Ideal.ofBits, Ideal.ieee, -EReal.coe_mul]; norm_num⟩
  have h2 : ∃ x : ℝ, Ideal.ofBits .f32 0x3D000000#32 = (x : EReal) := ⟨1 / 32, by simp [Ideal.ofBits, Ideal.ieee, -EReal.coe_mul]; norm_num⟩
  have h3 : ∃ x : ℝ, Ideal.ofBits .f32 0x3C800000#32 = (x : EReal) := ⟨1 / 64, by simp [Ideal.ofBits, Ideal.ieee, -EReal.coe_mul]; norm_num⟩
  have h4 : ∃ x : ℝ, Ideal.ofBits .f32 0x4AC00000#32 = (x : EReal) := ⟨6291456, by simp [Ideal.ofBits, Ideal.ieee, -EReal.coe_mul]; norm_num⟩
  obtain ⟨x1, h1⟩ := h1
  obtain ⟨x2, h2⟩ := h2
  obtain ⟨x3, h3⟩ := h3
  obtain ⟨x4, h4⟩ := h4
  rw [h1, h2, h3, h4]
  have hs : ∀ (b : BitVec 1) (x y : ℝ), ∃ z : ℝ, Scalar.select b (x : EReal) (y : EReal) = z := by
    intro b x y
    unfold Scalar.select
    split
    · exact ⟨_, rfl⟩
    · exact ⟨_, rfl⟩
  obtain ⟨y, hy⟩ := hs b' x2 x3
  rw [hy]
  obtain ⟨z, hz⟩ := hs b x1 y
  rw [hz]
  exact ⟨max z x3 * x4, by push_cast; rfl⟩

/-- Over the reals the rounding is the identity. -/
theorem roundTile_apply (t : FVec Ideal S32x128 .f32) (i : S32x128.Idx) : (roundTile (F := Ideal) t i : EReal) = t i := by
  obtain ⟨x, hx⟩ := magic_real (cmpf (F := Ideal) .oge (absf t) (broadcast S32x128 (Scalar.ofBits .f32 0x3D800000#32)) i)
    (cmpf (F := Ideal) .oge (absf t) (broadcast S32x128 (Scalar.ofBits .f32 0x3D000000#32)) i)
  have hm : (magicTile (F := Ideal) t i : EReal) = x := hx
  show ((t i : EReal) + (magicTile (F := Ideal) t i : EReal)) - (magicTile (F := Ideal) t i : EReal) = t i
  rw [hm]
  exact EReal.add_sub_cancel_right

/-- A feature dequantised, from the largest magnitude of its group. -/
def valueOf (g a v : EReal) : EReal :=
  min (Ideal.ofBits .f32 0x3DC00000#32) (max (Ideal.ofBits .f32 0xBDC00000#32)
    (v * (FloatOps.divf (F := Ideal) (φ := .f32) (Ideal.ofBits .f32 0x3F800000#32) (scaleOf g a * g : EReal) * Ideal.ofBits .f32 0x3C800000#32 : EReal))) * scaleOf g a

/-- A tile of dequantised features at an index. -/
theorem valueTile_apply (j : Fin 8) (g : EReal) (a v : FVec Ideal S32x128 .f32) (r : Fin 32) (l : Fin 128) :
    (valueTile (F := Ideal) (BitVec.ofNat 32 (codeLane j).val) g a v (ValueIdx.ix2 r l) : EReal)
      = valueOf g (a (ValueIdx.ix2 r (octLane ⟨l.val / 8, by omega⟩ (codeLane j)))) (v (ValueIdx.ix2 r l)) := by
  have e1 := take_apply (F := Ideal) (segLane (BitVec.ofNat 32 (codeLane j).val)) (recipTile (F := Ideal) g a) r l _ (segLane_eq j l)
  have e2 := take_apply (F := Ideal) (segLane (BitVec.ofNat 32 (codeLane j).val)) (scaleTile (F := Ideal) (Scalar.mulf (F := Ideal) (Scalar.ofBits .f32 0x40C00000#32) g) a) r l _ (segLane_eq j l)
  refine (congrArg₂ (fun x y : EReal => x * y) ((roundTile_apply _ _).trans
    (congrArg (fun z : EReal => min (Ideal.ofBits .f32 0x3DC00000#32) (max (Ideal.ofBits .f32 0xBDC00000#32) ((v (ValueIdx.ix2 r l) : EReal) * z))) e1)) e2).trans ?_
  rfl

/-- The group of the feature in column `c` of the kernel's order. -/
def groupOf (c : Fin 3072) : Fin 192 := ⟨16 * (c.val / 256) + c.val % 128 / 8, by omega⟩

/-- The dequantised features of some rows, in the kernel's column order. -/
def valueAt {R : Nat} (g : EReal) (x2 : (⟨2, ![R, 3072]⟩ : Shape).Idx → EReal) (s3 : S1x3072.Idx → EReal) (r : Fin R) (c : Fin 3072) : EReal :=
  valueOf g (topAt x2 s3 r (groupOf c)) (xsp x2 s3 r c)

/-- A stored tile agrees with the dequantised features. -/
def ValueAgrees (g : EReal) (x2 : S256x3072.Idx → EReal) (s3 : S1x3072.Idx → EReal) (p : View.Piece (Elt Ideal) S256x3072 .bf16) : Prop :=
  ∀ x : p.1.shape.Idx, (p.2 x : EReal) = valueAt (R := 256) g x2 s3 (p.1.emb x 0) (p.1.emb x 1)

/-- What is loaded for step `kt`: two tiles of features and two rows of factors. -/
def Step (x2 : S256x3072.Idx → EReal) (s3 : S1x3072.Idx → EReal) (k : Nat) (hk : k < 8) (kt : Nat) (hkt : kt < 12) (A B : Vec Ideal S32x128 .bf16) (S S' : Vec Ideal S1x128 .f32) : Prop :=
  (Reads x2 k hk kt hkt 0 (by decide) A ∧ Reads x2 k hk kt hkt 1 (by decide) B) ∧ ReadsRow s3 kt hkt 0 (by decide) S ∧ ReadsRow s3 kt hkt 1 (by decide) S'

/-- A tile that holds the largest magnitudes of the groups of `n` steps from step `b`. -/
def HoldsTops (x2 : S256x3072.Idx → EReal) (s3 : S1x3072.Idx → EReal) (k : Nat) (hk : k < 8) (b n : Nat) (hb : b + n ≤ 12) (t : FVec Ideal S32x128 .f32) : Prop :=
  ∀ (r : Fin 32) (q : Fin 16) (j : Fin 8) (hj : j.val < n), (t (ValueIdx.ix2 r (octLane q (codeLane j))) : EReal)
    = topAt (R := 256) x2 s3 (⟨32 * k + r.val, by omega⟩ : Fin 256) (⟨16 * (b + j.val) + q.val, by omega⟩ : Fin 192)

section
variable (x2 : S256x3072.Idx → EReal) (s3 : S1x3072.Idx → EReal) (k : Nat) (hk : k < 8)

/-- The pair maxima of a step. -/
theorem Step.pairs {x2 : S256x3072.Idx → EReal} {s3 : S1x3072.Idx → EReal} {k : Nat} {hk : k < 8} {kt : Nat} {hkt : kt < 12} {A B : Vec Ideal S32x128 .bf16} {S S' : Vec Ideal S1x128 .f32}
    (h : Step x2 s3 k hk kt hkt A B S S') : HoldsPairs x2 s3 k hk kt hkt (pairMax (F := Ideal) A B S S') :=
  holds_pair x2 s3 k hk kt hkt h.1.1 h.1.2 h.2.1 h.2.2

/-- Eight steps' tiles merged hold the largest magnitudes of those steps' groups. -/
theorem tops8 (t : Fin 8 → FVec Ideal S32x128 .f32) (ht : ∀ j : Fin 8, HoldsPairs x2 s3 k hk j.val (by omega) (t j)) :
    HoldsTops x2 s3 k hk 0 8 (by decide) (groupMax8 (F := Ideal) (t 0) (t 1) (t 2) (t 3) (t 4) (t 5) (t 6) (t 7)) :=
  fun r q j hj => (groupMax8_apply t r q j).trans (topAt_of x2 s3 k hk j.val (by omega) _ (ht j) r q _ _ rfl (by show 16 * (0 + j.val) + q.val = _; omega))

/-- So do four. -/
theorem tops4 (t : Fin 4 → FVec Ideal S32x128 .f32) (ht : ∀ j : Fin 4, HoldsPairs x2 s3 k hk (8 + j.val) (by omega) (t j)) :
    HoldsTops x2 s3 k hk 8 4 (by decide) (groupMax4 (F := Ideal) (t 0) (t 1) (t 2) (t 3)) :=
  fun r q j hj => (groupMax4_apply t r q j hj).trans (topAt_of x2 s3 k hk (8 + j.val) (by omega) _ (ht ⟨j.val, hj⟩) r q _ _ rfl rfl)

variable {x2 s3 k hk} (g : EReal) {kt : Nat} {hkt : kt < 12} {b n : Nat} {hb : b + n ≤ 12} {a : FVec Ideal S32x128 .f32} (ha : HoldsTops x2 s3 k hk b n hb a)

include ha in
/-- A stored tile of dequantised features, from the tile of features and the tile of largest magnitudes. -/
theorem value_of (p : Nat) (hp : p < 2) (j : Fin 8) (hj : j.val < n) (hkj : kt = b + j.val) {v : FVec Ideal S32x128 .f32}
    (hv : ∀ (r : Fin 32) (l : Fin 128) (y0 : Fin 256) (y1 : Fin 3072), y0.val = 32 * k + r.val → y1.val = 256 * kt + 128 * p + l.val → (v (ValueIdx.ix2 r l) : EReal) = xsp (R := 256) x2 s3 y0 y1)
    {off : Fin S256x3072.rank → Nat} {inb : ∀ a, off a + S32x128.size a ≤ S256x3072.size a} (ho : off = ![32 * k, 256 * kt + 128 * p]) :
    ValueAgrees g x2 s3 ⟨Rect.unit (s := S256x3072) off S32x128.size inb, valueTile (F := Ideal) (BitVec.ofNat 32 (codeLane j).val) g a v⟩ := by
  subst ho
  intro x
  obtain ⟨r, l, rfl⟩ : ∃ (r : Fin 32) (l : Fin 128), x = ValueIdx.ix2 r l := ⟨x 0, x 1, ValueIdx.eq_ix2 x⟩
  refine (valueTile_apply j g a v r l).trans ?_
  have hy0 : 32 * k + 1 * r.val = 32 * k + r.val := by omega
  have hy1 : 256 * kt + 128 * p + 1 * l.val = 256 * kt + 128 * p + l.val := by omega
  unfold valueAt
  refine congrArg₂ (valueOf g) ((ha r ⟨l.val / 8, by omega⟩ j hj).trans (congrArg₂ (topAt (R := 256) x2 s3) (Fin.ext hy0.symm) (Fin.ext ?_))) (hv r l _ _ hy0 hy1)
  show 16 * (b + j.val) + l.val / 8 = 16 * ((256 * kt + 128 * p + 1 * l.val) / 256) + (256 * kt + 128 * p + 1 * l.val) % 128 / 8
  have h1 : (256 * kt + 128 * p + 1 * l.val) / 256 = kt := by omega
  have h2 : (256 * kt + 128 * p + 1 * l.val) % 128 = l.val := by omega
  rw [h1, h2, hkj]

variable {A B : Vec Ideal S32x128 .bf16} {S S' : Vec Ideal S1x128 .f32} (h : Step x2 s3 k hk kt hkt A B S S')
variable {off : Fin S256x3072.rank → Nat} {inb : ∀ a, off a + S32x128.size a ≤ S256x3072.size a}

include ha h in
/-- The stored tile of even features. -/
theorem value_even (j : Fin 8) (hj : j.val < n) (hkj : kt = b + j.val) (ho : off = ![32 * k, 256 * kt]) :
    ValueAgrees g x2 s3 ⟨Rect.unit (s := S256x3072) off S32x128.size inb, valueTile (F := Ideal) (BitVec.ofNat 32 (codeLane j).val) g a (evenT (F := Ideal) A B S)⟩ :=
  value_of g ha 0 (by decide) j hj hkj (fun r l y0 y1 h0 h1 => even_at x2 s3 k hk kt hkt h.1.1 h.1.2 h.2.1 r l y0 y1 h0 (by omega)) (inb := inb) (ho.trans rfl)

include ha h in
/-- The stored tile of odd features. -/
theorem value_odd (j : Fin 8) (hj : j.val < n) (hkj : kt = b + j.val) (ho : off = ![32 * k, 256 * kt + 128]) :
    ValueAgrees g x2 s3 ⟨Rect.unit (s := S256x3072) off S32x128.size inb, valueTile (F := Ideal) (BitVec.ofNat 32 (codeLane j).val) g a (oddT (F := Ideal) A B S')⟩ :=
  value_of g ha 1 (by decide) j hj hkj (fun r l y0 y1 h0 h1 => odd_at x2 s3 k hk kt hkt h.1.1 h.1.2 h.2.2 r l y0 y1 h0 (by omega)) (inb := inb) (ho.trans rfl)
end

section
variable (arg2 : Memref sig .tc .vmem S256x3072 .bf16) (X2 : BufTy.Contents (Elt Ideal) arg2.view.ty)
  (arg3 : Memref sig .tc .vmem S1x3072 .f32) (X3 : BufTy.Contents (Elt Ideal) arg3.view.ty) (k : Nat) (hk : k < 8)

/-- What a step loads. -/
theorem step_at (kt : Nat) (hkt : kt < 12) {oA oB : Fin S256x3072.rank → Nat} {oS oS' : Fin S1x3072.rank → Nat}
    (iA : ∀ a, oA a + S32x128.size a ≤ S256x3072.size a) (iB : ∀ a, oB a + S32x128.size a ≤ S256x3072.size a)
    (iS : ∀ a, oS a + S1x128.size a ≤ S1x3072.size a) (iS' : ∀ a, oS' a + S1x128.size a ≤ S1x3072.size a)
    (hA : oA = ![32 * k, 256 * kt]) (hB : oB = ![32 * k, 256 * kt + 128]) (hS : oS = ![0, 256 * kt]) (hS' : oS' = ![0, 256 * kt + 128]) :
    Step (arg2.view.read (Elt Ideal) X2) (arg3.view.read (Elt Ideal) X3) k hk kt hkt
      (arg2.view.readAt (Elt Ideal) (Rect.unit (s := S256x3072) oA S32x128.size iA).toLoadRect X2) (arg2.view.readAt (Elt Ideal) (Rect.unit (s := S256x3072) oB S32x128.size iB).toLoadRect X2)
      (arg3.view.readAt (Elt Ideal) (Rect.unit (s := S1x3072) oS S1x128.size iS).toLoadRect X3) (arg3.view.readAt (Elt Ideal) (Rect.unit (s := S1x3072) oS' S1x128.size iS').toLoadRect X3) :=
  ⟨⟨reads_at arg2 X2 k hk kt hkt 0 (by decide) hA, reads_at arg2 X2 k hk kt hkt 1 (by decide) hB⟩,
    readsRow_at arg3 X3 kt hkt 0 (by decide) hS, readsRow_at arg3 X3 kt hkt 1 (by decide) hS'⟩
end

section
variable (𝒱 : Variants) (c : Dev nD) (bd : Option 𝒱.V) (i : grid0.Coords)
  (arg1 : Memref sig .tc .smem S1x1 .f32) (harg1 : arg1.IsWhole)
  (arg2 : Memref sig .tc .vmem S256x3072 .bf16) (harg2 : arg2.IsWhole)
  (arg3 : Memref sig .tc .vmem S1x3072 .f32) (harg3 : arg3.IsWhole)
  (arg4 : Memref sig .tc .vmem S3072x32 .bf16) (harg4 : arg4.IsWhole)
  (arg5 : Memref sig .tc .vmem S256x1536 .i8) (harg5 : arg5.IsWhole)
  (arg6 : Memref sig .tc .vmem S256x192 .fp8e4m3) (harg6 : arg6.IsWhole)
  (arg7 : Memref sig .tc .vmem S256x3072 .bf16) (harg7 : arg7.IsWhole)
  (arg8 : Memref sig .tc .vmem S256x32 .bf16) (harg8 : arg8.IsWhole)
  (arg9 : Memref sig .tc .vmem S256x3072 .bf16) (harg9 : arg9.IsWhole)
  (X1 : BufTy.Contents (Elt Ideal) arg1.view.ty) (X2 : BufTy.Contents (Elt Ideal) arg2.view.ty) (X3 : BufTy.Contents (Elt Ideal) arg3.view.ty)

set_option maxHeartbeats 4000000 in
/-- Every tile of dequantised features that one trip of the loop stores agrees with them. -/
theorem trip_values (k : Fin k0_t1_loop.trips) :
    ∀ p ∈ (tripL_k0_t1 (F := Ideal) 𝒱 c bd i arg1 harg1 arg2 harg2 arg3 harg3 arg4 harg4 arg5 harg5 arg6 harg6 arg7 harg7 arg8 harg8 arg9 harg9 X1 X2 X3 k).2.2.1,
      ValueAgrees (arg1.view.read (Elt Ideal) X1 (ValueIdx.ix2 (0 : Fin 1) (0 : Fin 1))) (arg2.view.read (Elt Ideal) X2) (arg3.view.read (Elt Ideal) X3) p := by
  have hk : k.val < 8 := Nat.lt_of_lt_of_le k.isLt k0_t1_abs.2.1
  have hg : arg1.view.readAt (Elt Ideal) (Rect.unit ![0, 0] S1x1.size inb_S1x1_S1x1_0_0).toLoadRect X1 (Shape.Idx.first (Nat.lt_of_lt_of_eq Nat.zero_lt_one numel1_S1x1.symm))
      = arg1.view.read (Elt Ideal) X1 (ValueIdx.ix2 (0 : Fin 1) (0 : Fin 1)) := by
    rw [View.readAt_eq_ld]
    exact congrArg (arg1.view.read (Elt Ideal) X1) (funext fun a => by fin_cases a <;> rfl)
  rw [← hg]
  have h0 := step_at arg2 X2 arg3 X3 k.val hk 0 (by decide) (k0_off1_inb k) (k0_off2_inb k) inb_S1x3072_S1x128_0_0 inb_S1x3072_S1x128_0_128 (k0_off1_eq k) (k0_off2_eq k) rfl rfl
  have h1 := step_at arg2 X2 arg3 X3 k.val hk 1 (by decide) (k0_off3_inb k) (k0_off4_inb k) inb_S1x3072_S1x128_0_256 inb_S1x3072_S1x128_0_384 (k0_off3_eq k) (k0_off4_eq k) rfl rfl
  have h2 := step_at arg2 X2 arg3 X3 k.val hk 2 (by decide) (k0_off5_inb k) (k0_off6_inb k) inb_S1x3072_S1x128_0_512 inb_S1x3072_S1x128_0_640 (k0_off5_eq k) (k0_off6_eq k) rfl rfl
  have h3 := step_at arg2 X2 arg3 X3 k.val hk 3 (by decide) (k0_off7_inb k) (k0_off8_inb k) inb_S1x3072_S1x128_0_768 inb_S1x3072_S1x128_0_896 (k0_off7_eq k) (k0_off8_eq k) rfl rfl
  have h4 := step_at arg2 X2 arg3 X3 k.val hk 4 (by decide) (k0_off9_inb k) (k0_off10_inb k) inb_S1x3072_S1x128_0_1024 inb_S1x3072_S1x128_0_1152 (k0_off9_eq k) (k0_off10_eq k) rfl rfl
  have h5 := step_at arg2 X2 arg3 X3 k.val hk 5 (by decide) (k0_off11_inb k) (k0_off12_inb k) inb_S1x3072_S1x128_0_1280 inb_S1x3072_S1x128_0_1408 (k0_off11_eq k) (k0_off12_eq k) rfl rfl
  have h6 := step_at arg2 X2 arg3 X3 k.val hk 6 (by decide) (k0_off13_inb k) (k0_off14_inb k) inb_S1x3072_S1x128_0_1536 inb_S1x3072_S1x128_0_1664 (k0_off13_eq k) (k0_off14_eq k) rfl rfl
  have h7 := step_at arg2 X2 arg3 X3 k.val hk 7 (by decide) (k0_off15_inb k) (k0_off16_inb k) inb_S1x3072_S1x128_0_1792 inb_S1x3072_S1x128_0_1920 (k0_off15_eq k) (k0_off16_eq k) rfl rfl
  have h8 := step_at arg2 X2 arg3 X3 k.val hk 8 (by decide) (k0_off17_inb k) (k0_off18_inb k) inb_S1x3072_S1x128_0_2048 inb_S1x3072_S1x128_0_2176 (k0_off17_eq k) (k0_off18_eq k) rfl rfl
  have h9 := step_at arg2 X2 arg3 X3 k.val hk 9 (by decide) (k0_off19_inb k) (k0_off20_inb k) inb_S1x3072_S1x128_0_2304 inb_S1x3072_S1x128_0_2432 (k0_off19_eq k) (k0_off20_eq k) rfl rfl
  have h10 := step_at arg2 X2 arg3 X3 k.val hk 10 (by decide) (k0_off21_inb k) (k0_off22_inb k) inb_S1x3072_S1x128_0_2560 inb_S1x3072_S1x128_0_2688 (k0_off21_eq k) (k0_off22_eq k) rfl rfl
  have h11 := step_at arg2 X2 arg3 X3 k.val hk 11 (by decide) (k0_off23_inb k) (k0_off24_inb k) inb_S1x3072_S1x128_0_2816 inb_S1x3072_S1x128_0_2944 (k0_off23_eq k) (k0_off24_eq k) rfl rfl
  have ha := tops8 _ _ k.val hk ![_, _, _, _, _, _, _, _] (fun j => by fin_cases j; exacts [h0.pairs, h1.pairs, h2.pairs, h3.pairs, h4.pairs, h5.pairs, h6.pairs, h7.pairs])
  have hb := tops4 _ _ k.val hk ![_, _, _, _] (fun j => by fin_cases j; exacts [h8.pairs, h9.pairs, h10.pairs, h11.pairs])
  generalize hx2 : arg2.view.read (Elt Ideal) X2 = x2 at *
  generalize hx3 : arg3.view.read (Elt Ideal) X3 = x3 at *
  unfold tripL_k0_t1 trip_k0_t1
  dsimp only
  refine List.forall_mem_cons.2 ⟨(value_odd _ hb h11 3 (by decide) rfl (k0_off24_eq k) :), ?_⟩
  refine List.forall_mem_cons.2 ⟨(value_even _ hb h11 3 (by decide) rfl (k0_off23_eq k) :), ?_⟩
  refine List.forall_mem_cons.2 ⟨(value_odd _ hb h10 2 (by decide) rfl (k0_off22_eq k) :), ?_⟩
  refine List.forall_mem_cons.2 ⟨(value_even _ hb h10 2 (by decide) rfl (k0_off21_eq k) :), ?_⟩
  refine List.forall_mem_cons.2 ⟨(value_odd _ hb h9 1 (by decide) rfl (k0_off20_eq k) :), ?_⟩
  refine List.forall_mem_cons.2 ⟨(value_even _ hb h9 1 (by decide) rfl (k0_off19_eq k) :), ?_⟩
  refine List.forall_mem_cons.2 ⟨(value_odd _ hb h8 0 (by decide) rfl (k0_off18_eq k) :), ?_⟩
  refine List.forall_mem_cons.2 ⟨(value_even _ hb h8 0 (by decide) rfl (k0_off17_eq k) :), ?_⟩
  refine List.forall_mem_cons.2 ⟨(value_odd _ ha h7 7 (by decide) rfl (k0_off16_eq k) :), ?_⟩
  refine List.forall_mem_cons.2 ⟨(value_even _ ha h7 7 (by decide) rfl (k0_off15_eq k) :), ?_⟩
  refine List.forall_mem_cons.2 ⟨(value_odd _ ha h6 6 (by decide) rfl (k0_off14_eq k) :), ?_⟩
  refine List.forall_mem_cons.2 ⟨(value_even _ ha h6 6 (by decide) rfl (k0_off13_eq k) :), ?_⟩
  refine List.forall_mem_cons.2 ⟨(value_odd _ ha h5 5 (by decide) rfl (k0_off12_eq k) :), ?_⟩
  refine List.forall_mem_cons.2 ⟨(value_even _ ha h5 5 (by decide) rfl (k0_off11_eq k) :), ?_⟩
  refine List.forall_mem_cons.2 ⟨(value_odd _ ha h4 4 (by decide) rfl (k0_off10_eq k) :), ?_⟩
  refine List.forall_mem_cons.2 ⟨(value_even _ ha h4 4 (by decide) rfl (k0_off9_eq k) :), ?_⟩
  refine List.forall_mem_cons.2 ⟨(value_odd _ ha h3 3 (by decide) rfl (k0_off8_eq k) :), ?_⟩
  refine List.forall_mem_cons.2 ⟨(value_even _ ha h3 3 (by decide) rfl (k0_off7_eq k) :), ?_⟩
  refine List.forall_mem_cons.2 ⟨(value_odd _ ha h2 2 (by decide) rfl (k0_off6_eq k) :), ?_⟩
  refine List.forall_mem_cons.2 ⟨(value_even _ ha h2 2 (by decide) rfl (k0_off5_eq k) :), ?_⟩
  refine List.forall_mem_cons.2 ⟨(value_odd _ ha h1 1 (by decide) rfl (k0_off4_eq k) :), ?_⟩
  refine List.forall_mem_cons.2 ⟨(value_even _ ha h1 1 (by decide) rfl (k0_off3_eq k) :), ?_⟩
  refine List.forall_mem_cons.2 ⟨(value_odd _ ha h0 0 (by decide) rfl (k0_off2_eq k) :), ?_⟩
  refine List.forall_mem_cons.2 ⟨(value_even _ ha h0 0 (by decide) rfl (k0_off1_eq k) :), ?_⟩
  exact fun p hp => absurd hp List.not_mem_nil

/-- So does every tile of the trips before any trip. -/
theorem pb_values (n : Nat) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 X1 X2 X3 n).2.2.1,
      ValueAgrees (arg1.view.read (Elt Ideal) X1 (ValueIdx.ix2 (0 : Fin 1) (0 : Fin 1))) (arg2.view.read (Elt Ideal) X2) (arg3.view.read (Elt Ideal) X3) p := by
  induction n with
  | zero => exact fun p hp => absurd hp List.not_mem_nil
  | succ n ih =>
    intro p hp
    rw [pb_k0_t1_succ (F := Ideal) 𝒱 c bd i arg1 harg1 arg2 harg2 arg3 harg3 arg4 harg4 arg5 harg5 arg6 harg6 arg7 harg7 arg8 harg8 arg9 harg9 X1 X2 X3 ⟨n, hn⟩] at hp
    rcases List.mem_append.1 hp with h | h
    · exact trip_values 𝒱 c bd i arg1 harg1 arg2 harg2 arg3 harg3 arg4 harg4 arg5 harg5 arg6 harg6 arg7 harg7 arg8 harg8 arg9 harg9 X1 X2 X3 ⟨n, hn⟩ p h
    · exact ih (Nat.le_of_succ_le hn) p h
end

end Cert.QuantiseIdeal.Hand

end
-- ==== Proof.Codes.lean ====
/- The four-bit codes of one feature: the byte that the kernel finds by comparing with the grid, the code that the reference
   finds by rounding to the nearest grid value, and where the two agree over the reals. -/
module

public import Idealize.ShloMosaic.PureOps
public import Idealize.ShloMosaic.PureOps.Ideal.Laws
public import Mathlib.Tactic.Linarith
public import Mathlib.Tactic.NormNum

@[expose] public section

noncomputable section

namespace Cert.Codes

open Idealize.ShloMosaic

/-! ## The two definitions -/

/-- The kernel's byte of a clipped feature in units of 1/64: the largest grid value not above its magnitude, and its sign. -/
def byteOf (q : EReal) : BitVec 32 :=
  IntOp.ori
    (Scalar.select (Ideal.cmp .oge (max q (-q)) (Ideal.ofBits .f32 0x3DC00000#32)) 28#32
    (Scalar.select (Ideal.cmp .oge (max q (-q)) (Ideal.ofBits .f32 0x3D800000#32)) 24#32
    (Scalar.select (Ideal.cmp .oge (max q (-q)) (Ideal.ofBits .f32 0x3D400000#32)) 20#32
    (Scalar.select (Ideal.cmp .oge (max q (-q)) (Ideal.ofBits .f32 0x3D000000#32)) 16#32
    (Scalar.select (Ideal.cmp .oge (max q (-q)) (Ideal.ofBits .f32 0x3CC00000#32)) 12#32
    (Scalar.select (Ideal.cmp .oge (max q (-q)) (Ideal.ofBits .f32 0x3C800000#32)) 8#32
    (Scalar.select (Ideal.cmp .oge (max q (-q)) (Ideal.ofBits .f32 0x3C000000#32)) 4#32 0#32)))))))
    (Scalar.select (Ideal.cmp .olt q (Ideal.ofBits .f32 0x00000000#32)) 128#32 0#32)

/-- The kernel's packing of two such bytes into the two nibbles of one. -/
def packWord (be bo : BitVec 32) : BitVec 8 :=
  (IntOp.ori (IntOp.ori (IntOp.andi (IntOp.shrsi .vector be 4#32) 134744072#32) (IntOp.andi (IntOp.shrsi .vector be 2#32) 117901063#32))
    (IntOp.ori (IntOp.andi bo 2155905152#32) (IntOp.andi (IntOp.shli .vector bo 2#32) 1886417008#32))).truncate 8

/-- The reference's rounding of a magnitude to the nearest grid value. -/
def nearest (m : EReal) : EReal :=
  Scalar.select (Ideal.cmp .olt m (Ideal.ofBits .f32 0x40000000#32))
    (Ideal.div (Ideal.liftRound Ideal.roundHalfEven (Ideal.ofBits .f32 0x40000000#32 * m)) (Ideal.ofBits .f32 0x40000000#32))
    (Scalar.select (Ideal.cmp .olt m (Ideal.ofBits .f32 0x40800000#32)) (Ideal.liftRound Ideal.roundHalfEven m)
      (Ideal.ofBits .f32 0x40000000#32 * Ideal.liftRound Ideal.roundHalfEven (Ideal.div m (Ideal.ofBits .f32 0x40000000#32))))

/-- The magnitude of a scaled feature, clipped to 6. -/
def magnitude (t : EReal) : EReal := min (max t (-t)) (Ideal.ofBits .f32 0x40C00000#32)

/-- The index of a grid value. -/
def indexOf (q : EReal) : BitVec 32 :=
  Ideal.fptosi 32 (Scalar.select (Ideal.cmp .olt q (Ideal.ofBits .f32 0x40000000#32)) (Ideal.ofBits .f32 0x40000000#32 * q)
    (Scalar.select (Ideal.cmp .olt q (Ideal.ofBits .f32 0x40800000#32)) (q + Ideal.ofBits .f32 0x40000000#32)
      (Ideal.div q (Ideal.ofBits .f32 0x40000000#32) + Ideal.ofBits .f32 0x40800000#32)))

/-- The reference's code of a scaled feature. -/
def codeOf (t : EReal) : BitVec 32 :=
  Scalar.select (IntOp.andi (Ideal.cmp .olt t (Ideal.ofBits .f32 0x00000000#32)) (Ideal.cmp .ogt (nearest (magnitude t)) (Ideal.ofBits .f32 0x00000000#32)))
    (IntOp.ori (indexOf (nearest (magnitude t))) 8#32) (indexOf (nearest (magnitude t)))

/-- The reference's packing of two codes. -/
def packCodes (lo hi : BitVec 32) : BitVec 8 := (IntOp.ori lo (IntOp.shli .vector hi 4#32)).truncate 8

/-! ## Where they agree -/

/-- A selection by a comparison. -/
theorem select_decide {α : Type} (p : Prop) [Decidable p] (a b : α) : Scalar.select (BitVec.ofBool (decide p)) a b = if p then a else b := by
  unfold Scalar.select
  by_cases h : p
  · rw [decide_eq_true h, if_pos h]
    exact if_pos (by decide)
  · rw [decide_eq_false h, if_neg h]
    exact if_neg (by decide)

/-- The constants. -/
theorem c0 : Ideal.ofBits .f32 0x00000000#32 = ((0 : ℝ) : EReal) := by simp [Ideal.ofBits, Ideal.ieee]
theorem c2 : Ideal.ofBits .f32 0x40000000#32 = ((2 : ℝ) : EReal) := by simp [Ideal.ofBits, Ideal.ieee, -EReal.coe_mul]; norm_num
theorem c4 : Ideal.ofBits .f32 0x40800000#32 = ((4 : ℝ) : EReal) := by simp [Ideal.ofBits, Ideal.ieee, -EReal.coe_mul]; norm_num
theorem c6 : Ideal.ofBits .f32 0x40C00000#32 = ((6 : ℝ) : EReal) := by simp [Ideal.ofBits, Ideal.ieee, -EReal.coe_mul]; norm_num
theorem u1 : Ideal.ofBits .f32 0x3C000000#32 = ((0.5 * (1 / 64) : ℝ) : EReal) := by simp [Ideal.ofBits, Ideal.ieee, -EReal.coe_mul]; norm_num
theorem u2 : Ideal.ofBits .f32 0x3C800000#32 = ((1 * (1 / 64) : ℝ) : EReal) := by simp [Ideal.ofBits, Ideal.ieee, -EReal.coe_mul]; norm_num
theorem u3 : Ideal.ofBits .f32 0x3CC00000#32 = ((1.5 * (1 / 64) : ℝ) : EReal) := by simp [Ideal.ofBits, Ideal.ieee, -EReal.coe_mul]; norm_num
theorem u4 : Ideal.ofBits .f32 0x3D000000#32 = ((2 * (1 / 64) : ℝ) : EReal) := by simp [Ideal.ofBits, Ideal.ieee, -EReal.coe_mul]; norm_num
theorem u5 : Ideal.ofBits .f32 0x3D400000#32 = ((3 * (1 / 64) : ℝ) : EReal) := by simp [Ideal.ofBits, Ideal.ieee, -EReal.coe_mul]; norm_num
theorem u6 : Ideal.ofBits .f32 0x3D800000#32 = ((4 * (1 / 64) : ℝ) : EReal) := by simp [Ideal.ofBits, Ideal.ieee, -EReal.coe_mul]; norm_num
theorem u7 : Ideal.ofBits .f32 0x3DC00000#32 = ((6 * (1 / 64) : ℝ) : EReal) := by simp [Ideal.ofBits, Ideal.ieee, -EReal.coe_mul]; norm_num

/-- Division by two. -/
theorem half (x : ℝ) : Ideal.div (x : EReal) ((2 : ℝ) : EReal) = ((x / 2 : ℝ) : EReal) := by
  have h : ((2 : ℝ) : EReal) ≠ 0 := by norm_num
  rw [Ideal.div, if_neg h, ← EReal.coe_inv, ← EReal.coe_mul, div_eq_mul_inv]

/-- The real rounding, where it does not round up, is the integer part. -/
theorem round_down (y : ℝ) (n : ℤ) (h1 : (n : ℝ) ≤ y) (h2 : y < n + 1) (h3 : ((Ideal.roundHalfEven y : ℤ) : ℝ) ≤ y) : Ideal.roundHalfEven y = n := by
  have hf : ⌊y⌋ = n := Int.floor_eq_iff.2 ⟨h1, h2⟩
  have hn : Ideal.roundHalfEven y = n ∨ Ideal.roundHalfEven y = n + 1 := by
    unfold Ideal.roundHalfEven
    simp only [hf]
    split_ifs <;> simp
  rcases hn with h | h
  · exact h
  · rw [h] at h3
    push_cast at h3
    linarith

/-- The rounding of a real magnitude. -/
theorem nearest_coe (x : ℝ) : nearest (x : EReal) = (((if x < 2 then ((Ideal.roundHalfEven (2 * x) : ℤ) : ℝ) / 2
    else if x < 4 then ((Ideal.roundHalfEven x : ℤ) : ℝ) else 2 * ((Ideal.roundHalfEven (x / 2) : ℤ) : ℝ)) : ℝ) : EReal) := by
  unfold nearest Ideal.cmp
  simp only [c2, c4, select_decide, EReal.coe_lt_coe_iff, half, ← EReal.coe_mul, Ideal.liftRound_coe]
  split_ifs <;> rfl

/-- The grid. -/
def grid : Fin 8 → ℝ := ![0, 0.5, 1, 1.5, 2, 3, 4, 6]

theorem grid0 : grid 0 = 0 := rfl
theorem grid1 : grid 1 = 0.5 := rfl
theorem grid2 : grid 2 = 1 := rfl
theorem grid3 : grid 3 = 1.5 := rfl
theorem grid4 : grid 4 = 2 := rfl
theorem grid5 : grid 5 = 3 := rfl
theorem grid6 : grid 6 = 4 := rfl
theorem grid7 : grid 7 = 6 := rfl

/-- The signed integer of a small natural number. -/
theorem fptosi_nat (n : Fin 8) : Ideal.fptosi 32 (((n.val : ℝ) : ℝ) : EReal) = BitVec.ofNat 32 n.val := by
  unfold Ideal.fptosi
  rw [Ideal.toIntClamped_coe, if_pos (Nat.cast_nonneg _), Int.floor_natCast]
  fin_cases n <;> decide

/-- The index of a grid value is its place. -/
theorem indexOf_grid (n : Fin 8) : indexOf (grid n : EReal) = BitVec.ofNat 32 n.val := by
  rw [← fptosi_nat n]
  unfold indexOf Ideal.cmp
  simp only [c2, c4, select_decide, EReal.coe_lt_coe_iff, half, ← EReal.coe_mul, ← EReal.coe_add]
  congr 1
  have e : ∀ (p q : Prop) [Decidable p] [Decidable q] (a b c : ℝ), (if p then (a : EReal) else if q then (b : EReal) else (c : EReal))
      = ((if p then a else if q then b else c : ℝ) : EReal) := fun p q _ _ a b c => by split_ifs <;> rfl
  rw [e]
  congr 1
  fin_cases n <;> norm_num [grid]

/-- A real magnitude up to 6 that is not rounded up lies from one grid value, its rounding, up to the next. -/
theorem nearest_grid (x : ℝ) (h0 : 0 ≤ x) (h6 : x ≤ 6) (h : nearest (x : EReal) ≤ (x : EReal)) :
    ∃ n : Fin 8, nearest (x : EReal) = (grid n : EReal) ∧ grid n ≤ x ∧ ∀ k : Fin 8, n < k → x < grid k := by
  rw [nearest_coe] at h ⊢
  rw [EReal.coe_le_coe_iff] at h
  simp only [EReal.coe_eq_coe_iff]
  have up : ∀ n : Fin 8, (∀ k : Fin 8, n < k → k.val = n.val + 1 → x < grid k) → ∀ k : Fin 8, n < k → x < grid k := by
    intro n hn k hk
    have hm : Monotone grid := by
      refine Fin.monotone_iff_le_succ.2 fun i => ?_
      fin_cases i
      exacts [show (0 : ℝ) ≤ 0.5 by norm_num, show (0.5 : ℝ) ≤ 1 by norm_num, show (1 : ℝ) ≤ 1.5 by norm_num, show (1.5 : ℝ) ≤ 2 by norm_num, show (2 : ℝ) ≤ 3 by norm_num, show (3 : ℝ) ≤ 4 by norm_num, show (4 : ℝ) ≤ 6 by norm_num]
    have hl : n.val + 1 < 8 := lt_of_le_of_lt hk k.isLt
    refine lt_of_lt_of_le (hn ⟨n.val + 1, hl⟩ (Nat.lt_succ_self n.val) rfl) (hm ?_)
    exact hk
  have low : x < 2 → ∀ (n : ℤ), (n : ℝ) ≤ 2 * x → 2 * x < n + 1 → ((Ideal.roundHalfEven (2 * x) : ℤ) : ℝ) / 2 = n / 2 := by
    intro hx n a b
    rw [if_pos hx] at h
    rw [round_down _ n a b (by linarith)]
  have mid : ¬ x < 2 → x < 4 → ∀ (n : ℤ), (n : ℝ) ≤ x → x < n + 1 → ((Ideal.roundHalfEven x : ℤ) : ℝ) = n := by
    intro hx hy n a b
    rw [if_neg hx, if_pos hy] at h
    rw [round_down _ n a b h]
  have high : ¬ x < 2 → ¬ x < 4 → ∀ (n : ℤ), (n : ℝ) ≤ x / 2 → x / 2 < n + 1 → 2 * ((Ideal.roundHalfEven (x / 2) : ℤ) : ℝ) = 2 * n := by
    intro hx hy n a b
    rw [if_neg hx, if_neg hy] at h
    rw [round_down _ n a b (by linarith)]
  by_cases hx : x < 2
  · rw [if_pos hx]
    by_cases h1 : x < 0.5
    · exact ⟨0, (low hx 0 (by push_cast; linarith) (by push_cast; linarith)).trans (by rw [grid0]; norm_num), by rw [grid0]; linarith,
        up 0 fun k _ hk => by obtain rfl : k = 1 := Fin.ext hk; rw [grid1]; linarith⟩
    by_cases h2 : x < 1
    · exact ⟨1, (low hx 1 (by push_cast; linarith) (by push_cast; linarith)).trans (by rw [grid1]; norm_num), by rw [grid1]; linarith,
        up 1 fun k _ hk => by obtain rfl : k = 2 := Fin.ext hk; rw [grid2]; linarith⟩
    by_cases h3 : x < 1.5
    · exact ⟨2, (low hx 2 (by push_cast; linarith) (by push_cast; linarith)).trans (by rw [grid2]; norm_num), by rw [grid2]; linarith,
        up 2 fun k _ hk => by obtain rfl : k = 3 := Fin.ext hk; rw [grid3]; linarith⟩
    · exact ⟨3, (low hx 3 (by push_cast; linarith) (by push_cast; linarith)).trans (by rw [grid3]; norm_num), by rw [grid3]; linarith,
        up 3 fun k _ hk => by obtain rfl : k = 4 := Fin.ext hk; rw [grid4]; linarith⟩
  by_cases hy : x < 4
  · rw [if_neg hx, if_pos hy]
    by_cases h1 : x < 3
    · exact ⟨4, (mid hx hy 2 (by push_cast; linarith) (by push_cast; linarith)).trans (by rw [grid4]; norm_num), by rw [grid4]; linarith,
        up 4 fun k _ hk => by obtain rfl : k = 5 := Fin.ext hk; rw [grid5]; linarith⟩
    · exact ⟨5, (mid hx hy 3 (by push_cast; linarith) (by push_cast; linarith)).trans (by rw [grid5]; norm_num), by rw [grid5]; linarith,
        up 5 fun k _ hk => by obtain rfl : k = 6 := Fin.ext hk; rw [grid6]; linarith⟩
  · rw [if_neg hx, if_neg hy]
    by_cases h1 : x < 6
    · exact ⟨6, (high hx hy 2 (by push_cast; linarith) (by push_cast; linarith)).trans (by rw [grid6]; norm_num), by rw [grid6]; linarith,
        up 6 fun k _ hk => by obtain rfl : k = 7 := Fin.ext hk; rw [grid7]; linarith⟩
    · exact ⟨7, (high hx hy 3 (by push_cast; linarith) (by push_cast; linarith)).trans (by rw [grid7]; norm_num), by rw [grid7]; linarith,
        up 7 fun k _ hk => absurd (hk ▸ k.isLt) (by decide)⟩

/-- The kernel's choice by comparisons with the grid in units of 1/64. -/
theorem choose_grid (x : ℝ) (n : Fin 8) (hn : grid n ≤ x) (hk : ∀ k : Fin 8, n < k → x < grid k) :
    (if (6 * (1 / 64) : ℝ) ≤ x * (1 / 64) then 28#32 else if (4 * (1 / 64) : ℝ) ≤ x * (1 / 64) then 24#32 else if (3 * (1 / 64) : ℝ) ≤ x * (1 / 64) then 20#32
      else if (2 * (1 / 64) : ℝ) ≤ x * (1 / 64) then 16#32 else if (1.5 * (1 / 64) : ℝ) ≤ x * (1 / 64) then 12#32 else if (1 * (1 / 64) : ℝ) ≤ x * (1 / 64) then 8#32
      else if (0.5 * (1 / 64) : ℝ) ≤ x * (1 / 64) then 4#32 else 0#32) = BitVec.ofNat 32 (4 * n.val) := by
  have e : ∀ c : ℝ, (c * (1 / 64) ≤ x * (1 / 64)) = (c ≤ x) := fun c => propext ⟨fun h => by linarith, fun h => by linarith⟩
  simp only [e]
  have k1 := hk 1; have k2 := hk 2; have k3 := hk 3; have k4 := hk 4; have k5 := hk 5; have k6 := hk 6; have k7 := hk 7
  rw [grid1] at k1; rw [grid2] at k2; rw [grid3] at k3; rw [grid4] at k4; rw [grid5] at k5; rw [grid6] at k6; rw [grid7] at k7
  clear hk e
  obtain ⟨n, hn8⟩ := n
  interval_cases n
  · have := k1 (by decide : (0 : Fin 8) < 1)
    split_ifs <;> first | rfl | (exfalso; linarith)
  · have a := k2 (by decide : (1 : Fin 8) < 2)
    have b : 0.5 ≤ x := hn
    split_ifs <;> first | rfl | (exfalso; linarith)
  · have a := k3 (by decide : (2 : Fin 8) < 3)
    have b : 1 ≤ x := hn
    split_ifs <;> first | rfl | (exfalso; linarith)
  · have a := k4 (by decide : (3 : Fin 8) < 4)
    have b : 1.5 ≤ x := hn
    split_ifs <;> first | rfl | (exfalso; linarith)
  · have a := k5 (by decide : (4 : Fin 8) < 5)
    have b : 2 ≤ x := hn
    split_ifs <;> first | rfl | (exfalso; linarith)
  · have a := k6 (by decide : (5 : Fin 8) < 6)
    have b : 3 ≤ x := hn
    split_ifs <;> first | rfl | (exfalso; linarith)
  · have a := k7 (by decide : (6 : Fin 8) < 7)
    have b : 4 ≤ x := hn
    split_ifs <;> first | rfl | (exfalso; linarith)
  · have b : 6 ≤ x := hn
    split_ifs <;> first | rfl | (exfalso; linarith)

/-- The clipped magnitude of anything is a real number from 0 to 6. -/
theorem magnitude_real (t : EReal) : ∃ x : ℝ, magnitude t = (x : EReal) ∧ 0 ≤ x ∧ x ≤ 6 := by
  have hb : (0 : EReal) ≤ max t (-t) := by
    rcases le_total 0 t with h | h
    · exact le_trans h (le_max_left _ _)
    · exact le_trans (EReal.neg_nonneg.2 h) (le_max_right _ _)
  have h0 : ((0 : ℝ) : EReal) ≤ magnitude t := by
    unfold magnitude
    rw [c6]
    exact le_min hb (EReal.coe_le_coe_iff.2 (by norm_num))
  have h6 : magnitude t ≤ ((6 : ℝ) : EReal) := by
    unfold magnitude
    rw [c6]
    exact min_le_right _ _
  generalize magnitude t = m at *
  induction m with
  | bot => exact absurd h0 (not_le.2 (EReal.bot_lt_coe 0))
  | top => exact absurd h6 (not_le.2 (EReal.coe_lt_top 6))
  | coe x => exact ⟨x, rfl, EReal.coe_le_coe_iff.1 h0, EReal.coe_le_coe_iff.1 h6⟩

/-- The clipped feature in units of 1/64. -/
def units (t : EReal) : EReal := min ((6 : ℝ) : EReal) (max ((-6 : ℝ) : EReal) t) * ((1 / 64 : ℝ) : EReal)

/-- Its magnitude, and its sign. -/
theorem units_parts (t : EReal) (x : ℝ) (hx : magnitude t = (x : EReal)) :
    max (units t) (-units t) = ((x * (1 / 64) : ℝ) : EReal) ∧ (units t < ((0 : ℝ) : EReal) ↔ t < ((0 : ℝ) : EReal)) := by
  unfold magnitude at hx
  rw [c6] at hx
  unfold units
  have real : ∀ y z : ℝ, min ((6 : ℝ) : EReal) (max ((-6 : ℝ) : EReal) t) = (y : EReal) → min (max t (-t)) ((6 : ℝ) : EReal) = (z : EReal) → max y (-y) = z → (y < 0 ↔ t < ((0 : ℝ) : EReal)) →
      max (min ((6 : ℝ) : EReal) (max ((-6 : ℝ) : EReal) t) * ((1 / 64 : ℝ) : EReal)) (-(min ((6 : ℝ) : EReal) (max ((-6 : ℝ) : EReal) t) * ((1 / 64 : ℝ) : EReal))) = ((x * (1 / 64) : ℝ) : EReal)
        ∧ (min ((6 : ℝ) : EReal) (max ((-6 : ℝ) : EReal) t) * ((1 / 64 : ℝ) : EReal) < ((0 : ℝ) : EReal) ↔ t < ((0 : ℝ) : EReal)) := by
    intro y z hy hz hyz hs
    have hzx : z = x := EReal.coe_eq_coe_iff.1 (hz.symm.trans hx)
    rw [hy, ← EReal.coe_mul, ← EReal.coe_neg, ← hs, EReal.coe_lt_coe_iff]
    constructor
    · rw [← hzx, ← hyz]
      rcases le_total 0 y with h | h
      · rw [max_eq_left (by linarith : -y ≤ y), max_eq_left (EReal.coe_le_coe_iff.2 (by linarith))]
      · rw [max_eq_right (by linarith : y ≤ -y), max_eq_right (EReal.coe_le_coe_iff.2 (by linarith))]
        congr 1
        ring
    · constructor <;> intro h <;> linarith
  clear hx
  induction t with
  | bot =>
    refine real (-6) 6 ?_ ?_ (by norm_num) ⟨fun _ => EReal.bot_lt_coe 0, fun _ => by norm_num⟩
    · rw [max_eq_left bot_le, min_eq_right (EReal.coe_le_coe_iff.2 (by norm_num))]
    · rw [EReal.neg_bot, max_eq_right bot_le, min_eq_right le_top]
  | top =>
    refine real 6 6 ?_ ?_ (by norm_num) ⟨fun h => absurd h (by norm_num), fun h => absurd h (not_lt.2 le_top)⟩
    · rw [max_eq_right le_top, min_eq_left le_top]
    · rw [EReal.neg_top, max_eq_left bot_le, min_eq_right le_top]
  | coe w =>
    have mc : ∀ a b : ℝ, max (a : EReal) (b : EReal) = ((max a b : ℝ) : EReal) := fun a b => (EReal.coe_strictMono.monotone.map_max).symm
    have nc : ∀ a b : ℝ, min (a : EReal) (b : EReal) = ((min a b : ℝ) : EReal) := fun a b => (EReal.coe_strictMono.monotone.map_min).symm
    refine real (min 6 (max (-6) w)) (min (max w (-w)) 6) ?_ ?_ ?_ ?_
    · rw [mc, nc]
    · rw [← EReal.coe_neg, mc, nc]
    · rcases le_total w (-6) with h | h
      · rw [max_eq_left h, min_eq_right (by norm_num), max_eq_right (by norm_num), max_eq_right (by linarith), min_eq_right (by linarith)]
        norm_num
      rcases le_total 6 w with h' | h'
      · rw [max_eq_right h, min_eq_left h', max_eq_left (by norm_num), max_eq_left (by linarith), min_eq_right h']
      rw [max_eq_right h, min_eq_right h', min_eq_left (max_le h' (by linarith))]
    · rw [EReal.coe_lt_coe_iff]
      constructor
      · intro h
        rcases le_total 0 w with h' | h'
        · exact absurd h (not_lt.2 (le_min (by norm_num) (le_max_of_le_right h')))
        · rcases lt_or_eq_of_le h' with h'' | h''
          · exact h''
          · subst h''
            norm_num at h
      · intro h
        exact min_lt_of_right_lt (max_lt (by norm_num) h)

/-- The feature is rounded down to its code, and does not turn into a negative zero. -/
def RoundsDown (t : EReal) : Prop := nearest (magnitude t) ≤ magnitude t ∧ (((0 : ℝ) : EReal) ≤ t ∨ ((0 : ℝ) : EReal) < nearest (magnitude t))

/-- Where it is, the kernel's byte and the reference's code are the same code. -/
theorem codes_agree (t : EReal) (h : RoundsDown t) : ∃ (n : Fin 8) (s : Bool),
    byteOf (units t) = IntOp.ori (BitVec.ofNat 32 (4 * n.val)) (if s then 128#32 else 0#32) ∧ codeOf t = IntOp.ori (BitVec.ofNat 32 n.val) (if s then 8#32 else 0#32) := by
  obtain ⟨x, hx, h0, h6⟩ := magnitude_real t
  obtain ⟨hm, hs⟩ := units_parts t x hx
  obtain ⟨hd, hz⟩ := h
  rw [hx] at hd hz
  obtain ⟨n, hn, hl, hk⟩ := nearest_grid x h0 h6 hd
  have byte : byteOf (units t) = IntOp.ori (BitVec.ofNat 32 (4 * n.val)) (if t < ((0 : ℝ) : EReal) then 128#32 else 0#32) := by
    rw [← choose_grid x n hl hk]
    unfold byteOf Ideal.cmp
    simp only [c0, u1, u2, u3, u4, u5, u6, u7, hm, select_decide, EReal.coe_le_coe_iff, hs]
  have code : codeOf t = if t < ((0 : ℝ) : EReal) ∧ ((0 : ℝ) : EReal) < (grid n : EReal) then IntOp.ori (BitVec.ofNat 32 n.val) 8#32 else BitVec.ofNat 32 n.val := by
    unfold codeOf Ideal.cmp
    rw [hx, hn, indexOf_grid, c0]
    by_cases a : t < ((0 : ℝ) : EReal) <;> by_cases b : ((0 : ℝ) : EReal) < (grid n : EReal)
    · simp only [decide_eq_true a, decide_eq_true b, and_self, a, b, if_true]; rfl
    · simp only [decide_eq_true a, decide_eq_false b, a, b, and_false, if_false]; rfl
    · simp only [decide_eq_false a, decide_eq_true b, a, b, false_and, if_false]; rfl
    · simp only [decide_eq_false a, decide_eq_false b, a, b, false_and, if_false]; rfl
  rw [hn] at hz
  by_cases a : t < ((0 : ℝ) : EReal)
  · refine ⟨n, true, byte.trans (by rw [if_pos a]; rfl), code.trans ?_⟩
    rw [if_pos ⟨a, hz.resolve_left (not_le.2 a)⟩]
    rfl
  · refine ⟨n, false, byte.trans (by rw [if_neg a]; rfl), code.trans ?_⟩
    rw [if_neg fun c => a c.1]
    exact (BitVec.or_zero).symm

/-- The two packings of the same codes. -/
theorem pack_agree : ∀ (n m : Fin 8) (s r : Bool), packWord (IntOp.ori (BitVec.ofNat 32 (4 * n.val)) (if s then 128#32 else 0#32)) (IntOp.ori (BitVec.ofNat 32 (4 * m.val)) (if r then 128#32 else 0#32))
    = packCodes (IntOp.ori (BitVec.ofNat 32 n.val) (if s then 8#32 else 0#32)) (IntOp.ori (BitVec.ofNat 32 m.val) (if r then 8#32 else 0#32)) := by decide +kernel

/-- Two features that are rounded down are packed into the same byte. -/
theorem bytes_agree (t t' : EReal) (h : RoundsDown t) (h' : RoundsDown t') : packWord (byteOf (units t)) (byteOf (units t')) = packCodes (codeOf t) (codeOf t') := by
  obtain ⟨n, s, a, b⟩ := codes_agree t h
  obtain ⟨m, r, a', b'⟩ := codes_agree t' h'
  rw [a, b, a', b']
  exact pack_agree n m s r

end Cert.Codes

end
-- ==== Proof.QuantCode.lean ====
/- The packed codes that the quantising loop stores: of each clipped feature a byte found by comparing it with the grid, and
   of each pair of neighbouring features' bytes one byte of two four-bit codes. -/
module

public import proofs.«01_k».proof.Proof.QuantValue
public import proofs.«01_k».proof.Proof.Codes

@[expose] public section

set_option maxRecDepth 16384

noncomputable section

namespace Cert.QuantiseIdeal.Hand

open Cert.QuantiseIdeal Cert.QuantiseIdeal.Gen Idealize.ShloMosaic Idealize.ShloMosaic.TcCoe Idealize.ShloMosaic.Tactic
open Idealize.SL.Sem

section
variable {F : FTy → Type} [FloatOps F]

/-- A tile of features clipped and rounded, in units of 1/64 of a code. -/
def roundedTile (code : BitVec 32) (g : F .f32) (a v : FVec F S32x128 .f32) : FVec F S32x128 .f32 :=
  roundTile (clipTile (mulf v (take (segLane code) (recipTile g a))))

/-- The tile of bytes of such a tile. -/
def byteTile (q : FVec F S32x128 .f32) : IVec S32x128 32 :=
  ori
    (select (cmpf .oge (absf q) (broadcast S32x128 (Scalar.ofBits .f32 0x3DC00000#32))) (broadcast S32x128 28#32)
    (select (cmpf .oge (absf q) (broadcast S32x128 (Scalar.ofBits .f32 0x3D800000#32))) (broadcast S32x128 24#32)
    (select (cmpf .oge (absf q) (broadcast S32x128 (Scalar.ofBits .f32 0x3D400000#32))) (broadcast S32x128 20#32)
    (select (cmpf .oge (absf q) (broadcast S32x128 (Scalar.ofBits .f32 0x3D000000#32))) (broadcast S32x128 16#32)
    (select (cmpf .oge (absf q) (broadcast S32x128 (Scalar.ofBits .f32 0x3CC00000#32))) (broadcast S32x128 12#32)
    (select (cmpf .oge (absf q) (broadcast S32x128 (Scalar.ofBits .f32 0x3C800000#32))) (broadcast S32x128 8#32)
    (select (cmpf .oge (absf q) (broadcast S32x128 (Scalar.ofBits .f32 0x3C000000#32))) (broadcast S32x128 4#32) (broadcast S32x128 0#32))))))))
    (select (cmpf .olt q (broadcast S32x128 (Scalar.ofBits .f32 0x00000000#32))) (broadcast S32x128 128#32) (broadcast S32x128 0#32))

/-- Two tiles of bytes packed into one. -/
def packTile (be bo : IVec S32x128 32) : IVec S32x128 8 :=
  trunci 8 (ori (ori (andi (shrsi be (broadcast S32x128 4#32)) (broadcast S32x128 134744072#32)) (andi (shrsi be (broadcast S32x128 2#32)) (broadcast S32x128 117901063#32)))
    (ori (andi bo (broadcast S32x128 2155905152#32)) (andi (shli bo (broadcast S32x128 2#32)) (broadcast S32x128 1886417008#32)))) natLt_8_32
end

/-- A feature clipped, in units of 1/64 of a code, from the largest magnitude of its group. -/
def clippedOf (g a v : EReal) : EReal :=
  min (Ideal.ofBits .f32 0x3DC00000#32) (max (Ideal.ofBits .f32 0xBDC00000#32)
    (v * (FloatOps.divf (F := Ideal) (φ := .f32) (Ideal.ofBits .f32 0x3F800000#32) (scaleOf g a * g : EReal) * Ideal.ofBits .f32 0x3C800000#32 : EReal)))

/-- A tile of clipped features at an index. -/
theorem roundedTile_apply (j : Fin 8) (g : EReal) (a v : FVec Ideal S32x128 .f32) (r : Fin 32) (l : Fin 128) :
    (roundedTile (F := Ideal) (BitVec.ofNat 32 (codeLane j).val) g a v (ValueIdx.ix2 r l) : EReal)
      = clippedOf g (a (ValueIdx.ix2 r (octLane ⟨l.val / 8, by omega⟩ (codeLane j)))) (v (ValueIdx.ix2 r l)) := by
  have e1 := take_apply (F := Ideal) (segLane (BitVec.ofNat 32 (codeLane j).val)) (recipTile (F := Ideal) g a) r l _ (segLane_eq j l)
  refine ((roundTile_apply _ _).trans
    (congrArg (fun z : EReal => min (Ideal.ofBits .f32 0x3DC00000#32) (max (Ideal.ofBits .f32 0xBDC00000#32) ((v (ValueIdx.ix2 r l) : EReal) * z))) e1)).trans ?_
  rfl

/-- A tile of bytes at an index. -/
theorem byteTile_apply (q : FVec Ideal S32x128 .f32) (i : S32x128.Idx) : byteTile (F := Ideal) q i = Codes.byteOf (q i) := rfl

/-- A packed tile at an index. -/
theorem packTile_apply (be bo : IVec S32x128 32) (i : S32x128.Idx) : packTile be bo i = Codes.packWord (be i) (bo i) := rfl

/-- The columns, in the kernel's order, of the two features of packed byte `b`. -/
def evenCol (b : Fin 1536) : Fin 3072 := ⟨256 * (b.val / 128) + b.val % 128, by omega⟩
def oddCol (b : Fin 1536) : Fin 3072 := ⟨256 * (b.val / 128) + b.val % 128 + 128, by omega⟩

/-- The clipped features of some rows, in the kernel's column order. -/
def clippedAt {R : Nat} (g : EReal) (x2 : (⟨2, ![R, 3072]⟩ : Shape).Idx → EReal) (s3 : S1x3072.Idx → EReal) (r : Fin R) (c : Fin 3072) : EReal :=
  clippedOf g (topAt x2 s3 r (groupOf c)) (xsp x2 s3 r c)

/-- The packed codes of some rows. -/
def codeAt {R : Nat} (g : EReal) (x2 : (⟨2, ![R, 3072]⟩ : Shape).Idx → EReal) (s3 : S1x3072.Idx → EReal) (r : Fin R) (b : Fin 1536) : BitVec 8 :=
  Codes.packWord (Codes.byteOf (clippedAt g x2 s3 r (evenCol b))) (Codes.byteOf (clippedAt g x2 s3 r (oddCol b)))

/-- A stored tile agrees with the packed codes. -/
def CodeAgrees (g : EReal) (x2 : S256x3072.Idx → EReal) (s3 : S1x3072.Idx → EReal) (p : View.Piece (Elt Ideal) S256x1536 .i8) : Prop :=
  ∀ x : p.1.shape.Idx, p.2 x = codeAt (R := 256) g x2 s3 (p.1.emb x 0) (p.1.emb x 1)

section
variable {x2 : S256x3072.Idx → EReal} {s3 : S1x3072.Idx → EReal} {k : Nat} {hk : k < 8} (g : EReal) {kt : Nat} {hkt : kt < 12} {b n : Nat} {hb : b + n ≤ 12}
  {a : FVec Ideal S32x128 .f32} (ha : HoldsTops x2 s3 k hk b n hb a)

include ha in
/-- A tile of clipped features, from the tile of features and the tile of largest magnitudes. -/
theorem clipped_of (p : Nat) (hp : p < 2) (j : Fin 8) (hj : j.val < n) (hkj : kt = b + j.val) {v : FVec Ideal S32x128 .f32}
    (hv : ∀ (r : Fin 32) (l : Fin 128) (y0 : Fin 256) (y1 : Fin 3072), y0.val = 32 * k + r.val → y1.val = 256 * kt + 128 * p + l.val → (v (ValueIdx.ix2 r l) : EReal) = xsp (R := 256) x2 s3 y0 y1)
    (r : Fin 32) (l : Fin 128) (y0 : Fin 256) (y1 : Fin 3072) (h0 : y0.val = 32 * k + r.val) (h1 : y1.val = 256 * kt + 128 * p + l.val) :
    (roundedTile (F := Ideal) (BitVec.ofNat 32 (codeLane j).val) g a v (ValueIdx.ix2 r l) : EReal) = clippedAt (R := 256) g x2 s3 y0 y1 := by
  refine (roundedTile_apply j g a v r l).trans ?_
  unfold clippedAt
  refine congrArg₂ (clippedOf g) ((ha r ⟨l.val / 8, by omega⟩ j hj).trans (congrArg₂ (topAt (R := 256) x2 s3) (Fin.ext h0.symm) (Fin.ext ?_))) (hv r l _ _ h0 h1)
  show 16 * (b + j.val) + l.val / 8 = 16 * (y1.val / 256) + y1.val % 128 / 8
  have e1 : y1.val / 256 = kt := by omega
  have e2 : y1.val % 128 = l.val := by omega
  rw [e1, e2, hkj]

variable {A B : Vec Ideal S32x128 .bf16} {S S' : Vec Ideal S1x128 .f32} (h : Step x2 s3 k hk kt hkt A B S S')
variable {off : Fin S256x1536.rank → Nat} {inb : ∀ a, off a + S32x128.size a ≤ S256x1536.size a}

include ha h in
/-- The stored tile of packed codes. -/
theorem code_of (j : Fin 8) (hj : j.val < n) (hkj : kt = b + j.val) (ho : off = ![32 * k, 128 * kt]) :
    CodeAgrees g x2 s3 ⟨Rect.unit (s := S256x1536) off S32x128.size inb,
      packTile (byteTile (F := Ideal) (roundedTile (F := Ideal) (BitVec.ofNat 32 (codeLane j).val) g a (evenT (F := Ideal) A B S)))
        (byteTile (F := Ideal) (roundedTile (F := Ideal) (BitVec.ofNat 32 (codeLane j).val) g a (oddT (F := Ideal) A B S')))⟩ := by
  subst ho
  intro x
  obtain ⟨r, l, rfl⟩ : ∃ (r : Fin 32) (l : Fin 128), x = ValueIdx.ix2 r l := ⟨x 0, x 1, ValueIdx.eq_ix2 x⟩
  have hy0 : 32 * k + 1 * r.val = 32 * k + r.val := by omega
  have hy1 : (128 * kt + 1 * l.val) / 128 = kt := by omega
  have hy2 : (128 * kt + 1 * l.val) % 128 = l.val := by omega
  have e0 := clipped_of g ha 0 (by decide) j hj hkj (fun r l y0 y1 h0 h1 => even_at x2 s3 k hk kt hkt h.1.1 h.1.2 h.2.1 r l y0 y1 h0 (by omega)) r l
    (⟨32 * k + 1 * r.val, by omega⟩ : Fin 256) (evenCol ⟨128 * kt + 1 * l.val, by omega⟩) hy0 (by
      show 256 * ((128 * kt + 1 * l.val) / 128) + (128 * kt + 1 * l.val) % 128 = _
      rw [hy1, hy2]
      rfl)
  have e1 := clipped_of g ha 1 (by decide) j hj hkj (fun r l y0 y1 h0 h1 => odd_at x2 s3 k hk kt hkt h.1.1 h.1.2 h.2.2 r l y0 y1 h0 (by omega)) r l
    (⟨32 * k + 1 * r.val, by omega⟩ : Fin 256) (oddCol ⟨128 * kt + 1 * l.val, by omega⟩) hy0 (by
      show 256 * ((128 * kt + 1 * l.val) / 128) + (128 * kt + 1 * l.val) % 128 + 128 = _
      rw [hy1, hy2]
      omega)
  exact (packTile_apply _ _ _).trans (congrArg₂ Codes.packWord ((byteTile_apply _ _).trans (congrArg Codes.byteOf e0)) ((byteTile_apply _ _).trans (congrArg Codes.byteOf e1)))
end

section
variable (𝒱 : Variants) (c : Dev nD) (bd : Option 𝒱.V) (i : grid0.Coords)
  (arg1 : Memref sig .tc .smem S1x1 .f32) (harg1 : arg1.IsWhole)
  (arg2 : Memref sig .tc .vmem S256x3072 .bf16) (harg2 : arg2.IsWhole)
  (arg3 : Memref sig .tc .vmem S1x3072 .f32) (harg3 : arg3.IsWhole)
  (arg4 : Memref sig .tc .vmem S3072x32 .bf16) (harg4 : arg4.IsWhole)
  (arg5 : Memref sig .tc .vmem S256x1536 .i8) (harg5 : arg5.IsWhole)
  (arg6 : Memref sig .tc .vmem S256x192 .fp8e4m3) (harg6 : arg6.IsWhole)
  (arg7 : Memref sig .tc .vmem S256x3072 .bf16) (harg7 : arg7.IsWhole)
  (arg8 : Memref sig .tc .vmem S256x32 .bf16) (harg8 : arg8.IsWhole)
  (arg9 : Memref sig .tc .vmem S256x3072 .bf16) (harg9 : arg9.IsWhole)
  (X1 : BufTy.Contents (Elt Ideal) arg1.view.ty) (X2 : BufTy.Contents (Elt Ideal) arg2.view.ty) (X3 : BufTy.Contents (Elt Ideal) arg3.view.ty)

set_option maxHeartbeats 8000000 in
/-- Every tile of packed codes that one trip of the loop stores agrees with them. -/
theorem trip_codes (k : Fin k0_t1_loop.trips) :
    ∀ p ∈ (tripL_k0_t1 (F := Ideal) 𝒱 c bd i arg1 harg1 arg2 harg2 arg3 harg3 arg4 harg4 arg5 harg5 arg6 harg6 arg7 harg7 arg8 harg8 arg9 harg9 X1 X2 X3 k).1,
      CodeAgrees (arg1.view.read (Elt Ideal) X1 (ValueIdx.ix2 (0 : Fin 1) (0 : Fin 1))) (arg2.view.read (Elt Ideal) X2) (arg3.view.read (Elt Ideal) X3) p := by
  have hk : k.val < 8 := Nat.lt_of_lt_of_le k.isLt k0_t1_abs.2.1
  have hg : arg1.view.readAt (Elt Ideal) (Rect.unit ![0, 0] S1x1.size inb_S1x1_S1x1_0_0).toLoadRect X1 (Shape.Idx.first (Nat.lt_of_lt_of_eq Nat.zero_lt_one numel1_S1x1.symm))
      = arg1.view.read (Elt Ideal) X1 (ValueIdx.ix2 (0 : Fin 1) (0 : Fin 1)) := by
    rw [View.readAt_eq_ld]
    exact congrArg (arg1.view.read (Elt Ideal) X1) (funext fun a => by fin_cases a <;> rfl)
  rw [← hg]
  have h0 := step_at arg2 X2 arg3 X3 k.val hk 0 (by decide) (k0_off1_inb k) (k0_off2_inb k) inb_S1x3072_S1x128_0_0 inb_S1x3072_S1x128_0_128 (k0_off1_eq k) (k0_off2_eq k) rfl rfl
  have h1 := step_at arg2 X2 arg3 X3 k.val hk 1 (by decide) (k0_off3_inb k) (k0_off4_inb k) inb_S1x3072_S1x128_0_256 inb_S1x3072_S1x128_0_384 (k0_off3_eq k) (k0_off4_eq k) rfl rfl
  have h2 := step_at arg2 X2 arg3 X3 k.val hk 2 (by decide) (k0_off5_inb k) (k0_off6_inb k) inb_S1x3072_S1x128_0_512 inb_S1x3072_S1x128_0_640 (k0_off5_eq k) (k0_off6_eq k) rfl rfl
  have h3 := step_at arg2 X2 arg3 X3 k.val hk 3 (by decide) (k0_off7_inb k) (k0_off8_inb k) inb_S1x3072_S1x128_0_768 inb_S1x3072_S1x128_0_896 (k0_off7_eq k) (k0_off8_eq k) rfl rfl
  have h4 := step_at arg2 X2 arg3 X3 k.val hk 4 (by decide) (k0_off9_inb k) (k0_off10_inb k) inb_S1x3072_S1x128_0_1024 inb_S1x3072_S1x128_0_1152 (k0_off9_eq k) (k0_off10_eq k) rfl rfl
  have h5 := step_at arg2 X2 arg3 X3 k.val hk 5 (by decide) (k0_off11_inb k) (k0_off12_inb k) inb_S1x3072_S1x128_0_1280 inb_S1x3072_S1x128_0_1408 (k0_off11_eq k) (k0_off12_eq k) rfl rfl
  have h6 := step_at arg2 X2 arg3 X3 k.val hk 6 (by decide) (k0_off13_inb k) (k0_off14_inb k) inb_S1x3072_S1x128_0_1536 inb_S1x3072_S1x128_0_1664 (k0_off13_eq k) (k0_off14_eq k) rfl rfl
  have h7 := step_at arg2 X2 arg3 X3 k.val hk 7 (by decide) (k0_off15_inb k) (k0_off16_inb k) inb_S1x3072_S1x128_0_1792 inb_S1x3072_S1x128_0_1920 (k0_off15_eq k) (k0_off16_eq k) rfl rfl
  have h8 := step_at arg2 X2 arg3 X3 k.val hk 8 (by decide) (k0_off17_inb k) (k0_off18_inb k) inb_S1x3072_S1x128_0_2048 inb_S1x3072_S1x128_0_2176 (k0_off17_eq k) (k0_off18_eq k) rfl rfl
  have h9 := step_at arg2 X2 arg3 X3 k.val hk 9 (by decide) (k0_off19_inb k) (k0_off20_inb k) inb_S1x3072_S1x128_0_2304 inb_S1x3072_S1x128_0_2432 (k0_off19_eq k) (k0_off20_eq k) rfl rfl
  have h10 := step_at arg2 X2 arg3 X3 k.val hk 10 (by decide) (k0_off21_inb k) (k0_off22_inb k) inb_S1x3072_S1x128_0_2560 inb_S1x3072_S1x128_0_2688 (k0_off21_eq k) (k0_off22_eq k) rfl rfl
  have h11 := step_at arg2 X2 arg3 X3 k.val hk 11 (by decide) (k0_off23_inb k) (k0_off24_inb k) inb_S1x3072_S1x128_0_2816 inb_S1x3072_S1x128_0_2944 (k0_off23_eq k) (k0_off24_eq k) rfl rfl
  have ha := tops8 _ _ k.val hk ![_, _, _, _, _, _, _, _] (fun j => by fin_cases j; exacts [h0.pairs, h1.pairs, h2.pairs, h3.pairs, h4.pairs, h5.pairs, h6.pairs, h7.pairs])
  have hb := tops4 _ _ k.val hk ![_, _, _, _] (fun j => by fin_cases j; exacts [h8.pairs, h9.pairs, h10.pairs, h11.pairs])
  generalize hx2 : arg2.view.read (Elt Ideal) X2 = x2 at *
  generalize hx3 : arg3.view.read (Elt Ideal) X3 = x3 at *
  unfold tripL_k0_t1 trip_k0_t1
  dsimp only
  refine List.forall_mem_cons.2 ⟨(code_of _ hb h11 3 (by decide) rfl (k0_off38_eq k) :), ?_⟩
  refine List.forall_mem_cons.2 ⟨(code_of _ hb h10 2 (by decide) rfl (k0_off37_eq k) :), ?_⟩
  refine List.forall_mem_cons.2 ⟨(code_of _ hb h9 1 (by decide) rfl (k0_off36_eq k) :), ?_⟩
  refine List.forall_mem_cons.2 ⟨(code_of _ hb h8 0 (by decide) rfl (k0_off35_eq k) :), ?_⟩
  refine List.forall_mem_cons.2 ⟨(code_of _ ha h7 7 (by decide) rfl (k0_off34_eq k) :), ?_⟩
  refine List.forall_mem_cons.2 ⟨(code_of _ ha h6 6 (by decide) rfl (k0_off33_eq k) :), ?_⟩
  refine List.forall_mem_cons.2 ⟨(code_of _ ha h5 5 (by decide) rfl (k0_off32_eq k) :), ?_⟩
  refine List.forall_mem_cons.2 ⟨(code_of _ ha h4 4 (by decide) rfl (k0_off31_eq k) :), ?_⟩
  refine List.forall_mem_cons.2 ⟨(code_of _ ha h3 3 (by decide) rfl (k0_off30_eq k) :), ?_⟩
  refine List.forall_mem_cons.2 ⟨(code_of _ ha h2 2 (by decide) rfl (k0_off29_eq k) :), ?_⟩
  refine List.forall_mem_cons.2 ⟨(code_of _ ha h1 1 (by decide) rfl (k0_off28_eq k) :), ?_⟩
  refine List.forall_mem_cons.2 ⟨(code_of _ ha h0 0 (by decide) rfl (k0_off27_eq k) :), ?_⟩
  exact fun p hp => absurd hp List.not_mem_nil

/-- So does every tile of the trips before any trip. -/
theorem pb_codes (n : Nat) (hn : n ≤ k0_t1_loop.trips) :
    ∀ p ∈ (pb_k0_t1 (F := Ideal) 𝒱 c bd i arg1 harg1 arg2 harg2 arg3 harg3 arg4 harg4 arg5 harg5 arg6 harg6 arg7 harg7 arg8 harg8 arg9 harg9 X1 X2 X3 n).1,
      CodeAgrees (arg1.view.read (Elt Ideal) X1 (ValueIdx.ix2 (0 : Fin 1) (0 : Fin 1))) (arg2.view.read (Elt Ideal) X2) (arg3.view.read (Elt Ideal) X3) p := by
  induction n with
  | zero => exact fun p hp => absurd hp List.not_mem_nil
  | succ n ih =>
    intro p hp
    rw [pb_k0_t1_succ (F := Ideal) 𝒱 c bd i arg1 harg1 arg2 harg2 arg3 harg3 arg4 harg4 arg5 harg5 arg6 harg6 arg7 harg7 arg8 harg8 arg9 harg9 X1 X2 X3 ⟨n, hn⟩] at hp
    rcases List.mem_append.1 hp with h | h
    · exact trip_codes 𝒱 c bd i arg1 harg1 arg2 harg2 arg3 harg3 arg4 harg4 arg5 harg5 arg6 harg6 arg7 harg7 arg8 harg8 arg9 harg9 X1 X2 X3 ⟨n, hn⟩ p h
    · exact ih (Nat.le_of_succ_le hn) p h
end

end Cert.QuantiseIdeal.Hand

end
-- ==== Proof.QuantBlock.lean ====
/- What one grid point of the quantising call computes: its block of packed codes, its block of scales, its block of dequantised features and its block
   of the low-rank product. -/
module

public import proofs.«01_k».proof.Proof.QuantCode
public import proofs.«01_k».proof.Proof.Gen.QuantiseIdeal.Value
public import Idealize.ShloMosaic.Lib.MatmulPlain

@[expose] public section

set_option maxRecDepth 16384

noncomputable section

namespace Cert.QuantiseIdeal.Hand

open Cert.QuantiseIdeal Cert.QuantiseIdeal.Gen Idealize.ShloMosaic Idealize.ShloMosaic.TcCoe Idealize.ShloMosaic.Tactic

section
variable (c : Dev nD) (i : grid0.Coords)
  (arg1 : Memref sig .tc .smem S1x1 .f32) (harg1 : arg1.IsWhole)
  (arg2 : Memref sig .tc .vmem S256x3072 .bf16) (harg2 : arg2.IsWhole)
  (arg3 : Memref sig .tc .vmem S1x3072 .f32) (harg3 : arg3.IsWhole)
  (arg4 : Memref sig .tc .vmem S3072x32 .bf16) (harg4 : arg4.IsWhole)
  (arg5 : Memref sig .tc .vmem S256x1536 .i8) (harg5 : arg5.IsWhole)
  (arg6 : Memref sig .tc .vmem S256x192 .fp8e4m3) (harg6 : arg6.IsWhole)
  (arg7 : Memref sig .tc .vmem S256x3072 .bf16) (harg7 : arg7.IsWhole)
  (arg8 : Memref sig .tc .vmem S256x32 .bf16) (harg8 : arg8.IsWhole)
  (arg9 : Memref sig .tc .vmem S256x3072 .bf16) (harg9 : arg9.IsWhole)
  (x0 : Vec Ideal S1x1 .f32) (x1 : Vec Ideal S256x3072 .bf16) (x2 : Vec Ideal S1x3072 .f32) (x3 : Vec Ideal S3072x32 .bf16)

/-- The block of packed codes. -/
theorem out4_eq :
    out0_A_4 (F := Ideal) c i arg1 harg1 arg2 harg2 arg3 harg3 arg4 harg4 arg5 harg5 arg6 harg6 arg7 harg7 arg8 harg8 arg9 harg9 x0 x1 x2 x3
      = fun y => codeAt (R := 256) (x0 (ValueIdx.ix2 (0 : Fin 1) (0 : Fin 1))) x1 x2 (y 0) (y 1) := by
  unfold out0_A_4
  rw [View.read_writes_eq_canon _ _ _ (cover0_A_4 (F := Ideal) c i arg1 harg1 arg2 harg2 arg3 harg3 arg4 harg4 arg5 harg5 arg6 harg6 arg7 harg7 arg8 harg8 arg9 harg9 x0 x1 x2 x3)]
  have e := pb_codes Variants.none c none i arg1 harg1 arg2 harg2 arg3 harg3 arg4 harg4 arg5 harg5 arg6 harg6 arg7 harg7 arg8 harg8 arg9 harg9 (harg1.unread x0) (harg2.unread x1) (harg3.unread x2) k0_t1_loop.trips (Nat.le_refl _)
  simp only [harg1.read_unread, harg2.read_unread, harg3.read_unread] at e
  funext y
  refine View.canon_apply_of_pieces (Val := Elt Ideal) (fun y => codeAt (R := 256) (x0 (ValueIdx.ix2 (0 : Fin 1) (0 : Fin 1))) x1 x2 (y 0) (y 1)) _ ?_ y
    (cover0_A_4 (F := Ideal) c i arg1 harg1 arg2 harg2 arg3 harg3 arg4 harg4 arg5 harg5 arg6 harg6 arg7 harg7 arg8 harg8 arg9 harg9 x0 x1 x2 x3 y)
  unfold kernelRun0_A
  dsimp only
  sl_unfold_words
  exact e

/-- The block of scales. -/
theorem out5_eq :
    out0_A_5 (F := Ideal) c i arg1 harg1 arg2 harg2 arg3 harg3 arg4 harg4 arg5 harg5 arg6 harg6 arg7 harg7 arg8 harg8 arg9 harg9 x0 x1 x2 x3
      = fun y => scaleAt (R := 256) (x0 (ValueIdx.ix2 (0 : Fin 1) (0 : Fin 1))) x1 x2 (y 0) (y 1) := by
  unfold out0_A_5
  rw [View.read_writes_eq_canon _ _ _ (cover0_A_5 (F := Ideal) c i arg1 harg1 arg2 harg2 arg3 harg3 arg4 harg4 arg5 harg5 arg6 harg6 arg7 harg7 arg8 harg8 arg9 harg9 x0 x1 x2 x3)]
  have e := pb_scales Variants.none c none i arg1 harg1 arg2 harg2 arg3 harg3 arg4 harg4 arg5 harg5 arg6 harg6 arg7 harg7 arg8 harg8 arg9 harg9 (harg1.unread x0) (harg2.unread x1) (harg3.unread x2) k0_t1_loop.trips (Nat.le_refl _)
  simp only [harg1.read_unread, harg2.read_unread, harg3.read_unread] at e
  funext y
  refine View.canon_apply_of_pieces (Val := Elt Ideal) (fun y => scaleAt (R := 256) (x0 (ValueIdx.ix2 (0 : Fin 1) (0 : Fin 1))) x1 x2 (y 0) (y 1)) _ ?_ y
    (cover0_A_5 (F := Ideal) c i arg1 harg1 arg2 harg2 arg3 harg3 arg4 harg4 arg5 harg5 arg6 harg6 arg7 harg7 arg8 harg8 arg9 harg9 x0 x1 x2 x3 y)
  unfold kernelRun0_A
  dsimp only
  sl_unfold_words
  exact e

/-- The block of dequantised features. -/
theorem out6_eq :
    out0_A_6 (F := Ideal) c i arg1 harg1 arg2 harg2 arg3 harg3 arg4 harg4 arg5 harg5 arg6 harg6 arg7 harg7 arg8 harg8 arg9 harg9 x0 x1 x2 x3
      = fun y => valueAt (R := 256) (x0 (ValueIdx.ix2 (0 : Fin 1) (0 : Fin 1))) x1 x2 (y 0) (y 1) := by
  unfold out0_A_6
  rw [View.read_writes_eq_canon _ _ _ (cover0_A_6 (F := Ideal) c i arg1 harg1 arg2 harg2 arg3 harg3 arg4 harg4 arg5 harg5 arg6 harg6 arg7 harg7 arg8 harg8 arg9 harg9 x0 x1 x2 x3)]
  have e := pb_values Variants.none c none i arg1 harg1 arg2 harg2 arg3 harg3 arg4 harg4 arg5 harg5 arg6 harg6 arg7 harg7 arg8 harg8 arg9 harg9 (harg1.unread x0) (harg2.unread x1) (harg3.unread x2) k0_t1_loop.trips (Nat.le_refl _)
  simp only [harg1.read_unread, harg2.read_unread, harg3.read_unread] at e
  funext y
  refine View.canon_apply_of_pieces (Val := Elt Ideal) (fun y => valueAt (R := 256) (x0 (ValueIdx.ix2 (0 : Fin 1) (0 : Fin 1))) x1 x2 (y 0) (y 1)) _ ?_ y
    (cover0_A_6 (F := Ideal) c i arg1 harg1 arg2 harg2 arg3 harg3 arg4 harg4 arg5 harg5 arg6 harg6 arg7 harg7 arg8 harg8 arg9 harg9 x0 x1 x2 x3 y)
  unfold kernelRun0_A
  dsimp only
  sl_unfold_words
  exact e

/-- The block of the low-rank product, before its index is read. -/
theorem out7_eq :
    out0_A_7 (F := Ideal) c i arg1 harg1 arg2 harg2 arg3 harg3 arg4 harg4 arg5 harg5 arg6 harg6 arg7 harg7 arg8 harg8 arg9 harg9 x0 x1 x2 x3
      = k0_pay2 (F := Ideal) (fun y => xsp (R := 256) x1 x2 (y 0) (y 1)) x3 := by
  unfold out0_A_7
  rw [View.read_writes_eq_canon _ _ _ (cover0_A_7 (F := Ideal) c i arg1 harg1 arg2 harg2 arg3 harg3 arg4 harg4 arg5 harg5 arg6 harg6 arg7 harg7 arg8 harg8 arg9 harg9 x0 x1 x2 x3)]
  unfold kernelRun0_A
  dsimp only
  sl_unfold_words
  have hz2 : (![0, 0] : Fin 2 → Nat) = fun _ => 0 := funext fun a => by fin_cases a <;> rfl
  have e := scratch_eq Variants.none c none i arg1 harg1 arg2 harg2 arg3 harg3 arg4 harg4 arg5 harg5 arg6 harg6 arg7 harg7 arg8 harg8 arg9 harg9 (harg1.unread x0) (harg2.unread x1) (harg3.unread x2)
    (off := ![0, 0]) hz2 inb_S256x3072_S256x3072_0_0
  simp only [View.readAt_eq_ld, harg1.read_unread, harg2.read_unread, harg3.read_unread, harg4.read_unread] at e ⊢
  rw [View.canon_unit_zero hz2, View.ld_unit_zero hz2]
  exact congrArg (fun w => k0_pay2 (F := Ideal) w x3) e
end

/-- The low-rank product at row `r`, column `n` of the block. -/
theorem low_apply (w : Vec Ideal S256x3072 .bf16) (x3 : Vec Ideal S3072x32 .bf16) (r : Fin 256) (n : Fin 32) :
    (k0_pay2 (F := Ideal) w x3 (ValueIdx.ix2 r n) : EReal) = ∑ k : Fin 3072, (w (ValueIdx.ix2 r k) : EReal) * x3 (ValueIdx.ix2 k n) := by
  have e2 := Ideal.matmul_plain_apply (M := 256) (K := 3072) (N := 32) (φ₁ := .bf16) (φ₂ := .bf16) none w x3 (constant S256x32 .f32 0x00000000#32) r n
  have z : (constant S256x32 .f32 0x00000000#32 : FVec Ideal S256x32 .f32) (ValueIdx.ix2 r n) = 0 := by
    show Ideal.ofBits .f32 0x00000000#32 = 0
    simp [Ideal.ofBits, Ideal.ieee]
  rw [z, zero_add] at e2
  unfold k0_pay2
  simp only [shapeCast_self]
  exact e2

end Cert.QuantiseIdeal.Hand

end
-- ==== Proof.QuantArray.lean ====
/- The quantising call's arrays of packed codes, of scales and of dequantised features and its low-rank product after the run, as functions of the arguments: every grid
   point writes its block of rows, and the blocks cover the arrays. -/
module

public import proofs.«01_k».proof.Proof.QuantBlock
public import Idealize.ShloMosaic.Lib.Pipeline.ValueKit.Geometry
public import Idealize.ShloMosaic.Lib.Pipeline.Value
public import Idealize.ShloMosaic.Lib.ValueLayout
public import Idealize.ShloMosaic.Lib.ValueIdxCore

@[expose] public section

set_option maxRecDepth 16384

noncomputable section

namespace Cert.QuantiseIdeal.Hand

open Cert.QuantiseIdeal Cert.QuantiseIdeal.Gen Idealize.ShloMosaic Idealize.ShloMosaic.TcCoe Idealize.ShloMosaic.Tactic

variable (m : (ℓ : Loc nD τ sig) → Buf (Elt Ideal) ℓ)

/-! ## What the host hands the grid -/

/-- The features, one row per token. -/
def tokens (x : S2x4608x3072.Idx → EReal) : S9216x3072.Idx → EReal := shapeCast S9216x3072 x shapeCasts_S2x4608x3072_S9216x3072

/-- The smoothing factors, in the kernel's column order. -/
def factors (s : S3072.Idx → EReal) : S1x3072.Idx → EReal :=
  shapeCast S1x3072 (transpose S12x2x128 [0, 2, 1] (shapeCast S12x128x2 s shapeCasts_S3072_S12x128x2) transposes_S12x128x2_S12x2x128_0_2_1) shapeCasts_S12x2x128_S1x3072

/-- The low-rank matrix, its rows in the kernel's column order. -/
def lowRank (w : S3072x32.Idx → EReal) : S3072x32.Idx → EReal :=
  shapeCast S3072x32 (transpose S12x2x128x32 [0, 2, 1, 3] (shapeCast S12x128x2x32 w shapeCasts_S3072x32_S12x128x2x32)
    transposes_S12x128x2x32_S12x2x128x32_0_2_1_3) shapeCasts_S12x2x128x32_S3072x32

/-- The tokens as the call receives them. -/
theorem V_v0 (c : Dev nD) : V m c main_v0 = tokens (m ((c : Thread nD τ).loc main_arg0)) := by
  show StableHlo.after hostOps0 _ (Proc.devRef .tc main_v0) = _
  unfold hostOps0
  after_results
  rfl

/-- The smoothing factors as the call receives them. -/
theorem V_v3 (c : Dev nD) : V m c main_v3 = factors (m ((c : Thread nD τ).loc main_arg1)) := by
  show StableHlo.after hostOps0 _ (Proc.devRef .tc main_v3) = _
  unfold hostOps0
  after_results
  rfl

/-- The low-rank matrix as the call receives it. -/
theorem V_v6 (c : Dev nD) : V m c main_v6 = lowRank (m ((c : Thread nD τ).loc main_arg3)) := by
  show StableHlo.after hostOps0 _ (Proc.devRef .tc main_v6) = _
  unfold hostOps0
  after_results
  rfl

/-- The global scale as the call receives it. -/
theorem V_v7 (c : Dev nD) : V m c main_v7 = shapeCast S1x1 (m ((c : Thread nD τ).loc main_arg2)) shapeCasts_S_S1x1 := by
  show StableHlo.after hostOps0 _ (Proc.devRef .tc main_v7) = _
  unfold hostOps0
  after_results
  rfl

/-- Column `k` of the factors is the factor of feature `unperm k`. -/
theorem factors_apply (s : S3072.Idx → EReal) (k : Fin 3072) : factors s (ValueIdx.ix2 (0 : Fin 1) k) = s (ValueIdx.ix1 (unperm k)) := by
  unfold factors
  rw [shapeCast_apply _ _ _ (ValueIdx.ix3 (n0 := 12) (n1 := 2) (n2 := 128) ⟨k.val / 256, by omega⟩ ⟨k.val / 128 % 2, by omega⟩ ⟨k.val % 128, by omega⟩) ?_]
  · rw [transpose_apply _ _ _ _ (ValueIdx.ix3 (n0 := 12) (n1 := 128) (n2 := 2) ⟨k.val / 256, by omega⟩ ⟨k.val % 128, by omega⟩ ⟨k.val / 128 % 2, by omega⟩) ?_]
    · refine shapeCast_apply _ _ _ _ ?_
      rw [Shape.rowMajor_val_one, Shape.rowMajor_val_three]
      show 256 * (k.val / 256) + 2 * (k.val % 128) + k.val / 128 % 2 = (k.val / 256 * 128 + k.val % 128) * 2 + k.val / 128 % 2
      omega
    · intro b
      match b with
      | ⟨0, _⟩ => rfl
      | ⟨1, _⟩ => rfl
      | ⟨2, _⟩ => rfl
  · rw [Shape.rowMajor_val_two, Shape.rowMajor_val_three]
    show (k.val / 256 * 2 + k.val / 128 % 2) * 128 + k.val % 128 = 0 * 3072 + k.val
    omega

/-- Row `k` of the low-rank matrix is the row of feature `unperm k`. -/
theorem lowRank_apply (w : S3072x32.Idx → EReal) (k : Fin 3072) (n : Fin 32) : lowRank w (ValueIdx.ix2 k n) = w (ValueIdx.ix2 (unperm k) n) := by
  unfold lowRank
  rw [shapeCast_apply _ _ _ (ValueIdx.ix4 (n0 := 12) (n1 := 2) (n2 := 128) (n3 := 32) ⟨k.val / 256, by omega⟩ ⟨k.val / 128 % 2, by omega⟩ ⟨k.val % 128, by omega⟩ n) ?_]
  · rw [transpose_apply _ _ _ _ (ValueIdx.ix4 (n0 := 12) (n1 := 128) (n2 := 2) (n3 := 32) ⟨k.val / 256, by omega⟩ ⟨k.val % 128, by omega⟩ ⟨k.val / 128 % 2, by omega⟩ n) ?_]
    · refine shapeCast_apply _ _ _ _ ?_
      rw [Shape.rowMajor_val_two, Shape.rowMajor_val_four]
      show (256 * (k.val / 256) + 2 * (k.val % 128) + k.val / 128 % 2) * 32 + n.val = ((k.val / 256 * 128 + k.val % 128) * 2 + k.val / 128 % 2) * 32 + n.val
      omega
    · intro b
      match b with
      | ⟨0, _⟩ => rfl
      | ⟨1, _⟩ => rfl
      | ⟨2, _⟩ => rfl
      | ⟨3, _⟩ => rfl
  · rw [Shape.rowMajor_val_two, Shape.rowMajor_val_four]
    show ((k.val / 256 * 2 + k.val / 128 % 2) * 128 + k.val % 128) * 32 + n.val = k.val * 32 + n.val
    omega

/-! ## The windows' blocks -/

/-- Which block of each window a grid point has: the whole array, or the block of rows of that point. -/
theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val ∧ win0_1.index t 1 = 0 :=
  (by decide +kernel : ∀ t : Fin grid0.N, win0_1.index t 0 = t.val ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val ∧ win0_4.index t 1 = 0 :=
  (by decide +kernel : ∀ t : Fin grid0.N, win0_4.index t 0 = t.val ∧ win0_4.index t 1 = 0)
theorem idx5 : ∀ t : Fin cfg0.N, win0_5.index t 0 = t.val ∧ win0_5.index t 1 = 0 :=
  (by decide +kernel : ∀ t : Fin grid0.N, win0_5.index t 0 = t.val ∧ win0_5.index t 1 = 0)
theorem idx6 : ∀ t : Fin cfg0.N, win0_6.index t 0 = t.val ∧ win0_6.index t 1 = 0 :=
  (by decide +kernel : ∀ t : Fin grid0.N, win0_6.index t 0 = t.val ∧ win0_6.index t 1 = 0)
theorem idx7 : ∀ t : Fin cfg0.N, win0_7.index t 0 = t.val ∧ win0_7.index t 1 = 0 :=
  (by decide +kernel : ∀ t : Fin grid0.N, win0_7.index t 0 = t.val ∧ win0_7.index t 1 = 0)

/-- Row `r` of the point's block of rows. -/
def row (t : Fin cfg0.N) (r : Fin 256) : Fin 9216 := ⟨t.val * 256 + r.val, by have h : t.val < 36 := t.isLt; omega⟩

/-- The block of the global scale. -/
theorem blk0 (c : Dev nD) (t : Fin cfg0.N) (r : Fin 1) (k : Fin 1) :
    iblk m c 0 t (ValueIdx.ix2 r k) = shapeCast S1x1 (m ((c : Thread nD τ).loc main_arg2)) shapeCasts_S_S1x1 (ValueIdx.ix2 r k) := by
  rw [← V_v7 m c]
  refine congrArg (V m c main_v7) (?_ : ((win0_0.blk t).view.emb (ValueIdx.ix2 r k) : S1x1.Idx) = _)
  funext a; apply Fin.ext
  match a with
  | ⟨0, _⟩ =>
    refine (ValueKit.view_emb_slice_whole_unit_val main_v7 _ _ _ _ _).trans ?_
    show win0_0.index t 0 * 1 + r.val = r.val
    rw [(idx0 t).1]; omega
  | ⟨1, _⟩ =>
    refine (ValueKit.view_emb_slice_whole_unit_val main_v7 _ _ _ _ _).trans ?_
    show win0_0.index t 1 * 1 + k.val = k.val
    rw [(idx0 t).2]; omega

/-- The block of tokens at a grid point. -/
theorem blk1 (c : Dev nD) (t : Fin cfg0.N) (r : Fin 256) (k : Fin 3072) :
    iblk m c 1 t (ValueIdx.ix2 r k) = tokens (m ((c : Thread nD τ).loc main_arg0)) (ValueIdx.ix2 (row t r) k) := by
  rw [← V_v0 m c]
  refine congrArg (V m c main_v0) (?_ : ((win0_1.blk t).view.emb (ValueIdx.ix2 r k) : S9216x3072.Idx) = _)
  funext a; apply Fin.ext
  match a with
  | ⟨0, _⟩ =>
    refine (ValueKit.view_emb_slice_whole_unit_val main_v0 _ _ _ _ _).trans ?_
    show win0_1.index t 0 * 256 + r.val = t.val * 256 + r.val
    rw [(idx1 t).1]
  | ⟨1, _⟩ =>
    refine (ValueKit.view_emb_slice_whole_unit_val main_v0 _ _ _ _ _).trans ?_
    show win0_1.index t 1 * 3072 + k.val = k.val
    rw [(idx1 t).2]; omega

/-- The block of smoothing factors. -/
theorem blk2 (c : Dev nD) (t : Fin cfg0.N) (r : Fin 1) (k : Fin 3072) :
    iblk m c 2 t (ValueIdx.ix2 r k) = factors (m ((c : Thread nD τ).loc main_arg1)) (ValueIdx.ix2 r k) := by
  rw [← V_v3 m c]
  refine congrArg (V m c main_v3) (?_ : ((win0_2.blk t).view.emb (ValueIdx.ix2 r k) : S1x3072.Idx) = _)
  funext a; apply Fin.ext
  match a with
  | ⟨0, _⟩ =>
    refine (ValueKit.view_emb_slice_whole_unit_val main_v3 _ _ _ _ _).trans ?_
    show win0_2.index t 0 * 1 + r.val = r.val
    rw [(idx2 t).1]; omega
  | ⟨1, _⟩ =>
    refine (ValueKit.view_emb_slice_whole_unit_val main_v3 _ _ _ _ _).trans ?_
    show win0_2.index t 1 * 3072 + k.val = k.val
    rw [(idx2 t).2]; omega

/-- The block of the low-rank matrix. -/
theorem blk3 (c : Dev nD) (t : Fin cfg0.N) (r : Fin 3072) (k : Fin 32) :
    iblk m c 3 t (ValueIdx.ix2 r k) = lowRank (m ((c : Thread nD τ).loc main_arg3)) (ValueIdx.ix2 r k) := by
  rw [← V_v6 m c]
  refine congrArg (V m c main_v6) (?_ : ((win0_3.blk t).view.emb (ValueIdx.ix2 r k) : S3072x32.Idx) = _)
  funext a; apply Fin.ext
  match a with
  | ⟨0, _⟩ =>
    refine (ValueKit.view_emb_slice_whole_unit_val main_v6 _ _ _ _ _).trans ?_
    show win0_3.index t 0 * 3072 + r.val = r.val
    rw [(idx3 t).1]; omega
  | ⟨1, _⟩ =>
    refine (ValueKit.view_emb_slice_whole_unit_val main_v6 _ _ _ _ _).trans ?_
    show win0_3.index t 1 * 32 + k.val = k.val
    rw [(idx3 t).2]; omega

/-! ## The result arrays -/

/-- The smoothed feature in column `k` of the kernel's order. -/
theorem xsp_blk (c : Dev nD) (t : Fin cfg0.N) (r : Fin 256) (k : Fin 3072) :
    xsp (R := 256) (iblk m c 1 t) (iblk m c 2 t) r k
      = xsp (R := 9216) (tokens (m ((c : Thread nD τ).loc main_arg0))) (factors (m ((c : Thread nD τ).loc main_arg1))) (row t r) k := by
  unfold xsp
  exact congrArg₂ (fun x y : EReal => x * y) (blk1 m c t r _) (blk2 m c t 0 k)

/-- The whole array of packed codes. -/
def codeResult (c : Dev nD) : S9216x1536.Idx → BitVec 8 := fun y =>
  codeAt (R := 9216) (m ((c : Thread nD τ).loc main_arg2) ValueIdx.ix0) (tokens (m ((c : Thread nD τ).loc main_arg0))) (factors (m ((c : Thread nD τ).loc main_arg1))) (y 0) (y 1)

/-- The whole array of scales. -/
def scaleResult (c : Dev nD) : S9216x192.Idx → EReal := fun y =>
  scaleAt (R := 9216) (m ((c : Thread nD τ).loc main_arg2) ValueIdx.ix0) (tokens (m ((c : Thread nD τ).loc main_arg0))) (factors (m ((c : Thread nD τ).loc main_arg1))) (y 0) (y 1)

/-- The whole array of dequantised features. -/
def valueResult (c : Dev nD) : S9216x3072.Idx → EReal := fun y =>
  valueAt (R := 9216) (m ((c : Thread nD τ).loc main_arg2) ValueIdx.ix0) (tokens (m ((c : Thread nD τ).loc main_arg0))) (factors (m ((c : Thread nD τ).loc main_arg1))) (y 0) (y 1)

/-- The whole low-rank product. -/
def lowResult (c : Dev nD) : S9216x32.Idx → EReal := fun y =>
  ∑ k : Fin 3072, xsp (R := 9216) (tokens (m ((c : Thread nD τ).loc main_arg0))) (factors (m ((c : Thread nD τ).loc main_arg1))) (y 0) k
    * lowRank (m ((c : Thread nD τ).loc main_arg3)) (ValueIdx.ix2 k (y 1))

/-- The largest magnitude of a group of the point's block. -/
theorem topAt_blk (c : Dev nD) (t : Fin cfg0.N) (r : Fin 256) (n : Fin 192) :
    topAt (R := 256) (iblk m c 1 t) (iblk m c 2 t) r n
      = topAt (R := 9216) (tokens (m ((c : Thread nD τ).loc main_arg0))) (factors (m ((c : Thread nD τ).loc main_arg1))) (row t r) n := by
  unfold topAt pairTop
  exact congrArg Finset.univ.sup (funext fun e => congrArg₂ (fun x y : EReal => max (max x (-x)) (max y (-y))) (xsp_blk m c t r _) (xsp_blk m c t r _))

/-- The global scale of the point. -/
theorem global_blk (c : Dev nD) (t : Fin cfg0.N) : (iblk m c 0 t (ValueIdx.ix2 (0 : Fin 1) (0 : Fin 1)) : EReal) = m ((c : Thread nD τ).loc main_arg2) ValueIdx.ix0 := by
  refine (blk0 m c t 0 0).trans ?_
  exact congrArg (m ((c : Thread nD τ).loc main_arg2)) (ValueIdx.eq_ix0 _)

/-- The scales that a grid point writes are its rows of the whole array of scales. -/
theorem scale_apply (c : Dev nD) (t : Fin cfg0.N) (r : Fin 256) (n : Fin 192) :
    (outsAt0 m c t).2.1 (ValueIdx.ix2 r n) = scaleResult m c (ValueIdx.ix2 (row t r) n) := by
  unfold outsAt0
  dsimp only
  rw [out5_eq]
  unfold scaleResult
  show scaleAt (R := 256) _ _ _ r n = scaleAt (R := 9216) _ _ _ (row t r) n
  unfold scaleAt
  exact congrArg₂ scaleOf (global_blk m c t) (topAt_blk m c t r n)

/-- The dequantised features that a grid point writes are its rows of the whole array. -/
theorem value_apply (c : Dev nD) (t : Fin cfg0.N) (r : Fin 256) (n : Fin 3072) :
    (outsAt0 m c t).2.2.1 (ValueIdx.ix2 r n) = valueResult m c (ValueIdx.ix2 (row t r) n) := by
  unfold outsAt0
  dsimp only
  rw [out6_eq]
  unfold valueResult
  show valueAt (R := 256) _ _ _ r n = valueAt (R := 9216) _ _ _ (row t r) n
  unfold valueAt
  rw [topAt_blk, xsp_blk]
  exact congrArg (fun z : EReal => valueOf z _ _) (global_blk m c t)

/-- The clipped feature in column `n` of the kernel's order. -/
theorem clipped_blk (c : Dev nD) (t : Fin cfg0.N) (r : Fin 256) (n : Fin 3072) :
    clippedAt (R := 256) (iblk m c 0 t (ValueIdx.ix2 (0 : Fin 1) (0 : Fin 1))) (iblk m c 1 t) (iblk m c 2 t) r n
      = clippedAt (R := 9216) (m ((c : Thread nD τ).loc main_arg2) ValueIdx.ix0) (tokens (m ((c : Thread nD τ).loc main_arg0))) (factors (m ((c : Thread nD τ).loc main_arg1))) (row t r) n := by
  unfold clippedAt
  rw [topAt_blk, xsp_blk]
  exact congrArg (fun z : EReal => clippedOf z _ _) (global_blk m c t)

/-- The packed codes that a grid point writes are its rows of the whole array. -/
theorem code_apply (c : Dev nD) (t : Fin cfg0.N) (r : Fin 256) (n : Fin 1536) :
    (outsAt0 m c t).1 (ValueIdx.ix2 r n) = codeResult m c (ValueIdx.ix2 (row t r) n) := by
  unfold outsAt0
  dsimp only
  rw [out4_eq]
  unfold codeResult
  show codeAt (R := 256) _ _ _ r n = codeAt (R := 9216) _ _ _ (row t r) n
  unfold codeAt
  exact congrArg₂ (fun x y : EReal => Codes.packWord (Codes.byteOf x) (Codes.byteOf y)) (clipped_blk m c t r _) (clipped_blk m c t r _)

/-- The low-rank product that a grid point writes is its rows of the whole product. -/
theorem low_blk (c : Dev nD) (t : Fin cfg0.N) (r : Fin 256) (n : Fin 32) :
    (outsAt0 m c t).2.2.2 (ValueIdx.ix2 r n) = lowResult m c (ValueIdx.ix2 (row t r) n) := by
  unfold outsAt0
  dsimp only
  rw [out7_eq, low_apply]
  unfold lowResult
  exact Finset.sum_congr rfl fun k _ => congrArg₂ (fun x y : EReal => x * y) (xsp_blk m c t r k) (blk3 m c t k n)

/-- Where a grid point's block of packed codes lies. -/
theorem emb4 (t : Fin cfg0.N) (r : Fin 256) (n : Fin 1536) :
    ((win0_4.blk t).view.emb (ValueIdx.ix2 r n) : S9216x1536.Idx) = ValueIdx.ix2 (row t r) n := by
  funext a; apply Fin.ext
  match a with
  | ⟨0, _⟩ =>
    refine (ValueKit.view_emb_slice_whole_unit_val main_v8_0 _ _ _ _ _).trans ?_
    show win0_4.index t 0 * 256 + r.val = t.val * 256 + r.val
    rw [(idx4 t).1]
  | ⟨1, _⟩ =>
    refine (ValueKit.view_emb_slice_whole_unit_val main_v8_0 _ _ _ _ _).trans ?_
    show win0_4.index t 1 * 1536 + n.val = n.val
    rw [(idx4 t).2]; omega

/-- The blocks of packed codes cover the array. -/
theorem covers4 : (cfg0.win 4).Covers := (by decide +kernel : win0_4.Covers)

/-- What a grid point writes back of the packed codes is its block of the whole array. -/
theorem flushed_eq4 (c : Dev nD) (t : Fin cfg0.N) :
    (dats m 0 c).flushed 4 t = ((cfg0.win 4).blk t).view.read (Elt Ideal) (codeResult m c) := by
  rw [Cert.QuantiseIdeal.Value.flushed4]
  funext y
  have hy := ValueIdx.eq_ix2 (n0 := 256) (n1 := 1536) y
  refine Eq.trans (b := (outsAt0 m c t).1 (ValueIdx.ix2 (n0 := 256) (n1 := 1536) (y 0) (y 1))) (congrArg (outsAt0 m c t).1 hy) ?_
  refine (code_apply m c t (y 0) (y 1)).trans ?_
  refine Eq.trans (b := codeResult m c ((win0_4.blk t).view.emb (ValueIdx.ix2 (n0 := 256) (n1 := 1536) (y 0) (y 1)))) (congrArg (codeResult m c) (emb4 t (y 0) (y 1)).symm) ?_
  exact congrArg (fun z => codeResult m c ((win0_4.blk t).view.emb z)) hy.symm

/-- The array of packed codes after the run. -/
theorem final4 (c : Dev nD) : (dats m 0 c).arrAt 4 cfg0.N = codeResult m c :=
  (dats m 0 c).arrAt_eq_of_cover 4 (codeResult m c) (fun t _ => flushed_eq4 m c t) (Pipeline.Window.Covers.cover _ covers4 (Memref.isWhole_whole _))

/-- Where a grid point's block of scales lies. -/
theorem emb5 (t : Fin cfg0.N) (r : Fin 256) (n : Fin 192) :
    ((win0_5.blk t).view.emb (ValueIdx.ix2 r n) : S9216x192.Idx) = ValueIdx.ix2 (row t r) n := by
  funext a; apply Fin.ext
  match a with
  | ⟨0, _⟩ =>
    refine (ValueKit.view_emb_slice_whole_unit_val main_v8_1 _ _ _ _ _).trans ?_
    show win0_5.index t 0 * 256 + r.val = t.val * 256 + r.val
    rw [(idx5 t).1]
  | ⟨1, _⟩ =>
    refine (ValueKit.view_emb_slice_whole_unit_val main_v8_1 _ _ _ _ _).trans ?_
    show win0_5.index t 1 * 192 + n.val = n.val
    rw [(idx5 t).2]; omega

/-- The blocks of scales cover the array. -/
theorem covers5 : (cfg0.win 5).Covers := (by decide +kernel : win0_5.Covers)

/-- What a grid point writes back of the scales is its block of the whole array. -/
theorem flushed_eq5 (c : Dev nD) (t : Fin cfg0.N) :
    (dats m 0 c).flushed 5 t = ((cfg0.win 5).blk t).view.read (Elt Ideal) (scaleResult m c) := by
  rw [Cert.QuantiseIdeal.Value.flushed5]
  funext y
  have hy := ValueIdx.eq_ix2 (n0 := 256) (n1 := 192) y
  refine Eq.trans (b := (outsAt0 m c t).2.1 (ValueIdx.ix2 (n0 := 256) (n1 := 192) (y 0) (y 1))) (congrArg (outsAt0 m c t).2.1 hy) ?_
  refine (scale_apply m c t (y 0) (y 1)).trans ?_
  refine Eq.trans (b := scaleResult m c ((win0_5.blk t).view.emb (ValueIdx.ix2 (n0 := 256) (n1 := 192) (y 0) (y 1)))) (congrArg (scaleResult m c) (emb5 t (y 0) (y 1)).symm) ?_
  exact congrArg (fun z => scaleResult m c ((win0_5.blk t).view.emb z)) hy.symm

/-- The array of scales after the run. -/
theorem final5 (c : Dev nD) : (dats m 0 c).arrAt 5 cfg0.N = scaleResult m c :=
  (dats m 0 c).arrAt_eq_of_cover 5 (scaleResult m c) (fun t _ => flushed_eq5 m c t) (Pipeline.Window.Covers.cover _ covers5 (Memref.isWhole_whole _))

/-- Where a grid point's block of dequantised features lies. -/
theorem emb6 (t : Fin cfg0.N) (r : Fin 256) (n : Fin 3072) :
    ((win0_6.blk t).view.emb (ValueIdx.ix2 r n) : S9216x3072.Idx) = ValueIdx.ix2 (row t r) n := by
  funext a; apply Fin.ext
  match a with
  | ⟨0, _⟩ =>
    refine (ValueKit.view_emb_slice_whole_unit_val main_v8_2 _ _ _ _ _).trans ?_
    show win0_6.index t 0 * 256 + r.val = t.val * 256 + r.val
    rw [(idx6 t).1]
  | ⟨1, _⟩ =>
    refine (ValueKit.view_emb_slice_whole_unit_val main_v8_2 _ _ _ _ _).trans ?_
    show win0_6.index t 1 * 3072 + n.val = n.val
    rw [(idx6 t).2]; omega

/-- The blocks of dequantised features cover the array. -/
theorem covers6 : (cfg0.win 6).Covers := (by decide +kernel : win0_6.Covers)

/-- What a grid point writes back of the dequantised features is its block of the whole array. -/
theorem flushed_eq6 (c : Dev nD) (t : Fin cfg0.N) :
    (dats m 0 c).flushed 6 t = ((cfg0.win 6).blk t).view.read (Elt Ideal) (valueResult m c) := by
  rw [Cert.QuantiseIdeal.Value.flushed6]
  funext y
  have hy := ValueIdx.eq_ix2 (n0 := 256) (n1 := 3072) y
  refine Eq.trans (b := (outsAt0 m c t).2.2.1 (ValueIdx.ix2 (n0 := 256) (n1 := 3072) (y 0) (y 1))) (congrArg (outsAt0 m c t).2.2.1 hy) ?_
  refine (value_apply m c t (y 0) (y 1)).trans ?_
  refine Eq.trans (b := valueResult m c ((win0_6.blk t).view.emb (ValueIdx.ix2 (n0 := 256) (n1 := 3072) (y 0) (y 1)))) (congrArg (valueResult m c) (emb6 t (y 0) (y 1)).symm) ?_
  exact congrArg (fun z => valueResult m c ((win0_6.blk t).view.emb z)) hy.symm

/-- The array of dequantised features after the run. -/
theorem final6 (c : Dev nD) : (dats m 0 c).arrAt 6 cfg0.N = valueResult m c :=
  (dats m 0 c).arrAt_eq_of_cover 6 (valueResult m c) (fun t _ => flushed_eq6 m c t) (Pipeline.Window.Covers.cover _ covers6 (Memref.isWhole_whole _))

/-- Where a grid point's block of the low-rank product lies. -/
theorem emb7 (t : Fin cfg0.N) (r : Fin 256) (n : Fin 32) :
    ((win0_7.blk t).view.emb (ValueIdx.ix2 r n) : S9216x32.Idx) = ValueIdx.ix2 (row t r) n := by
  funext a; apply Fin.ext
  match a with
  | ⟨0, _⟩ =>
    refine (ValueKit.view_emb_slice_whole_unit_val main_v8_3 _ _ _ _ _).trans ?_
    show win0_7.index t 0 * 256 + r.val = t.val * 256 + r.val
    rw [(idx7 t).1]
  | ⟨1, _⟩ =>
    refine (ValueKit.view_emb_slice_whole_unit_val main_v8_3 _ _ _ _ _).trans ?_
    show win0_7.index t 1 * 32 + n.val = n.val
    rw [(idx7 t).2]; omega

/-- The blocks of the low-rank product cover the array. -/
theorem covers7 : (cfg0.win 7).Covers := (by decide +kernel : win0_7.Covers)

/-- What a grid point writes back of the low-rank product is its block of the whole array. -/
theorem flushed_eq7 (c : Dev nD) (t : Fin cfg0.N) :
    (dats m 0 c).flushed 7 t = ((cfg0.win 7).blk t).view.read (Elt Ideal) (lowResult m c) := by
  rw [Cert.QuantiseIdeal.Value.flushed7]
  funext y
  have hy := ValueIdx.eq_ix2 (n0 := 256) (n1 := 32) y
  refine Eq.trans (b := (outsAt0 m c t).2.2.2 (ValueIdx.ix2 (n0 := 256) (n1 := 32) (y 0) (y 1))) (congrArg (outsAt0 m c t).2.2.2 hy) ?_
  refine (low_blk m c t (y 0) (y 1)).trans ?_
  refine Eq.trans (b := lowResult m c ((win0_7.blk t).view.emb (ValueIdx.ix2 (n0 := 256) (n1 := 32) (y 0) (y 1)))) (congrArg (lowResult m c) (emb7 t (y 0) (y 1)).symm) ?_
  exact congrArg (fun z => lowResult m c ((win0_7.blk t).view.emb z)) hy.symm

/-- The low-rank product after the run. -/
theorem final7 (c : Dev nD) : (dats m 0 c).arrAt 7 cfg0.N = lowResult m c :=
  (dats m 0 c).arrAt_eq_of_cover 7 (lowResult m c) (fun t _ => flushed_eq7 m c t) (Pipeline.Window.Covers.cover _ covers7 (Memref.isWhole_whole _))

end Cert.QuantiseIdeal.Hand

end
-- ==== Proof.QuantRef.lean ====
/- What the quantiser's reference computes: the packed codes of the smoothed features, the scale of each sixteen smoothed features from their largest magnitude,
   the features dequantised by it, and the low-rank product of the smoothed features. -/
module

public import proofs.«01_k».proof.Proof.Gen.QuantiseReferenceIdeal.Value
public import proofs.«01_k».proof.Proof.QuantArray
public import Idealize.ShloMosaic.Lib.StackMember
public import Idealize.ShloMosaic.Lib.StableHlo.Run
public import Idealize.ShloMosaic.PureOps.Ideal.Laws

@[expose] public section

set_option maxRecDepth 16384

noncomputable section

namespace Cert.QuantiseReferenceIdeal.Hand

open Cert.QuantiseReferenceIdeal Cert.QuantiseReferenceIdeal.Gen Cert.QuantiseIdeal.Hand Idealize.ShloMosaic Idealize.ShloMosaic.TcCoe Idealize.ShloMosaic.Tactic

variable (m : (ℓ : Loc nD τ sig) → Buf (Elt Ideal) ℓ)

/-- The smoothed features, one row per token. -/
def feats (x : S2x4608x3072.Idx → EReal) (s : S3072.Idx → EReal) : S9216x3072.Idx → EReal :=
  shapeCast S9216x3072 (mulf (F := Ideal) (φ := .f32) x
    (broadcastInDim S2x4608x3072 ![0, 1, 2] bcast_S1x1x3072_S2x4608x3072_0_1_2 (broadcastInDim S1x1x3072 ![2] bcast_S3072_S1x1x3072_2 s))) shapeCasts_S2x4608x3072_S9216x3072

/-- The largest magnitude of each sixteen. -/
def tops (f : S9216x3072.Idx → EReal) : S9216x192.Idx → EReal :=
  Host.reduce (FloatOps.maximumf (F := Ideal) (φ := .f32)) (Host.absf (F := Ideal) (φ := .f32) (shapeCast S9216x192x16 f shapeCasts_S9216x3072_S9216x192x16))
    (constant (F := Ideal) S_ .f32 0xFF800000#32) reducesTo_S9216x192x16_S9216x192_d2 h_S_

/-- The product with the low-rank matrix. -/
def product (f : S9216x3072.Idx → EReal) (w : S3072x32.Idx → EReal) : S9216x32.Idx → EReal :=
  Host.dotGeneral (F := Ideal) (φ₁ := .bf16) (φ₂ := .bf16) dot_S9216x3072_S3072x32_S9216x32_1_0_0_1_n_n none f w

/-- Columns in the stored order: of each 256, the even ones and then the odd ones. -/
def stored (f : S9216x3072.Idx → EReal) : S9216x3072.Idx → EReal :=
  shapeCast S9216x3072 (transpose S9216x12x2x128 [0, 1, 3, 2] (shapeCast S9216x12x128x2 f shapeCasts_S9216x3072_S9216x12x128x2)
    transposes_S9216x12x128x2_S9216x12x2x128_0_1_3_2) shapeCasts_S9216x12x2x128_S9216x3072

/-- A group's value, at each of its sixteen features. -/
def spread (a : S9216x192.Idx → EReal) : S9216x3072.Idx → EReal :=
  shapeCast S9216x3072 (broadcastInDim S9216x192x16 ![0, 1, 2] bcast_S9216x192x1_S9216x192x16_0_1_2
    (broadcastInDim S9216x192x1 ![0, 1] bcast_S9216x192_S9216x192x1_0_1 a)) shapeCasts_S9216x192x16_S9216x3072

/-- The features of even and of odd columns. -/
def evens (f : S9216x3072.Idx → EReal) : S9216x1536.Idx → EReal :=
  shapeCast S9216x1536 (extractStridedSlice S9216x1536x1 ![0, 0, 0] (shapeCast S9216x1536x2 f shapeCasts_S9216x3072_S9216x1536x2) slices_S9216x1536x2_S9216x1536x1_0_0_0)
    shapeCasts_S9216x1536x1_S9216x1536
def odds (f : S9216x3072.Idx → EReal) : S9216x1536.Idx → EReal :=
  shapeCast S9216x1536 (extractStridedSlice S9216x1536x1 ![0, 0, 1] (shapeCast S9216x1536x2 f shapeCasts_S9216x3072_S9216x1536x2) slices_S9216x1536x2_S9216x1536x1_0_0_1)
    shapeCasts_S9216x1536x1_S9216x1536

/-- A group's value, at each of its eight pairs of features. -/
def spreadPairs (a : S9216x192.Idx → EReal) : S9216x1536.Idx → EReal :=
  shapeCast S9216x1536 (broadcastInDim S9216x192x8 ![0, 1, 2] bcast_S9216x192x1_S9216x192x8_0_1_2
    (broadcastInDim S9216x192x1 ![0, 1] bcast_S9216x192_S9216x192x1_0_1 a)) shapeCasts_S9216x192x8_S9216x1536

/-- The largest magnitudes, as the host computes them. -/
theorem V_v7 (c : Dev nD) : V m c main_v7 = tops (feats (m ((c : Thread nD τ).loc main_arg0)) (m ((c : Thread nD τ).loc main_arg1))) := by
  show StableHlo.after hostOps0 _ (Proc.devRef .tc main_v7) = _
  unfold hostOps0
  after_results_simp
  rfl

/-- The low-rank product, as the host computes it. -/
theorem V_v17 (c : Dev nD) : V m c main_v17 = product (feats (m ((c : Thread nD τ).loc main_arg0)) (m ((c : Thread nD τ).loc main_arg1))) (m ((c : Thread nD τ).loc main_arg3)) := by
  show StableHlo.after hostOps0 _ (Proc.devRef .tc main_v17) = _
  unfold hostOps0
  after_results_simp
  rfl

/-- The global scale, as the region receives it. -/
theorem V_v18 (c : Dev nD) : V m c main_v18 = shapeCast S1x1 (m ((c : Thread nD τ).loc main_arg2)) shapeCasts_S_S1x1 := by
  show StableHlo.after hostOps0 _ (Proc.devRef .tc main_v18) = _
  unfold hostOps0
  after_results_simp
  rfl

/-- The smoothed features in the stored order, as the region receives them. -/
theorem V_v21 (c : Dev nD) : V m c main_v21 = stored (feats (m ((c : Thread nD τ).loc main_arg0)) (m ((c : Thread nD τ).loc main_arg1))) := by
  show StableHlo.after hostOps0 _ (Proc.devRef .tc main_v21) = _
  unfold hostOps0
  after_results_simp
  rfl

/-- Their groups' largest magnitudes, as the region receives them. -/
theorem V_v24 (c : Dev nD) : V m c main_v24 = stored (spread (tops (feats (m ((c : Thread nD τ).loc main_arg0)) (m ((c : Thread nD τ).loc main_arg1))))) := by
  show StableHlo.after hostOps0 _ (Proc.devRef .tc main_v24) = _
  unfold hostOps0
  after_results_simp
  rfl

/-- The even and the odd features, and their groups' largest magnitudes, as the region receives them. -/
theorem V_v26 (c : Dev nD) : V m c main_v26 = evens (feats (m ((c : Thread nD τ).loc main_arg0)) (m ((c : Thread nD τ).loc main_arg1))) := by
  show StableHlo.after hostOps0 _ (Proc.devRef .tc main_v26) = _
  unfold hostOps0
  after_results_simp
  rfl
theorem V_v28 (c : Dev nD) : V m c main_v28 = odds (feats (m ((c : Thread nD τ).loc main_arg0)) (m ((c : Thread nD τ).loc main_arg1))) := by
  show StableHlo.after hostOps0 _ (Proc.devRef .tc main_v28) = _
  unfold hostOps0
  after_results_simp
  rfl
theorem V_v13 (c : Dev nD) : V m c main_v13 = spreadPairs (tops (feats (m ((c : Thread nD τ).loc main_arg0)) (m ((c : Thread nD τ).loc main_arg1)))) := by
  show StableHlo.after hostOps0 _ (Proc.devRef .tc main_v13) = _
  unfold hostOps0
  after_results_simp
  rfl

/-- One of each two neighbouring columns. -/
theorem pair_apply {α : Type} (f : S9216x3072.Idx → α) (p : Fin 2) (h : S9216x1536x2.Slices ![0, 0, p.val] S9216x1536x1) (r : Fin 9216) (b : Fin 1536) :
    shapeCast S9216x1536 (extractStridedSlice S9216x1536x1 ![0, 0, p.val] (shapeCast S9216x1536x2 f shapeCasts_S9216x3072_S9216x1536x2) h) shapeCasts_S9216x1536x1_S9216x1536 (ValueIdx.ix2 r b)
      = f (ValueIdx.ix2 r (⟨2 * b.val + p.val, by omega⟩ : Fin 3072)) := by
  refine (shapeCast_apply _ _ _ (ValueIdx.ix3 (n0 := 9216) (n1 := 1536) (n2 := 1) r b 0) ?_).trans ?_
  · rw [Shape.rowMajor_val_two, Shape.rowMajor_val_three]
    show (r.val * 1536 + b.val) * 1 + 0 = r.val * 1536 + b.val
    omega
  refine (extractStridedSlice_apply _ _ h _ (ValueIdx.ix3 (n0 := 9216) (n1 := 1536) (n2 := 2) r b p) ?_).trans ?_
  · intro a
    match a with
    | ⟨0, _⟩ => exact (Nat.zero_add _).symm
    | ⟨1, _⟩ => exact (Nat.zero_add _).symm
    | ⟨2, _⟩ => exact (Nat.add_zero _).symm
  · refine shapeCast_apply _ _ _ _ ?_
    rw [Shape.rowMajor_val_two, Shape.rowMajor_val_three]
    show r.val * 3072 + (2 * b.val + p.val) = (r.val * 1536 + b.val) * 2 + p.val
    omega

/-- Pair `b` has the value of group `b / 8`. -/
theorem spreadPairs_apply (a : S9216x192.Idx → EReal) (r : Fin 9216) (b : Fin 1536) :
    spreadPairs a (ValueIdx.ix2 r b) = a (ValueIdx.ix2 r (⟨b.val / 8, by omega⟩ : Fin 192)) := by
  unfold spreadPairs
  refine (shapeCast_apply _ _ _ (ValueIdx.ix3 (n0 := 9216) (n1 := 192) (n2 := 8) r ⟨b.val / 8, by omega⟩ ⟨b.val % 8, by omega⟩) ?_).trans ?_
  · rw [Shape.rowMajor_val_two, Shape.rowMajor_val_three]
    show (r.val * 192 + b.val / 8) * 8 + b.val % 8 = r.val * 1536 + b.val
    omega
  · refine (broadcastInDim_apply _ _ _ _ (ValueIdx.ix3 (n0 := 9216) (n1 := 192) (n2 := 1) r ⟨b.val / 8, by omega⟩ 0) ?_).trans (broadcastInDim_apply _ _ _ _ _ ?_)
    · intro a
      match a with
      | ⟨0, _⟩ => rfl
      | ⟨1, _⟩ => rfl
      | ⟨2, _⟩ => rfl
    · intro a
      match a with
      | ⟨0, _⟩ => rfl
      | ⟨1, _⟩ => rfl

/-- Column `k` of the stored order is column `unperm k`. -/
theorem stored_apply (f : S9216x3072.Idx → EReal) (r : Fin 9216) (k : Fin 3072) : stored f (ValueIdx.ix2 r k) = f (ValueIdx.ix2 r (unperm k)) := by
  unfold stored
  rw [shapeCast_apply _ _ _ (ValueIdx.ix4 (n0 := 9216) (n1 := 12) (n2 := 2) (n3 := 128) r ⟨k.val / 256, by omega⟩ ⟨k.val / 128 % 2, by omega⟩ ⟨k.val % 128, by omega⟩) ?_]
  · rw [transpose_apply _ _ _ _ (ValueIdx.ix4 (n0 := 9216) (n1 := 12) (n2 := 128) (n3 := 2) r ⟨k.val / 256, by omega⟩ ⟨k.val % 128, by omega⟩ ⟨k.val / 128 % 2, by omega⟩) ?_]
    · refine shapeCast_apply _ _ _ _ ?_
      rw [Shape.rowMajor_val_two, Shape.rowMajor_val_four]
      show r.val * 3072 + (256 * (k.val / 256) + 2 * (k.val % 128) + k.val / 128 % 2) = ((r.val * 12 + k.val / 256) * 128 + k.val % 128) * 2 + k.val / 128 % 2
      omega
    · intro b
      match b with
      | ⟨0, _⟩ => rfl
      | ⟨1, _⟩ => rfl
      | ⟨2, _⟩ => rfl
      | ⟨3, _⟩ => rfl
  · rw [Shape.rowMajor_val_two, Shape.rowMajor_val_four]
    show ((r.val * 12 + k.val / 256) * 2 + k.val / 128 % 2) * 128 + k.val % 128 = r.val * 3072 + k.val
    omega

/-- Feature `d` has the value of group `d / 16`. -/
theorem spread_apply (a : S9216x192.Idx → EReal) (r : Fin 9216) (d : Fin 3072) :
    spread a (ValueIdx.ix2 r d) = a (ValueIdx.ix2 r (⟨d.val / 16, by omega⟩ : Fin 192)) := by
  unfold spread
  refine (shapeCast_apply _ _ _ (ValueIdx.ix3 (n0 := 9216) (n1 := 192) (n2 := 16) r ⟨d.val / 16, by omega⟩ ⟨d.val % 16, by omega⟩) ?_).trans ?_
  · rw [Shape.rowMajor_val_two, Shape.rowMajor_val_three]
    show (r.val * 192 + d.val / 16) * 16 + d.val % 16 = r.val * 3072 + d.val
    omega
  · refine (broadcastInDim_apply _ _ _ _ (ValueIdx.ix3 (n0 := 9216) (n1 := 192) (n2 := 1) r ⟨d.val / 16, by omega⟩ 0) ?_).trans (broadcastInDim_apply _ _ _ _ _ ?_)
    · intro a
      match a with
      | ⟨0, _⟩ => rfl
      | ⟨1, _⟩ => rfl
      | ⟨2, _⟩ => rfl
    · intro a
      match a with
      | ⟨0, _⟩ => rfl
      | ⟨1, _⟩ => rfl

/-- A smoothed feature. -/
theorem feats_apply (x : S2x4608x3072.Idx → EReal) (s : S3072.Idx → EReal) (r : Fin 9216) (d : Fin 3072) :
    feats x s (ValueIdx.ix2 r d) = tokens x (ValueIdx.ix2 r d) * s (ValueIdx.ix1 d) := by
  have h : (Shape.rowMajor S2x4608x3072 (ValueIdx.ix3 (n0 := 2) (n1 := 4608) (n2 := 3072) ⟨r.val / 4608, by omega⟩ ⟨r.val % 4608, by omega⟩ d)).val
      = (Shape.rowMajor S9216x3072 (ValueIdx.ix2 r d)).val := by
    rw [Shape.rowMajor_val_two, Shape.rowMajor_val_three]
    show (r.val / 4608 * 4608 + r.val % 4608) * 3072 + d.val = r.val * 3072 + d.val
    omega
  have e1 : tokens x (ValueIdx.ix2 r d) = x (ValueIdx.ix3 (n0 := 2) (n1 := 4608) (n2 := 3072) ⟨r.val / 4608, by omega⟩ ⟨r.val % 4608, by omega⟩ d) := by
    unfold tokens
    exact shapeCast_apply _ _ _ _ h
  rw [e1]
  unfold feats
  refine (shapeCast_apply _ _ _ _ h).trans ?_
  refine congrArg (fun z : EReal => x (ValueIdx.ix3 (n0 := 2) (n1 := 4608) (n2 := 3072) ⟨r.val / 4608, by omega⟩ ⟨r.val % 4608, by omega⟩ d) * z) ?_
  refine (broadcastInDim_apply _ _ _ _ (ValueIdx.ix3 (n0 := 1) (n1 := 1) (n2 := 3072) 0 0 d) ?_).trans (broadcastInDim_apply _ _ _ _ _ ?_)
  · intro a
    match a with
    | ⟨0, _⟩ => rfl
    | ⟨1, _⟩ => rfl
    | ⟨2, _⟩ => rfl
  · intro a
    match a with
    | ⟨0, _⟩ => rfl

/-- The largest magnitude, as a supremum. -/
theorem tops_apply (f : S9216x3072.Idx → EReal) (r : Fin 9216) (n : Fin 192) :
    tops f (ValueIdx.ix2 r n) = Finset.univ.sup fun e : Fin 16 =>
      (max (f (ValueIdx.ix2 r (⟨16 * n.val + e.val, by omega⟩ : Fin 3072))) (-f (ValueIdx.ix2 r (⟨16 * n.val + e.val, by omega⟩ : Fin 3072))) : EReal) := by
  have hr : S9216x192x16.Reduces [2] S9216x192 := by decide
  unfold tops
  refine (Host.reduce_eq_fold_single _ _ _ reducesTo_S9216x192x16_S9216x192_d2 hr h_S_ (ValueIdx.ix2 r n)).trans ?_
  have hb : (constant (F := Ideal) S_ .f32 0xFF800000#32 (Shape.Idx.first h_S_) : EReal) = ⊥ := by
    show Ideal.ofBits .f32 0xFF800000#32 = ⊥
    simp [Ideal.ofBits, Ideal.ieee]
  rw [hb]
  show Finset.univ.sup (fun e : Fin 16 => _) = _
  refine congrArg Finset.univ.sup (funext fun e => ?_)
  have hl : hr.lift (ValueIdx.ix2 r n) e = ValueIdx.ix3 (n0 := 9216) (n1 := 192) (n2 := 16) r n e := by
    funext a
    match a with
    | ⟨0, _⟩ => exact Fin.ext rfl
    | ⟨1, _⟩ => exact Fin.ext rfl
    | ⟨2, _⟩ => exact Fin.ext rfl
  have hx : (shapeCast S9216x192x16 f shapeCasts_S9216x3072_S9216x192x16) (ValueIdx.ix3 (n0 := 9216) (n1 := 192) (n2 := 16) r n e)
      = f (ValueIdx.ix2 r (⟨16 * n.val + e.val, by omega⟩ : Fin 3072)) := by
    refine shapeCast_apply _ _ _ _ ?_
    rw [Shape.rowMajor_val_two, Shape.rowMajor_val_three]
    show r.val * 3072 + (16 * n.val + e.val) = (r.val * 192 + n.val) * 16 + e.val
    omega
  show (Host.absf (F := Ideal) (φ := .f32) (shapeCast S9216x192x16 f shapeCasts_S9216x3072_S9216x192x16)) (hr.lift (ValueIdx.ix2 r n) e) = _
  rw [hl]
  exact congrArg (fun z : EReal => max z (-z)) hx

/-- The product at an index, as a sum. -/
theorem product_apply (f : S9216x3072.Idx → EReal) (w : S3072x32.Idx → EReal) (r : Fin 9216) (n : Fin 32) :
    product f w (ValueIdx.ix2 r n) = ∑ d : Fin 3072, f (ValueIdx.ix2 r d) * w (ValueIdx.ix2 d n) :=
  StackMember.dotGeneral_plain_apply (m := 9216) (k := 3072) (n := 32) (φ₁ := .bf16) (φ₂ := .bf16) none f w r n

/-- A feature dequantised by the reference, from the largest magnitude of its group. -/
def refValue (g a v : EReal) : EReal :=
  min (Ideal.ofBits .f32 0x40C00000#32) (max (Ideal.ofBits .f32 0xC0C00000#32) (FloatOps.divf (F := Ideal) (φ := .f32) v (scaleOf g a * g : EReal)))
    * scaleOf g a * Ideal.ofBits .bf16 0x3C80#16

/-- A feature divided by its group's scale and the global scale. -/
def scaledFeature (g a v : EReal) : EReal := FloatOps.divf (F := Ideal) (φ := .f32) v (scaleOf g a * g : EReal)

/-- The stored scales at an index. -/
theorem scales_apply (g : Vec Ideal S1x1 .f32) (a : Vec Ideal S9216x192 .f32) (r : Fin 9216) (n : Fin 192) :
    (k0_pay2 (F := Ideal) g a (ValueIdx.ix2 r n) : EReal) = scaleOf (g (ValueIdx.ix2 (0 : Fin 1) (0 : Fin 1))) (a (ValueIdx.ix2 r n)) := by
  unfold k0_pay2 k0_pay1
  simp only [shapeCast_self]
  exact congrArg (fun z : EReal => scaleOf z (a (ValueIdx.ix2 r n))) (congrArg g (funext fun a => by fin_cases a <;> rfl))

/-- The stored dequantised features at an index. -/
theorem values_apply (g : Vec Ideal S1x1 .f32) (a v : Vec Ideal S9216x3072 .f32) (r : Fin 9216) (k : Fin 3072) :
    (k0_pay5 (F := Ideal) (k0_pay1 g) (k0_pay3 g a) (k0_pay4 v) (ValueIdx.ix2 r k) : EReal)
      = refValue (g (ValueIdx.ix2 (0 : Fin 1) (0 : Fin 1))) (a (ValueIdx.ix2 r k)) (v (ValueIdx.ix2 r k)) := by
  unfold k0_pay5 k0_pay3 k0_pay1 k0_pay4
  simp only [shapeCast_self]
  exact congrArg (fun z : EReal => refValue z (a (ValueIdx.ix2 r k)) (v (ValueIdx.ix2 r k))) (congrArg g (funext fun a => by fin_cases a <;> rfl))

/-- What the even and the odd features are divided by. -/
theorem denominator_apply (g : Vec Ideal S1x1 .f32) (a : Vec Ideal S9216x1536 .f32) (r : Fin 9216) (b : Fin 1536) :
    (k0_pay6 (F := Ideal) (k0_pay1 g) a (ValueIdx.ix2 r b) : EReal)
      = scaleOf (g (ValueIdx.ix2 (0 : Fin 1) (0 : Fin 1))) (a (ValueIdx.ix2 r b)) * g (ValueIdx.ix2 (0 : Fin 1) (0 : Fin 1)) := by
  unfold k0_pay6 k0_pay1
  simp only [shapeCast_self]
  exact congrArg (fun z : EReal => scaleOf z (a (ValueIdx.ix2 r b)) * z) (congrArg g (funext fun a => by fin_cases a <;> rfl))

/-- A code of the even features, at an index. -/
theorem code_low (t q : FVec Ideal S9216x1536 .f32) (b : IVec S9216x1536 1) (i : S9216x1536.Idx) (hq : (q i : EReal) = Codes.magnitude (t i))
    (hb : b i = Ideal.cmp .olt (q i) (Ideal.ofBits .f32 0x40000000#32)) : k0_pay10 (F := Ideal) t q b (Scalar.ofBits .f32 0x40000000#32) i = Codes.codeOf (t i) := by
  have e : Codes.nearest (Codes.magnitude (t i)) = Scalar.select (b i)
      (Ideal.div (Ideal.liftRound Ideal.roundHalfEven (Ideal.ofBits .f32 0x40000000#32 * q i)) (Ideal.ofBits .f32 0x40000000#32))
      (Scalar.select (Ideal.cmp .olt (q i) (Ideal.ofBits .f32 0x40800000#32)) (Ideal.liftRound Ideal.roundHalfEven (q i))
        (Ideal.ofBits .f32 0x40000000#32 * Ideal.liftRound Ideal.roundHalfEven (Ideal.div (q i) (Ideal.ofBits .f32 0x40000000#32)))) := by
    rw [hb, ← hq]
    rfl
  unfold Codes.codeOf
  rw [e]
  rfl

/-- The stored byte, from a code of the even features and an odd feature. -/
theorem code_high (lo : IVec S9216x1536 32) (t q : FVec Ideal S9216x1536 .f32) (i : S9216x1536.Idx) (hq : (q i : EReal) = Codes.magnitude (t i)) :
    k0_pay13 (F := Ideal) lo t q i = Codes.packCodes (lo i) (Codes.codeOf (t i)) := by
  unfold Codes.codeOf
  rw [← hq]
  rfl

/-- The stored bytes of packed codes, from the region's inputs. -/
def packed (g : Vec Ideal S1x1 .f32) (a lo hi : Vec Ideal S9216x1536 .f32) : IVec S9216x1536 8 :=
  k0_pay13 (k0_pay10 (F := Ideal) (k0_pay7 (k0_pay1 g) a lo) (k0_pay8 (k0_pay1 g) a lo) (k0_pay9 (k0_pay1 g) a lo) (Scalar.ofBits .f32 0x40000000#32))
    (k0_pay11 (k0_pay6 (k0_pay1 g) a) hi) (k0_pay12 (k0_pay6 (k0_pay1 g) a) hi)

/-- Such a byte at an index. -/
theorem packed_apply (g : Vec Ideal S1x1 .f32) (a lo hi : Vec Ideal S9216x1536 .f32) (r : Fin 9216) (b : Fin 1536) :
    packed g a lo hi (ValueIdx.ix2 r b) = Codes.packCodes
      (Codes.codeOf (scaledFeature (g (ValueIdx.ix2 (0 : Fin 1) (0 : Fin 1))) (a (ValueIdx.ix2 r b)) (lo (ValueIdx.ix2 r b))))
      (Codes.codeOf (scaledFeature (g (ValueIdx.ix2 (0 : Fin 1) (0 : Fin 1))) (a (ValueIdx.ix2 r b)) (hi (ValueIdx.ix2 r b)))) := by
  have e : ∀ v : Vec Ideal S9216x1536 .f32, (divf (F := Ideal) (φ := .f32) (shapeCast S9216x1536 v shapeCasts_S9216x1536_S9216x1536) (k0_pay6 (F := Ideal) (k0_pay1 g) a) (ValueIdx.ix2 r b) : EReal)
      = scaledFeature (g (ValueIdx.ix2 (0 : Fin 1) (0 : Fin 1))) (a (ValueIdx.ix2 r b)) (v (ValueIdx.ix2 r b)) := by
    intro v
    rw [shapeCast_self]
    exact congrArg (fun z : EReal => FloatOps.divf (F := Ideal) (φ := .f32) (v (ValueIdx.ix2 r b)) z) (denominator_apply g a r b)
  unfold packed
  refine (code_high _ _ _ _ rfl).trans ?_
  exact congrArg₂ Codes.packCodes ((code_low _ _ _ _ rfl rfl).trans (congrArg Codes.codeOf (e lo))) (congrArg Codes.codeOf (e hi))

/-- The one grid point. -/
def t₀ : Fin cfg0.N := ⟨0, by decide⟩

/-- The block of each input is the whole array. -/
theorem blk0 (c : Dev nD) : iblk m c 0 t₀ = V m c main_v7 :=
  Memref.read_access_unit_zero (Elt Ideal) main_v7 (funext fun a => by fin_cases a <;> decide : (fun a => (win0_0.index t₀) a * main_v7.ty.shape.size a) = fun _ => 0) (fun a => by fin_cases a <;> decide) (V m c main_v7)
theorem blk1 (c : Dev nD) : iblk m c 1 t₀ = V m c main_v18 :=
  Memref.read_access_unit_zero (Elt Ideal) main_v18 (funext fun a => by fin_cases a <;> decide : (fun a => (win0_1.index t₀) a * main_v18.ty.shape.size a) = fun _ => 0) (fun a => by fin_cases a <;> decide) (V m c main_v18)
theorem blk2 (c : Dev nD) : iblk m c 2 t₀ = V m c main_v21 :=
  Memref.read_access_unit_zero (Elt Ideal) main_v21 (funext fun a => by fin_cases a <;> decide : (fun a => (win0_2.index t₀) a * main_v21.ty.shape.size a) = fun _ => 0) (fun a => by fin_cases a <;> decide) (V m c main_v21)
theorem blk3 (c : Dev nD) : iblk m c 3 t₀ = V m c main_v24 :=
  Memref.read_access_unit_zero (Elt Ideal) main_v24 (funext fun a => by fin_cases a <;> decide : (fun a => (win0_3.index t₀) a * main_v24.ty.shape.size a) = fun _ => 0) (fun a => by fin_cases a <;> decide) (V m c main_v24)
theorem blk4 (c : Dev nD) : iblk m c 4 t₀ = V m c main_v26 :=
  Memref.read_access_unit_zero (Elt Ideal) main_v26 (funext fun a => by fin_cases a <;> decide : (fun a => (win0_4.index t₀) a * main_v26.ty.shape.size a) = fun _ => 0) (fun a => by fin_cases a <;> decide) (V m c main_v26)
theorem blk5 (c : Dev nD) : iblk m c 5 t₀ = V m c main_v28 :=
  Memref.read_access_unit_zero (Elt Ideal) main_v28 (funext fun a => by fin_cases a <;> decide : (fun a => (win0_5.index t₀) a * main_v28.ty.shape.size a) = fun _ => 0) (fun a => by fin_cases a <;> decide) (V m c main_v28)
theorem blk6 (c : Dev nD) : iblk m c 6 t₀ = V m c main_v13 :=
  Memref.read_access_unit_zero (Elt Ideal) main_v13 (funext fun a => by fin_cases a <;> decide : (fun a => (win0_6.index t₀) a * main_v13.ty.shape.size a) = fun _ => 0) (fun a => by fin_cases a <;> decide) (V m c main_v13)

/-- The array of packed codes after the run. -/
theorem final7 (c : Dev nD) :
    (dats (F := Ideal) m 0 c).arrAt 7 cfg0.N = packed (V m c main_v18) (V m c main_v13) (V m c main_v26) (V m c main_v28) := by
  have ho : ((cfg0.win 7).blk t₀).view.read (Elt Ideal) ((dats (F := Ideal) m 0 c).arrAt 7 cfg0.N) = (dats (F := Ideal) m 0 c).flushed 7 t₀ :=
    Cert.QuantiseReferenceIdeal.Value.blocks7 m c t₀ (by decide)
  have hz7 : (fun a => (win0_7.index t₀) a * main_v29_0.ty.shape.size a) = fun _ => 0 := funext fun a => by fin_cases a <;> decide
  have hr7 := fun f => Memref.read_access_unit_zero (Elt Ideal) main_v29_0 hz7 (fun a => by fin_cases a <;> decide) f
  rw [hr7] at ho
  have hz : (![0, 0] : Fin 2 → Nat) = fun _ => 0 := funext fun a => by fin_cases a <;> rfl
  have hout : ∀ x0 x1 x2 x3 x4 x5 x6, out0_7 (F := Ideal) x0 x1 x2 x3 x4 x5 x6 = packed x1 x6 x4 x5 := by
    intro x0 x1 x2 x3 x4 x5 x6
    unfold out0_7 k0_pay15 k0_pay14
    rw [View.canon_unit_zero hz]
    repeat rw [View.ld_unit_zero hz]
    rfl
  rw [ho, Cert.QuantiseReferenceIdeal.Value.flushed7, hout, blk1, blk4, blk5, blk6]
  rfl

/-- The array of scales after the run. -/
theorem final8 (c : Dev nD) :
    (dats (F := Ideal) m 0 c).arrAt 8 cfg0.N = k0_pay2 (F := Ideal) (V m c main_v18) (V m c main_v7) := by
  have ho : ((cfg0.win 8).blk t₀).view.read (Elt Ideal) ((dats (F := Ideal) m 0 c).arrAt 8 cfg0.N) = (dats (F := Ideal) m 0 c).flushed 8 t₀ :=
    Cert.QuantiseReferenceIdeal.Value.blocks8 m c t₀ (by decide)
  have hz8 : (fun a => (win0_8.index t₀) a * main_v29_1.ty.shape.size a) = fun _ => 0 := funext fun a => by fin_cases a <;> decide
  have hr8 := fun f => Memref.read_access_unit_zero (Elt Ideal) main_v29_1 hz8 (fun a => by fin_cases a <;> decide) f
  rw [hr8] at ho
  have hz : (![0, 0] : Fin 2 → Nat) = fun _ => 0 := funext fun a => by fin_cases a <;> rfl
  have hout : ∀ x0 x1 x2 x3 x4 x5 x6, out0_8 (F := Ideal) x0 x1 x2 x3 x4 x5 x6 = k0_pay2 (F := Ideal) x1 x0 := by
    intro x0 x1 x2 x3 x4 x5 x6
    unfold out0_8
    rw [View.canon_unit_zero hz]
    repeat rw [View.ld_unit_zero hz]
  rw [ho, Cert.QuantiseReferenceIdeal.Value.flushed8, hout, blk0, blk1]
  rfl

/-- The array of dequantised features after the run. -/
theorem final9 (c : Dev nD) :
    (dats (F := Ideal) m 0 c).arrAt 9 cfg0.N = k0_pay5 (F := Ideal) (k0_pay1 (V m c main_v18)) (k0_pay3 (V m c main_v18) (V m c main_v24)) (k0_pay4 (V m c main_v21)) := by
  have ho : ((cfg0.win 9).blk t₀).view.read (Elt Ideal) ((dats (F := Ideal) m 0 c).arrAt 9 cfg0.N) = (dats (F := Ideal) m 0 c).flushed 9 t₀ :=
    Cert.QuantiseReferenceIdeal.Value.blocks9 m c t₀ (by decide)
  have hz9 : (fun a => (win0_9.index t₀) a * main_v29_2.ty.shape.size a) = fun _ => 0 := funext fun a => by fin_cases a <;> decide
  have hr9 := fun f => Memref.read_access_unit_zero (Elt Ideal) main_v29_2 hz9 (fun a => by fin_cases a <;> decide) f
  rw [hr9] at ho
  have hz : (![0, 0] : Fin 2 → Nat) = fun _ => 0 := funext fun a => by fin_cases a <;> rfl
  have hout : ∀ x0 x1 x2 x3 x4 x5 x6, out0_9 (F := Ideal) x0 x1 x2 x3 x4 x5 x6 = k0_pay5 (F := Ideal) (k0_pay1 x1) (k0_pay3 x1 x3) (k0_pay4 x2) := by
    intro x0 x1 x2 x3 x4 x5 x6
    unfold out0_9 k0_pay14
    rw [View.canon_unit_zero hz]
    repeat rw [View.ld_unit_zero hz]
  rw [ho, Cert.QuantiseReferenceIdeal.Value.flushed9, hout, blk1, blk2, blk3]
  rfl

end Cert.QuantiseReferenceIdeal.Hand

end
-- ==== Proof.QuantMask.lean ====
/- Which elements of the quantiser's results are claimed: a byte of packed codes where both of its scaled features round
   down and the global scale is not zero, a dequantised feature where the global scale is not zero, and all the others. -/
module

public import proofs.«01_k».proof.On_claimed
public import proofs.«01_k».proof.Proof.QuantRef

@[expose] public section

set_option maxRecDepth 16384

noncomputable section

namespace Cert.QuantiseReferenceIdeal.Hand

open Cert.QuantiseReferenceIdeal Cert.QuantiseReferenceIdeal.Gen Cert.QuantiseIdeal.Hand Idealize.ShloMosaic Idealize.ShloMosaic.TcCoe

/-- The claimed elements' shape facts. -/
theorem claimed_facts : Cert.On_claimed.Facts where
  bitsLt_bf16_f32 := by decide
  bcast_S3072_S1x1x3072_2 := bcast_S3072_S1x1x3072_2
  bcast_S1x1x3072_S2x4608x3072_0_1_2 := bcast_S1x1x3072_S2x4608x3072_0_1_2
  shapeCasts_S2x4608x3072_S9216x3072 := shapeCasts_S2x4608x3072_S9216x3072
  shapeCasts_S9216x3072_S9216x192x16 := shapeCasts_S9216x3072_S9216x192x16
  reducesTo_S9216x192x16_S9216x192_d2 := reducesTo_S9216x192x16_S9216x192_d2
  h_S_ := h_S_
  bcast_S_S9216x192 := by decide
  bcast_S9216x192_S9216x192x1_0_1 := bcast_S9216x192_S9216x192x1_0_1
  bcast_S9216x192x1_S9216x192x16_0_1_2 := bcast_S9216x192x1_S9216x192x16_0_1_2
  shapeCasts_S9216x192x16_S9216x3072 := shapeCasts_S9216x192x16_S9216x3072
  bcast_S_S9216x3072 := by decide
  shapeCasts_S9216x3072_S9216x1536x2 := shapeCasts_S9216x3072_S9216x1536x2
  slices_S9216x1536x2_S9216x1536x1_0_0_0 := slices_S9216x1536x2_S9216x1536x1_0_0_0
  shapeCasts_S9216x1536x1_S9216x1536 := shapeCasts_S9216x1536x1_S9216x1536
  slices_S9216x1536x2_S9216x1536x1_0_0_1 := slices_S9216x1536x2_S9216x1536x1_0_0_1
  bcast_S_S9216x1536 := by decide
  bcast_S_S9216x32 := by decide

/-- A feature divided by its group's scale and the global scale, from the arguments. -/
def quotientAt (x : S2x4608x3072.Idx → EReal) (s : S3072.Idx → EReal) (g : EReal) (r : Fin 9216) (d : Fin 3072) : EReal :=
  scaledFeature g (tops (feats x s) (ValueIdx.ix2 r (⟨d.val / 16, by omega⟩ : Fin 192))) (feats x s (ValueIdx.ix2 r d))

/-- The bit of a scaled feature: whether it rounds down. -/
def downBit (t : EReal) : BitVec 1 :=
  IntOp.andi (BitVec.ofBool (decide (Codes.nearest (Codes.magnitude t) ≤ Codes.magnitude t)))
    (IntOp.ori (BitVec.ofBool (decide (Ideal.ofBits .f32 0x00000000#32 ≤ t))) (BitVec.ofBool (decide (Ideal.ofBits .f32 0x00000000#32 < Codes.nearest (Codes.magnitude t)))))

/-- The bit is set only where the scaled feature rounds down. -/
theorem roundsDown_of_bit (t : EReal) (h : downBit t = 1#1) : Codes.RoundsDown t := by
  have h0 : Ideal.ofBits .f32 0x00000000#32 = ((0 : ℝ) : EReal) := by simp [Ideal.ofBits, Ideal.ieee]
  have bits : ∀ a b c : Bool, IntOp.andi (BitVec.ofBool a) (IntOp.ori (BitVec.ofBool b) (BitVec.ofBool c)) = 1#1 → a = true ∧ (b = true ∨ c = true) := by
    intro a b c
    cases a <;> cases b <;> cases c <;> decide
  unfold downBit at h
  rw [h0] at h
  obtain ⟨ha, hb⟩ := bits _ _ _ h
  exact ⟨of_decide_eq_true ha, hb.imp of_decide_eq_true of_decide_eq_true⟩

/-- Both bits and a third are set only where each is. -/
theorem and_bits (a b c : BitVec 1) (h : IntOp.andi (IntOp.andi a b) c = 1#1) : a = 1#1 ∧ b = 1#1 ∧ c = 1#1 := by
  revert a b c
  decide

section

variable [Cert.On_claimed.Facts]

/-- The scaled features, as the mask computes them. -/
def maskQuotients (x : FVec Ideal Cert.On_claimed.S2x4608x3072 .bf16) (s : FVec Ideal Cert.On_claimed.S3072 .f32) (g : EReal) : S9216x3072.Idx → EReal :=
  fun i => FloatOps.divf (F := Ideal) (φ := .f32) (feats x s i) (spread (fun j => scaleOf g (tops (feats x s) j)) i * g : EReal)

/-- The mask of the packed codes, from the bits of the scaled features. -/
theorem mask_eq (x : FVec Ideal Cert.On_claimed.S2x4608x3072 .bf16) (s : FVec Ideal Cert.On_claimed.S3072 .f32) (g : EReal) (w : FVec Ideal Cert.On_claimed.S3072x32 .bf16)
    (i : S9216x1536.Idx) :
    (Cert.On_claimed.fn (F := Ideal) x s (fun _ => g) w).1 i
      = IntOp.andi (IntOp.andi
          (shapeCast S9216x1536 (extractStridedSlice S9216x1536x1 ![0, 0, 0] (shapeCast S9216x1536x2 (fun j => downBit (maskQuotients x s g j)) shapeCasts_S9216x3072_S9216x1536x2) slices_S9216x1536x2_S9216x1536x1_0_0_0) shapeCasts_S9216x1536x1_S9216x1536 i)
          (shapeCast S9216x1536 (extractStridedSlice S9216x1536x1 ![0, 0, 1] (shapeCast S9216x1536x2 (fun j => downBit (maskQuotients x s g j)) shapeCasts_S9216x3072_S9216x1536x2) slices_S9216x1536x2_S9216x1536x1_0_0_1) shapeCasts_S9216x1536x1_S9216x1536 i))
        (BitVec.ofBool (decide (g ≠ Ideal.ofBits .f32 0x00000000#32))) := by
  unfold Cert.On_claimed.fn Cert.On_claimed.fn_part1 Cert.On_claimed.fn_part2 Cert.On_claimed.fn_part3
  rfl

/-- A scaled feature of the mask. -/
theorem maskQuotients_apply (x : FVec Ideal Cert.On_claimed.S2x4608x3072 .bf16) (s : FVec Ideal Cert.On_claimed.S3072 .f32) (g : EReal) (r : Fin 9216) (d : Fin 3072) :
    maskQuotients x s g (ValueIdx.ix2 r d) = quotientAt x s g r d :=
  congrArg (fun z : EReal => FloatOps.divf (F := Ideal) (φ := .f32) (feats x s (ValueIdx.ix2 r d)) (z * g : EReal)) (spread_apply _ r d)

/-- A byte is claimed only where both of its scaled features round down and the global scale is not zero. -/
theorem down_of_mask (x : FVec Ideal Cert.On_claimed.S2x4608x3072 .bf16) (s : FVec Ideal Cert.On_claimed.S3072 .f32) (g : FVec Ideal Cert.On_claimed.S_ .f32)
    (w : FVec Ideal Cert.On_claimed.S3072x32 .bf16) (r : Fin 9216) (b : Fin 1536) (h : (Cert.On_claimed.fn (F := Ideal) x s g w).1 (ValueIdx.ix2 r b) = 1#1) :
    (g ValueIdx.ix0 : EReal) ≠ 0 ∧ Codes.RoundsDown (quotientAt x s (g ValueIdx.ix0) r ⟨2 * b.val + 0, by omega⟩)
      ∧ Codes.RoundsDown (quotientAt x s (g ValueIdx.ix0) r ⟨2 * b.val + 1, by omega⟩) := by
  have hg : g = fun _ => g ValueIdx.ix0 := funext fun j => congrArg g (ValueIdx.eq_ix0 j)
  have h0 : Ideal.ofBits .f32 0x00000000#32 = 0 := by simp [Ideal.ofBits, Ideal.ieee]
  rw [hg] at h
  obtain ⟨h1, h2, h3⟩ := and_bits _ _ _ ((mask_eq x s (g ValueIdx.ix0) w (ValueIdx.ix2 r b)).symm.trans h)
  refine ⟨fun hn => ?_, ?_, ?_⟩
  · rw [h0, hn, decide_eq_false (fun hn => hn rfl)] at h3
    exact absurd h3 (by decide)
  · refine roundsDown_of_bit _ ?_
    rw [← maskQuotients_apply]
    exact (pair_apply _ (0 : Fin 2) slices_S9216x1536x2_S9216x1536x1_0_0_0 r b).symm.trans h1
  · refine roundsDown_of_bit _ ?_
    rw [← maskQuotients_apply]
    exact (pair_apply _ (1 : Fin 2) slices_S9216x1536x2_S9216x1536x1_0_0_1 r b).symm.trans h2

/-- The dequantised features are claimed only where the global scale is not zero. -/
theorem global_ne_zero (x : FVec Ideal Cert.On_claimed.S2x4608x3072 .bf16) (s : FVec Ideal Cert.On_claimed.S3072 .f32)
    (g : FVec Ideal Cert.On_claimed.S_ .f32) (w : FVec Ideal Cert.On_claimed.S3072x32 .bf16) (i : Cert.On_claimed.S9216x3072.Idx)
    (h : (Cert.On_claimed.fn (F := Ideal) x s g w).2.2.1 i = 1#1) : (g ValueIdx.ix0 : EReal) ≠ 0 := by
  intro hg
  have h0 : Ideal.ofBits .f32 0x00000000#32 = 0 := by simp [Ideal.ofBits, Ideal.ieee]
  have e : (Cert.On_claimed.fn (F := Ideal) x s g w).2.2.1 i = BitVec.ofBool (decide ((g ValueIdx.ix0 : EReal) ≠ Ideal.ofBits .f32 0x00000000#32)) := by
    unfold Cert.On_claimed.fn Cert.On_claimed.fn_part1 Cert.On_claimed.fn_part2 Cert.On_claimed.fn_part3
    dsimp only
    exact broadcastInDim_apply _ _ _ i ValueIdx.ix0 (fun a => a.elim0)
  rw [e, h0, hg, decide_eq_false (fun hn => hn rfl)] at h
  exact absurd h (by decide)

end

end Cert.QuantiseReferenceIdeal.Hand

end
-- ==== Proof.QuantEquation.lean ====
/- The quantiser and its reference agree: both take the largest magnitude of the same sixteen smoothed features, which the
   kernel keeps as eight columns of an even half and eight of an odd half; both dequantise by it, the kernel by a
   reciprocal; where a scaled feature rounds down both give it one code; and both sum the same products, in two orders. -/
module

public import proofs.«01_k».proof.Proof.QuantMask

@[expose] public section

set_option maxRecDepth 16384

noncomputable section

namespace Cert.Proof

open Idealize.ShloMosaic Idealize.ShloMosaic.TcCoe Idealize.SL.Sem Cert.QuantiseIdeal.Hand Cert.QuantiseReferenceIdeal.Hand

/-- The parts of the feature `256 t + 2 l + p`. -/
theorem feature_parts (t p l : ℕ) (hp : p < 2) (hl : l < 128) :
    (256 * t + 2 * l + p) / 256 = t ∧ (256 * t + 2 * l + p) % 256 / 2 = l ∧ (256 * t + 2 * l + p) % 2 = p :=
  ⟨by omega, by omega, by omega⟩

/-- The parts of the column `256 t + 128 p + l`. -/
theorem column_parts (t p l : ℕ) (hp : p < 2) (hl : l < 128) :
    (256 * t + 128 * p + l) / 256 = t ∧ (256 * t + 128 * p + l) % 128 = l ∧ (256 * t + 128 * p + l) / 128 % 2 = p :=
  ⟨by omega, by omega, by omega⟩

/-- The kernel's columns and the features: `unperm` as a bijection. -/
def unpermEquiv : Fin 3072 ≃ Fin 3072 where
  toFun := unperm
  invFun d := ⟨256 * (d.val / 256) + 128 * (d.val % 2) + d.val % 256 / 2, by omega⟩
  left_inv c := by
    obtain ⟨h1, h2, h3⟩ := feature_parts (c.val / 256) (c.val / 128 % 2) (c.val % 128) (by omega) (by omega)
    apply Fin.ext
    show 256 * ((256 * (c.val / 256) + 2 * (c.val % 128) + c.val / 128 % 2) / 256) + 128 * ((256 * (c.val / 256) + 2 * (c.val % 128) + c.val / 128 % 2) % 2)
      + (256 * (c.val / 256) + 2 * (c.val % 128) + c.val / 128 % 2) % 256 / 2 = c.val
    rw [h1, h2, h3]
    omega
  right_inv d := by
    obtain ⟨h1, h2, h3⟩ := column_parts (d.val / 256) (d.val % 2) (d.val % 256 / 2) (by omega) (by omega)
    apply Fin.ext
    show 256 * ((256 * (d.val / 256) + 128 * (d.val % 2) + d.val % 256 / 2) / 256) + 2 * ((256 * (d.val / 256) + 128 * (d.val % 2) + d.val % 256 / 2) % 128)
      + (256 * (d.val / 256) + 128 * (d.val % 2) + d.val % 256 / 2) / 128 % 2 = d.val
    rw [h1, h2, h3]
    omega

/-- A column of the kernel's smoothed features is the feature it stands for. -/
theorem xsp_eq (x : Cert.QuantiseIdeal.S2x4608x3072.Idx → EReal) (s : Cert.QuantiseIdeal.S3072.Idx → EReal) (r : Fin 9216) (c : Fin 3072) :
    xsp (R := 9216) (tokens x) (factors s) r c = feats x s (ValueIdx.ix2 r (unperm c)) := by
  rw [feats_apply]
  unfold xsp
  exact congrArg (fun z : EReal => tokens x (ValueIdx.ix2 r (unperm c)) * z) (factors_apply s c)

/-- Column `e` of a group's even half holds the group's feature `2 e`. -/
theorem unperm_even (n e : ℕ) (he : e < 8) (hn : n < 192) (hh : 256 * (n / 16) + 8 * (n % 16) + e < 3072) :
    (unperm ⟨256 * (n / 16) + 8 * (n % 16) + e, hh⟩).val = 16 * n + 2 * e := by
  obtain ⟨h1, h2, h3⟩ := column_parts (n / 16) 0 (8 * (n % 16) + e) (by omega) (by omega)
  have hq : 256 * (n / 16) + 128 * 0 + (8 * (n % 16) + e) = 256 * (n / 16) + 8 * (n % 16) + e := by omega
  rw [hq] at h1 h2 h3
  show 256 * ((256 * (n / 16) + 8 * (n % 16) + e) / 256) + 2 * ((256 * (n / 16) + 8 * (n % 16) + e) % 128) + (256 * (n / 16) + 8 * (n % 16) + e) / 128 % 2 = _
  rw [h1, h2, h3]
  omega

/-- Column `e` of a group's odd half holds the group's feature `2 e + 1`. -/
theorem unperm_odd (n e : ℕ) (he : e < 8) (hn : n < 192) (hh : 256 * (n / 16) + 128 + 8 * (n % 16) + e < 3072) :
    (unperm ⟨256 * (n / 16) + 128 + 8 * (n % 16) + e, hh⟩).val = 16 * n + (2 * e + 1) := by
  obtain ⟨h1, h2, h3⟩ := column_parts (n / 16) 1 (8 * (n % 16) + e) (by omega) (by omega)
  have hq : 256 * (n / 16) + 128 * 1 + (8 * (n % 16) + e) = 256 * (n / 16) + 128 + 8 * (n % 16) + e := by omega
  rw [hq] at h1 h2 h3
  show 256 * ((256 * (n / 16) + 128 + 8 * (n % 16) + e) / 256) + 2 * ((256 * (n / 16) + 128 + 8 * (n % 16) + e) % 128) + (256 * (n / 16) + 128 + 8 * (n % 16) + e) / 128 % 2 = _
  rw [h1, h2, h3]
  omega

/-- The largest of sixteen, as the largest of eight pairs. -/
theorem sup_pairs (f : Fin 16 → EReal) :
    (Finset.univ.sup fun e : Fin 8 => max (f ⟨2 * e.val, by omega⟩) (f ⟨2 * e.val + 1, by omega⟩)) = Finset.univ.sup f := by
  apply le_antisymm
  · exact Finset.sup_le fun e _ => max_le (Finset.le_sup (f := f) (Finset.mem_univ _)) (Finset.le_sup (f := f) (Finset.mem_univ _))
  · refine Finset.sup_le fun e _ => ?_
    refine le_trans ?_ (Finset.le_sup (f := fun e : Fin 8 => max (f ⟨2 * e.val, by omega⟩) (f ⟨2 * e.val + 1, by omega⟩))
      (Finset.mem_univ (⟨e.val / 2, by omega⟩ : Fin 8)))
    rcases Nat.mod_two_eq_zero_or_one e.val with h | h
    · exact le_max_of_le_left (le_of_eq (congrArg f (Fin.ext (by show e.val = 2 * (e.val / 2); omega))))
    · exact le_max_of_le_right (le_of_eq (congrArg f (Fin.ext (by show e.val = 2 * (e.val / 2) + 1; omega))))

/-- The kernel's largest magnitude of a group is the reference's: both are taken over the same sixteen features. -/
theorem topAt_eq (x : Cert.QuantiseIdeal.S2x4608x3072.Idx → EReal) (s : Cert.QuantiseIdeal.S3072.Idx → EReal) (r : Fin 9216) (n : Fin 192) :
    topAt (R := 9216) (tokens x) (factors s) r n = tops (feats x s) (ValueIdx.ix2 r n) := by
  rw [tops_apply, ← sup_pairs]
  unfold topAt
  refine congrArg Finset.univ.sup (funext fun e => ?_)
  have key : ∀ c d : Fin 3072, unperm c = d → (max (xsp (R := 9216) (tokens x) (factors s) r c) (-xsp (R := 9216) (tokens x) (factors s) r c) : EReal)
      = max (feats x s (ValueIdx.ix2 r d)) (-feats x s (ValueIdx.ix2 r d)) := by
    intro c d h
    rw [xsp_eq, h]
  unfold pairTop
  exact congrArg₂ max (key _ _ (Fin.ext (unperm_even n.val e.val e.isLt n.isLt _))) (key _ _ (Fin.ext (unperm_odd n.val e.val e.isLt n.isLt _)))

/-- The kernel's scale is the reference's: one function of the largest magnitude. -/
theorem scaleAt_eq (g : EReal) (x : Cert.QuantiseIdeal.S2x4608x3072.Idx → EReal) (s : Cert.QuantiseIdeal.S3072.Idx → EReal) (r : Fin 9216) (n : Fin 192) :
    scaleAt (R := 9216) g (tokens x) (factors s) r n = scaleOf g (tops (feats x s) (ValueIdx.ix2 r n)) :=
  congrArg (scaleOf g) (topAt_eq x s r n)

/-- A scale is never zero: a zero is stored as 1. -/
theorem scaleOf_ne_zero (g a : EReal) : scaleOf g a ≠ 0 := by
  have h0 : Ideal.ofBits .f32 0x00000000#32 = 0 := by simp [Ideal.ofBits, Ideal.ieee]
  have h1 : Ideal.ofBits .f32 0x3F800000#32 = ((1 : ℝ) : EReal) := by
    simp [Ideal.ofBits, Ideal.ieee, -EReal.coe_mul]
    norm_num
  unfold scaleOf
  generalize min (Ideal.ofBits .f32 0x43E00000#32) (max (Ideal.ofBits .f32 0x00000000#32) (FloatOps.divf (F := Ideal) (φ := .f32) a (Ideal.ofBits .f32 0x40C00000#32 * g : EReal))) = s
  show (if BitVec.ofBool (decide (s = Ideal.ofBits .f32 0x00000000#32)) = 1 then Ideal.ofBits .f32 0x3F800000#32 else s) ≠ 0
  rw [h0, h1]
  by_cases h : s = 0
  · rw [decide_eq_true h, if_pos (by decide)]
    norm_num
  · rw [decide_eq_false h, if_neg (by decide)]
    exact h

/-- Clipping and scaling by a positive number commute. -/
theorem clip_scale (w : EReal) :
    min (Ideal.ofBits .f32 0x3DC00000#32) (max (Ideal.ofBits .f32 0xBDC00000#32) (w * Ideal.ofBits .f32 0x3C800000#32))
      = min (Ideal.ofBits .f32 0x40C00000#32) (max (Ideal.ofBits .f32 0xC0C00000#32) w) * Ideal.ofBits .bf16 0x3C80#16 := by
  have h1 : Ideal.ofBits .f32 0x3DC00000#32 = ((6 : ℝ) : EReal) * ((1 / 64 : ℝ) : EReal) := by
    rw [← EReal.coe_mul]
    simp [Ideal.ofBits, Ideal.ieee, -EReal.coe_mul]
    norm_num
  have h2 : Ideal.ofBits .f32 0xBDC00000#32 = ((-6 : ℝ) : EReal) * ((1 / 64 : ℝ) : EReal) := by
    rw [← EReal.coe_mul]
    simp [Ideal.ofBits, Ideal.ieee, -EReal.coe_mul]
    norm_num
  have h3 : Ideal.ofBits .f32 0x3C800000#32 = ((1 / 64 : ℝ) : EReal) := by
    simp [Ideal.ofBits, Ideal.ieee, -EReal.coe_mul]
    norm_num
  have h4 : Ideal.ofBits .f32 0x40C00000#32 = ((6 : ℝ) : EReal) := by
    simp [Ideal.ofBits, Ideal.ieee, -EReal.coe_mul]
    norm_num
  have h5 : Ideal.ofBits .f32 0xC0C00000#32 = ((-6 : ℝ) : EReal) := by
    simp [Ideal.ofBits, Ideal.ieee, -EReal.coe_mul]
    norm_num
  have h6 : Ideal.ofBits .bf16 0x3C80#16 = ((1 / 64 : ℝ) : EReal) := by
    simp [Ideal.ofBits, Ideal.ieee, -EReal.coe_mul]
    norm_num
  rw [h1, h2, h3, h4, h5, h6]
  have hm : Monotone fun x : EReal => x * ((1 / 64 : ℝ) : EReal) := fun a b h => mul_le_mul_of_nonneg_right h (by norm_num)
  exact (congrArg (min _) (hm.map_max (a := ((-6 : ℝ) : EReal)) (b := w)).symm).trans hm.map_min.symm

/-- Where the global scale is not zero, the kernel's dequantised feature is the reference's. -/
theorem valueOf_eq (g a v : EReal) (hg : g ≠ 0) : valueOf g a v = refValue g a v := by
  have hs : scaleOf g a * g ≠ 0 := mul_ne_zero (scaleOf_ne_zero g a) hg
  have h1 : Ideal.ofBits .f32 0x3F800000#32 = ((1 : ℝ) : EReal) := by
    simp [Ideal.ofBits, Ideal.ieee, -EReal.coe_mul]
    norm_num
  have e1 : FloatOps.divf (F := Ideal) (φ := .f32) (Ideal.ofBits .f32 0x3F800000#32) (scaleOf g a * g : EReal) = (scaleOf g a * g)⁻¹ := by
    show (if scaleOf g a * g = 0 then _ else Ideal.ofBits .f32 0x3F800000#32 * (scaleOf g a * g)⁻¹ : EReal) = _
    rw [if_neg hs, h1, EReal.coe_one, one_mul]
  have e2 : FloatOps.divf (F := Ideal) (φ := .f32) v (scaleOf g a * g : EReal) = v * (scaleOf g a * g)⁻¹ := if_neg hs
  unfold valueOf refValue
  rw [e1, e2, ← mul_assoc, clip_scale, mul_right_comm]

/-- Where the global scale is not zero, the kernel's clipped feature is the reference's scaled feature, clipped. -/
theorem clippedOf_eq (g a v : EReal) (hg : g ≠ 0) : clippedOf g a v = Codes.units (scaledFeature g a v) := by
  have hs : scaleOf g a * g ≠ 0 := mul_ne_zero (scaleOf_ne_zero g a) hg
  have h1 : Ideal.ofBits .f32 0x3F800000#32 = ((1 : ℝ) : EReal) := by
    simp [Ideal.ofBits, Ideal.ieee, -EReal.coe_mul]
    norm_num
  have h4 : Ideal.ofBits .f32 0x40C00000#32 = ((6 : ℝ) : EReal) := by
    simp [Ideal.ofBits, Ideal.ieee, -EReal.coe_mul]
    norm_num
  have h5 : Ideal.ofBits .f32 0xC0C00000#32 = ((-6 : ℝ) : EReal) := by
    simp [Ideal.ofBits, Ideal.ieee, -EReal.coe_mul]
    norm_num
  have h6 : Ideal.ofBits .bf16 0x3C80#16 = ((1 / 64 : ℝ) : EReal) := by
    simp [Ideal.ofBits, Ideal.ieee, -EReal.coe_mul]
    norm_num
  have e1 : FloatOps.divf (F := Ideal) (φ := .f32) (Ideal.ofBits .f32 0x3F800000#32) (scaleOf g a * g : EReal) = (scaleOf g a * g)⁻¹ := by
    show (if scaleOf g a * g = 0 then _ else Ideal.ofBits .f32 0x3F800000#32 * (scaleOf g a * g)⁻¹ : EReal) = _
    rw [if_neg hs, h1, EReal.coe_one, one_mul]
  have e2 : FloatOps.divf (F := Ideal) (φ := .f32) v (scaleOf g a * g : EReal) = v * (scaleOf g a * g)⁻¹ := if_neg hs
  unfold clippedOf scaledFeature Codes.units
  rw [e1, e2, ← mul_assoc, clip_scale, h4, h5, h6]

/-- The features of a byte: the even one and the odd one. -/
theorem unperm_evenCol (b : Fin 1536) : unperm (evenCol b) = ⟨2 * b.val + 0, by omega⟩ := by
  apply Fin.ext
  obtain ⟨h1, h2, h3⟩ := column_parts (b.val / 128) 0 (b.val % 128) (by omega) (by omega)
  have hq : 256 * (b.val / 128) + 128 * 0 + b.val % 128 = 256 * (b.val / 128) + b.val % 128 := by omega
  rw [hq] at h1 h2 h3
  show 256 * ((256 * (b.val / 128) + b.val % 128) / 256) + 2 * ((256 * (b.val / 128) + b.val % 128) % 128) + (256 * (b.val / 128) + b.val % 128) / 128 % 2 = _
  rw [h1, h2, h3]
  show _ = 2 * b.val + 0
  omega
theorem unperm_oddCol (b : Fin 1536) : unperm (oddCol b) = ⟨2 * b.val + 1, by omega⟩ := by
  apply Fin.ext
  obtain ⟨h1, h2, h3⟩ := column_parts (b.val / 128) 1 (b.val % 128) (by omega) (by omega)
  have hq : 256 * (b.val / 128) + 128 * 1 + b.val % 128 = 256 * (b.val / 128) + b.val % 128 + 128 := by omega
  rw [hq] at h1 h2 h3
  show 256 * ((256 * (b.val / 128) + b.val % 128 + 128) / 256) + 2 * ((256 * (b.val / 128) + b.val % 128 + 128) % 128) + (256 * (b.val / 128) + b.val % 128 + 128) / 128 % 2 = _
  rw [h1, h2, h3]
  show _ = 2 * b.val + 1
  omega

/-- The group of a column of the stored order. -/
theorem unperm_group (k : Fin 3072) : (unperm k).val / 16 = (groupOf k).val := by
  show (256 * (k.val / 256) + 2 * (k.val % 128) + k.val / 128 % 2) / 16 = 16 * (k.val / 256) + k.val % 128 / 8
  omega

/-- Where the global scale is not zero, a clipped feature of the kernel is the reference's scaled feature, clipped. -/
theorem clippedAt_eq (g : EReal) (hg : g ≠ 0) (x : Cert.QuantiseIdeal.S2x4608x3072.Idx → EReal) (s : Cert.QuantiseIdeal.S3072.Idx → EReal) (r : Fin 9216) (n : Fin 3072) :
    clippedAt (R := 9216) g (tokens x) (factors s) r n = Codes.units (quotientAt x s g r (unperm n)) := by
  unfold clippedAt quotientAt
  rw [clippedOf_eq _ _ _ hg, xsp_eq, topAt_eq]
  exact congrArg (fun k : Fin 192 => Codes.units (scaledFeature g (tops (feats x s) (ValueIdx.ix2 r k)) (feats x s (ValueIdx.ix2 r (unperm n))))) (Fin.ext (unperm_group n).symm)

/-- Where both of a byte's scaled features round down and the global scale is not zero, the kernel's byte is the reference's. -/
theorem codeAt_eq (g : EReal) (hg : g ≠ 0) (x : Cert.QuantiseIdeal.S2x4608x3072.Idx → EReal) (s : Cert.QuantiseIdeal.S3072.Idx → EReal) (r : Fin 9216) (b : Fin 1536)
    (h : Codes.RoundsDown (quotientAt x s g r ⟨2 * b.val + 0, by omega⟩)) (h' : Codes.RoundsDown (quotientAt x s g r ⟨2 * b.val + 1, by omega⟩)) :
    codeAt (R := 9216) g (tokens x) (factors s) r b
      = Codes.packCodes (Codes.codeOf (quotientAt x s g r ⟨2 * b.val + 0, by omega⟩)) (Codes.codeOf (quotientAt x s g r ⟨2 * b.val + 1, by omega⟩)) := by
  unfold codeAt
  rw [clippedAt_eq g hg, clippedAt_eq g hg, unperm_evenCol, unperm_oddCol]
  exact Codes.bytes_agree _ _ h h'

/-- The kernel's low-rank product is the reference's. -/
theorem low_eq (x : Cert.QuantiseIdeal.S2x4608x3072.Idx → EReal) (s : Cert.QuantiseIdeal.S3072.Idx → EReal) (w : Cert.QuantiseIdeal.S3072x32.Idx → EReal) (r : Fin 9216) (n : Fin 32) :
    (∑ k : Fin 3072, xsp (R := 9216) (tokens x) (factors s) r k * lowRank w (ValueIdx.ix2 k n)) = product (feats x s) w (ValueIdx.ix2 r n) := by
  rw [product_apply, ← Equiv.sum_comp unpermEquiv fun d => feats x s (ValueIdx.ix2 r d) * w (ValueIdx.ix2 d n)]
  exact Finset.sum_congr rfl fun k _ => congrArg₂ (fun y z : EReal => y * z) (xsp_eq x s r k) (lowRank_apply w k n)

section Results

variable (m : (ℓ : Loc Cert.QuantiseIdeal.nD Cert.QuantiseIdeal.τ Cert.QuantiseIdeal.sig) → Buf (Elt Ideal) ℓ)
variable (m' : (ℓ : Loc Cert.QuantiseReferenceIdeal.nD Cert.QuantiseReferenceIdeal.τ Cert.QuantiseReferenceIdeal.sig) → Buf (Elt Ideal) ℓ) (c : Dev Cert.QuantiseIdeal.nD)

/-- With the same arguments, the reference's scales are the kernel's. -/
theorem scales_eq
    (h0 : m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0))
    (h1 : m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1))
    (h2 : m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2)) :
    (Cert.QuantiseReferenceIdeal.Gen.dats (F := Ideal) m' 0 c).arrAt 8 Cert.QuantiseReferenceIdeal.cfg0.N = scaleResult m c := by
  refine (Cert.QuantiseReferenceIdeal.Hand.final8 m' c).trans ?_
  funext y
  obtain ⟨r, n, rfl⟩ : ∃ (r : Fin 9216) (n : Fin 192), y = ValueIdx.ix2 r n := ⟨y 0, y 1, ValueIdx.eq_ix2 (n0 := 9216) (n1 := 192) y⟩
  refine (scales_apply _ _ r n).trans ?_
  refine (congrArg₂ scaleOf (?_ : _ = m ((c.tc : Thread Cert.QuantiseIdeal.nD Cert.QuantiseIdeal.τ).loc Cert.QuantiseIdeal.main_arg2) ValueIdx.ix0)
    (?_ : _ = tops (feats (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1))) (ValueIdx.ix2 r n))).trans
    (scaleAt_eq _ _ _ r n).symm
  · rw [Cert.QuantiseReferenceIdeal.Hand.V_v18 m' c]
    exact congr h2 (ValueIdx.eq_ix0 _)
  · rw [Cert.QuantiseReferenceIdeal.Hand.V_v7 m' c]
    exact congrFun (congrArg tops (congrArg₂ feats h0 h1)) (ValueIdx.ix2 r n)

/-- With the same arguments and a global scale other than zero, the reference's dequantised features are the kernel's. -/
theorem values_eq
    (h0 : m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0))
    (h1 : m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1))
    (h2 : m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2))
    (hg : m ((c.tc : Thread Cert.QuantiseIdeal.nD Cert.QuantiseIdeal.τ).loc Cert.QuantiseIdeal.main_arg2) ValueIdx.ix0 ≠ (0 : EReal)) :
    (Cert.QuantiseReferenceIdeal.Gen.dats (F := Ideal) m' 0 c).arrAt 9 Cert.QuantiseReferenceIdeal.cfg0.N = valueResult m c := by
  refine (Cert.QuantiseReferenceIdeal.Hand.final9 m' c).trans ?_
  funext y
  obtain ⟨r, n, rfl⟩ : ∃ (r : Fin 9216) (n : Fin 3072), y = ValueIdx.ix2 r n := ⟨y 0, y 1, ValueIdx.eq_ix2 (n0 := 9216) (n1 := 3072) y⟩
  refine (values_apply _ _ _ r n).trans ?_
  have e1 : Cert.QuantiseReferenceIdeal.Gen.V m' c Cert.QuantiseReferenceIdeal.main_v18 (ValueIdx.ix2 (0 : Fin 1) (0 : Fin 1))
      = m ((c.tc : Thread Cert.QuantiseIdeal.nD Cert.QuantiseIdeal.τ).loc Cert.QuantiseIdeal.main_arg2) ValueIdx.ix0 := by
    rw [Cert.QuantiseReferenceIdeal.Hand.V_v18 m' c]
    exact congr h2 (ValueIdx.eq_ix0 _)
  have e2 : Cert.QuantiseReferenceIdeal.Gen.V m' c Cert.QuantiseReferenceIdeal.main_v24 (ValueIdx.ix2 r n)
      = topAt (R := 9216) (tokens (m ((c.tc : Thread Cert.QuantiseIdeal.nD Cert.QuantiseIdeal.τ).loc Cert.QuantiseIdeal.main_arg0))) (factors (m ((c.tc : Thread Cert.QuantiseIdeal.nD Cert.QuantiseIdeal.τ).loc Cert.QuantiseIdeal.main_arg1))) r (groupOf n) := by
    rw [Cert.QuantiseReferenceIdeal.Hand.V_v24 m' c, topAt_eq]
    refine (stored_apply _ r n).trans ((spread_apply _ r (unperm n)).trans ?_)
    exact congr (congrArg tops (congrArg₂ feats h0 h1)) (congrArg (ValueIdx.ix2 r) (Fin.ext (unperm_group n)))
  have e3 : Cert.QuantiseReferenceIdeal.Gen.V m' c Cert.QuantiseReferenceIdeal.main_v21 (ValueIdx.ix2 r n)
      = xsp (R := 9216) (tokens (m ((c.tc : Thread Cert.QuantiseIdeal.nD Cert.QuantiseIdeal.τ).loc Cert.QuantiseIdeal.main_arg0))) (factors (m ((c.tc : Thread Cert.QuantiseIdeal.nD Cert.QuantiseIdeal.τ).loc Cert.QuantiseIdeal.main_arg1))) r n := by
    rw [Cert.QuantiseReferenceIdeal.Hand.V_v21 m' c, xsp_eq]
    refine (stored_apply _ r n).trans ?_
    exact congrFun (congrArg₂ feats h0 h1) (ValueIdx.ix2 r (unperm n))
  exact (congr (congrArg₂ refValue e1 e2) e3).trans (valueOf_eq _ _ _ hg).symm

/-- With the same arguments, a byte of the reference's packed codes is the kernel's, where both of its scaled features round down and the global scale is not zero. -/
theorem codes_eq
    (h0 : m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0))
    (h1 : m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1))
    (h2 : m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2))
    (r : Fin 9216) (b : Fin 1536) (hg : m ((c.tc : Thread Cert.QuantiseIdeal.nD Cert.QuantiseIdeal.τ).loc Cert.QuantiseIdeal.main_arg2) ValueIdx.ix0 ≠ (0 : EReal))
    (hd : Codes.RoundsDown (quotientAt (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2) ValueIdx.ix0) r ⟨2 * b.val + 0, by omega⟩))
    (hd' : Codes.RoundsDown (quotientAt (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (m ((c.tc : Thread Cert.QuantiseIdeal.nD Cert.QuantiseIdeal.τ).loc Cert.QuantiseIdeal.main_arg2) ValueIdx.ix0) r ⟨2 * b.val + 1, by omega⟩)) :
    (Cert.QuantiseReferenceIdeal.Gen.dats (F := Ideal) m' 0 c).arrAt 7 Cert.QuantiseReferenceIdeal.cfg0.N (ValueIdx.ix2 r b) = codeResult m c (ValueIdx.ix2 r b) := by
  refine (congrFun (Cert.QuantiseReferenceIdeal.Hand.final7 m' c) (ValueIdx.ix2 r b)).trans ?_
  refine (packed_apply _ _ _ _ r b).trans ?_
  have e18 : Cert.QuantiseReferenceIdeal.Gen.V m' c Cert.QuantiseReferenceIdeal.main_v18 (ValueIdx.ix2 (0 : Fin 1) (0 : Fin 1)) = m ((c.tc : Thread Cert.QuantiseIdeal.nD Cert.QuantiseIdeal.τ).loc Cert.QuantiseIdeal.main_arg2) ValueIdx.ix0 := by
    rw [Cert.QuantiseReferenceIdeal.Hand.V_v18 m' c]
    exact congr h2 (ValueIdx.eq_ix0 _)
  have e13 : ∀ k : Fin 192, k.val = b.val / 8 → Cert.QuantiseReferenceIdeal.Gen.V m' c Cert.QuantiseReferenceIdeal.main_v13 (ValueIdx.ix2 r b)
      = tops (feats (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1))) (ValueIdx.ix2 r k) := by
    intro k hk
    rw [Cert.QuantiseReferenceIdeal.Hand.V_v13 m' c]
    refine (spreadPairs_apply _ r b).trans ?_
    exact congr (congrArg tops (congrArg₂ feats h0 h1)) (congrArg (ValueIdx.ix2 r) (Fin.ext hk.symm))
  have e26 : Cert.QuantiseReferenceIdeal.Gen.V m' c Cert.QuantiseReferenceIdeal.main_v26 (ValueIdx.ix2 r b) = feats (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (ValueIdx.ix2 r (⟨2 * b.val + 0, by omega⟩ : Fin 3072)) := by
    rw [Cert.QuantiseReferenceIdeal.Hand.V_v26 m' c]
    refine (pair_apply _ (0 : Fin 2) Cert.QuantiseReferenceIdeal.Gen.slices_S9216x1536x2_S9216x1536x1_0_0_0 r b).trans ?_
    exact congrFun (congrArg₂ feats h0 h1) _
  have e28 : Cert.QuantiseReferenceIdeal.Gen.V m' c Cert.QuantiseReferenceIdeal.main_v28 (ValueIdx.ix2 r b) = feats (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) (ValueIdx.ix2 r (⟨2 * b.val + 1, by omega⟩ : Fin 3072)) := by
    rw [Cert.QuantiseReferenceIdeal.Hand.V_v28 m' c]
    refine (pair_apply _ (1 : Fin 2) Cert.QuantiseReferenceIdeal.Gen.slices_S9216x1536x2_S9216x1536x1_0_0_1 r b).trans ?_
    exact congrFun (congrArg₂ feats h0 h1) _
  refine Eq.trans ?_ (codeAt_eq _ hg _ _ r b hd hd').symm
  exact congrArg₂ Codes.packCodes
    (congrArg Codes.codeOf (congr (congrArg₂ scaledFeature e18 (e13 _ (by show (2 * b.val + 0) / 16 = b.val / 8; omega))) e26))
    (congrArg Codes.codeOf (congr (congrArg₂ scaledFeature e18 (e13 _ (by show (2 * b.val + 1) / 16 = b.val / 8; omega))) e28))

/-- With the same arguments, the reference's low-rank product is the kernel's. -/
theorem lows_eq
    (h0 : m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0))
    (h1 : m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1))
    (h3 : m' ((c.tc : Thread Cert.QuantiseReferenceIdeal.nD Cert.QuantiseReferenceIdeal.τ).loc Cert.QuantiseReferenceIdeal.main_arg3) = m ((c.tc : Thread Cert.QuantiseIdeal.nD Cert.QuantiseIdeal.τ).loc Cert.QuantiseIdeal.main_arg3)) :
    Cert.QuantiseReferenceIdeal.Gen.V m' c Cert.QuantiseReferenceIdeal.main_v17 = lowResult m c := by
  refine (Cert.QuantiseReferenceIdeal.Hand.V_v17 m' c).trans ?_
  refine (congrArg₂ product (congrArg₂ feats h0 h1) h3).trans ?_
  funext y
  obtain ⟨r, n, rfl⟩ : ∃ (r : Fin 9216) (n : Fin 32), y = ValueIdx.ix2 r n := ⟨y 0, y 1, ValueIdx.eq_ix2 (n0 := 9216) (n1 := 32) y⟩
  exact (low_eq _ _ _ r n).symm

end Results

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Value
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Quantise
public import proofs.«01_k».proof.Proof.Gen.Quantise.Skeleton
public import proofs.«01_k».proof.Proof.Gen.Quantise.Loops
public import proofs.«01_k».proof.Proof.Gen.Quantise.Launch
public import proofs.«01_k».proof.Proof.Gen.Quantise.Points
public import proofs.«01_k».proof.Proof.Gen.Quantise.Frame
public import proofs.«01_k».proof.Proof.Gen.QuantiseIdeal
public import proofs.«01_k».proof.Proof.Gen.QuantiseIdeal.Skeleton
public import proofs.«01_k».proof.Proof.Gen.QuantiseIdeal.Loops
public import proofs.«01_k».proof.Proof.Gen.QuantiseIdeal.Launch
public import proofs.«01_k».proof.Proof.Gen.QuantiseIdeal.Points
public import proofs.«01_k».proof.Proof.Gen.QuantiseIdeal.Frame
public import proofs.«01_k».proof.Proof.Gen.QuantiseIdeal.Value
public import proofs.«01_k».proof.Proof.Gen.QuantiseReferenceIdeal
public import proofs.«01_k».proof.Proof.Gen.QuantiseReferenceIdeal.Skeleton
public import proofs.«01_k».proof.Proof.Gen.QuantiseReferenceIdeal.Launch
public import proofs.«01_k».proof.Proof.Gen.QuantiseReferenceIdeal.Points
public import proofs.«01_k».proof.Proof.Gen.QuantiseReferenceIdeal.Frame
public import proofs.«01_k».proof.Proof.Gen.QuantiseReferenceIdeal.Value
public import proofs.«01_k».proof.Proof.Equation
public import proofs.«01_k».proof.Proof.QuantEquation
public import Idealize.ShloMosaic.Adequacy
public import Idealize.ShloMosaic.Init

@[expose] public section

set_option maxRecDepth 16384

noncomputable section

namespace Cert.Proof

open Idealize.ShloMosaic Idealize.SL.Sem Cert.Kernel

/-- The scale the kernel multiplies by is the two scalars' product times 4096. -/
theorem gs_eq (m : (ℓ : Loc Cert.KernelIdeal.nD Cert.KernelIdeal.τ Cert.KernelIdeal.sig) → Buf (Elt Ideal) ℓ) (c : Dev Cert.KernelIdeal.nD) :
    Cert.KernelIdeal.Hand.gs m c ValueIdx.ix0
      = mulf (F := Ideal) (φ := .f32) (s := Cert.KernelIdeal.S_) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) ValueIdx.ix0 * ((4096 : ℝ) : EReal) := by
  have h : Ideal.ofBits .f32 0x45800000#32 = ((4096 : ℝ) : EReal) := by
    simp [Ideal.ofBits, Ideal.ieee, -EReal.coe_mul]
    norm_num
  exact congrArg (fun z => mulf (F := Ideal) (φ := .f32) (s := Cert.KernelIdeal.S_) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) ValueIdx.ix0 * z) h

/-- Equal arguments give equal reference values. -/
theorem rval_congr {g g' : EReal} {xq xq' : Cert.ReferenceIdeal.S9216x3072.Idx → EReal} {h h' : Cert.ReferenceIdeal.S9216x32.Idx → EReal}
    {wp wp' : Cert.ReferenceIdeal.S9216x1536.Idx → BitVec 8} {ws ws' : Cert.ReferenceIdeal.S9216x192.Idx → EReal}
    {lu lu' : Cert.ReferenceIdeal.S32x9216.Idx → EReal} {b b' : Fin 9216 → EReal} (e0 : g = g') (e1 : xq = xq') (e2 : h = h') (e3 : wp = wp')
    (e4 : ws = ws') (e5 : lu = lu') (e6 : b = b') (r n : Fin 9216) :
    Cert.ReferenceIdeal.Hand.rval g xq h wp ws lu b r n = Cert.ReferenceIdeal.Hand.rval g' xq' h' wp' ws' lu' b' r n := by
  subst e0 e1 e2 e3 e4 e5 e6
  rfl

/-- With the same arguments, the kernel's result is the reference's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    (Cert.ReferenceIdeal.Gen.dats (F := Ideal) m' 0 c).arrAt 7 Cert.ReferenceIdeal.cfg0.N = Cert.KernelIdeal.Hand.result m c := by
  funext y
  obtain ⟨r, n, rfl⟩ : ∃ r n : Fin 9216, y = ValueIdx.ix2 r n := ⟨y 0, y 1, ValueIdx.eq_ix2 (n0 := 9216) (n1 := 9216) y⟩
  refine (Cert.ReferenceIdeal.Hand.final_apply m' c r n).trans ?_
  refine (rval_congr (congrFun (congrArg₂ (mulf (F := Ideal) (φ := .f32) (s := Cert.KernelIdeal.S_)) h0 h1) ValueIdx.ix0) h2 h3 h4 h5 h6
    (funext fun k => congrFun h7 (ValueIdx.ix1 k)) r n).trans ?_
  refine (kval_eq _ _ _ _ _ _ _ r n).symm.trans ?_
  exact congrArg (fun z => Cert.KernelIdeal.Hand.kval z _ _ _ _ _ _ r n) (gs_eq m c).symm

/-- The quantiser's reference, run: its results are the kernel's, a byte of packed codes and the dequantised features where they are claimed, and its arguments are kept. -/
theorem quantise_reference_run (m : (ℓ : Loc Cert.QuantiseIdeal.nD Cert.QuantiseIdeal.τ Cert.QuantiseIdeal.sig) → Buf (Elt Ideal) ℓ)
    (m' : (ℓ : Loc Cert.QuantiseReferenceIdeal.nD Cert.QuantiseReferenceIdeal.τ Cert.QuantiseReferenceIdeal.sig) → Buf (Elt Ideal) ℓ) (g' : Dev Cert.QuantiseReferenceIdeal.nD → PrngReg)
    (hargs : ∀ c : Dev Cert.QuantiseIdeal.nD,
      m' ((c.tc : Thread Cert.QuantiseReferenceIdeal.nD Cert.QuantiseReferenceIdeal.τ).loc Cert.QuantiseReferenceIdeal.main_arg0) = m ((c.tc : Thread Cert.QuantiseIdeal.nD Cert.QuantiseIdeal.τ).loc Cert.QuantiseIdeal.main_arg0)
      ∧ m' ((c.tc : Thread Cert.QuantiseReferenceIdeal.nD Cert.QuantiseReferenceIdeal.τ).loc Cert.QuantiseReferenceIdeal.main_arg1) = m ((c.tc : Thread Cert.QuantiseIdeal.nD Cert.QuantiseIdeal.τ).loc Cert.QuantiseIdeal.main_arg1)
      ∧ m' ((c.tc : Thread Cert.QuantiseReferenceIdeal.nD Cert.QuantiseReferenceIdeal.τ).loc Cert.QuantiseReferenceIdeal.main_arg2) = m ((c.tc : Thread Cert.QuantiseIdeal.nD Cert.QuantiseIdeal.τ).loc Cert.QuantiseIdeal.main_arg2)
      ∧ m' ((c.tc : Thread Cert.QuantiseReferenceIdeal.nD Cert.QuantiseReferenceIdeal.τ).loc Cert.QuantiseReferenceIdeal.main_arg3) = m ((c.tc : Thread Cert.QuantiseIdeal.nD Cert.QuantiseIdeal.τ).loc Cert.QuantiseIdeal.main_arg3)) :
    θ_run (Cert.QuantiseReferenceIdeal.defs (F := Ideal)) (onTc (τ := Cert.QuantiseReferenceIdeal.τ) (Cert.QuantiseReferenceIdeal.main (F := Ideal))) ⟨m', fun _ => 0, g'⟩ (fun r => ∀ c : Dev Cert.QuantiseReferenceIdeal.nD,
      (∀ (i : Fin 9216) (b : Fin 1536), (m ((c.tc : Thread Cert.QuantiseIdeal.nD Cert.QuantiseIdeal.τ).loc Cert.QuantiseIdeal.main_arg2)) ValueIdx.ix0 ≠ (0 : EReal) →
          Codes.RoundsDown (Cert.QuantiseReferenceIdeal.Hand.quotientAt (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) ((m ((c.tc : Thread Cert.QuantiseIdeal.nD Cert.QuantiseIdeal.τ).loc Cert.QuantiseIdeal.main_arg2)) ValueIdx.ix0) i ⟨2 * b.val + 0, by omega⟩) →
          Codes.RoundsDown (Cert.QuantiseReferenceIdeal.Hand.quotientAt (m ((c.tc : Thread Cert.QuantiseIdeal.nD Cert.QuantiseIdeal.τ).loc Cert.QuantiseIdeal.main_arg0)) (m ((c.tc : Thread Cert.QuantiseIdeal.nD Cert.QuantiseIdeal.τ).loc Cert.QuantiseIdeal.main_arg1)) ((m ((c.tc : Thread Cert.QuantiseIdeal.nD Cert.QuantiseIdeal.τ).loc Cert.QuantiseIdeal.main_arg2)) ValueIdx.ix0) i ⟨2 * b.val + 1, by omega⟩) →
          r.2.mem ((c.tc : Thread Cert.QuantiseReferenceIdeal.nD Cert.QuantiseReferenceIdeal.τ).loc Cert.QuantiseReferenceIdeal.main_v29_0) (ValueIdx.ix2 i b) = Cert.QuantiseIdeal.Hand.codeResult m c (ValueIdx.ix2 i b))
      ∧ r.2.mem ((c.tc : Thread Cert.QuantiseReferenceIdeal.nD Cert.QuantiseReferenceIdeal.τ).loc Cert.QuantiseReferenceIdeal.main_v29_1) = Cert.QuantiseIdeal.Hand.scaleResult m c
      ∧ (m ((c.tc : Thread Cert.QuantiseIdeal.nD Cert.QuantiseIdeal.τ).loc Cert.QuantiseIdeal.main_arg2) ValueIdx.ix0 ≠ (0 : EReal) →
        r.2.mem ((c.tc : Thread Cert.QuantiseReferenceIdeal.nD Cert.QuantiseReferenceIdeal.τ).loc Cert.QuantiseReferenceIdeal.main_v29_2) = Cert.QuantiseIdeal.Hand.valueResult m c)
      ∧ r.2.mem ((c.tc : Thread Cert.QuantiseReferenceIdeal.nD Cert.QuantiseReferenceIdeal.τ).loc Cert.QuantiseReferenceIdeal.main_v17) = Cert.QuantiseIdeal.Hand.lowResult m c
      ∧ r.2.mem ((c.tc : Thread Cert.QuantiseReferenceIdeal.nD Cert.QuantiseReferenceIdeal.τ).loc Cert.QuantiseReferenceIdeal.main_arg0) = m' ((c.tc : Thread Cert.QuantiseReferenceIdeal.nD Cert.QuantiseReferenceIdeal.τ).loc Cert.QuantiseReferenceIdeal.main_arg0)
      ∧ r.2.mem ((c.tc : Thread Cert.QuantiseReferenceIdeal.nD Cert.QuantiseReferenceIdeal.τ).loc Cert.QuantiseReferenceIdeal.main_arg1) = m' ((c.tc : Thread Cert.QuantiseReferenceIdeal.nD Cert.QuantiseReferenceIdeal.τ).loc Cert.QuantiseReferenceIdeal.main_arg1)
      ∧ r.2.mem ((c.tc : Thread Cert.QuantiseReferenceIdeal.nD Cert.QuantiseReferenceIdeal.τ).loc Cert.QuantiseReferenceIdeal.main_arg2) = m' ((c.tc : Thread Cert.QuantiseReferenceIdeal.nD Cert.QuantiseReferenceIdeal.τ).loc Cert.QuantiseReferenceIdeal.main_arg2)
      ∧ r.2.mem ((c.tc : Thread Cert.QuantiseReferenceIdeal.nD Cert.QuantiseReferenceIdeal.τ).loc Cert.QuantiseReferenceIdeal.main_arg3) = m' ((c.tc : Thread Cert.QuantiseReferenceIdeal.nD Cert.QuantiseReferenceIdeal.τ).loc Cert.QuantiseReferenceIdeal.main_arg3)) :=
  (θ_run _ _ _).mono (fun r h c => by
    obtain ⟨h0, h1, h2, h3⟩ := hargs c
    exact ⟨fun i b hg hd hd' => (congrFun (Cert.QuantiseReferenceIdeal.Value.post7 m' r h c) (ValueIdx.ix2 i b)).trans (codes_eq m m' c h0 h1 h2 i b hg hd hd'),
      (Cert.QuantiseReferenceIdeal.Value.post8 m' r h c).trans (scales_eq m m' c h0 h1 h2),
      fun hg => (Cert.QuantiseReferenceIdeal.Value.post9 m' r h c).trans (values_eq m m' c h0 h1 h2 hg),
      ((h c).2 Cert.QuantiseReferenceIdeal.main_v17 (Pipeline.mem_restRefs_of Cert.QuantiseReferenceIdeal.main_v17 (by decide) (by decide))).trans (lows_eq m m' c h0 h1 h3),
      Cert.QuantiseReferenceIdeal.Value.kept_main_arg0 m' r h c, Cert.QuantiseReferenceIdeal.Value.kept_main_arg1 m' r h c,
      Cert.QuantiseReferenceIdeal.Value.kept_main_arg2 m' r h c, Cert.QuantiseReferenceIdeal.Value.kept_main_arg3 m' r h c⟩)
    (Cert.QuantiseReferenceIdeal.Gen.run_main m' g')

theorem claim : Cert.Claim := ⟨Cert.Kernel.Gen.facts, Cert.KernelIdeal.Gen.facts, Cert.ReferenceIdeal.Gen.facts,
  Cert.Quantise.Gen.facts, Cert.QuantiseIdeal.Gen.facts, Cert.QuantiseReferenceIdeal.Gen.facts, Cert.QuantiseReferenceIdeal.Hand.claimed_facts,
  fun m g _ => Cert.Kernel.Gen.frame m g,
  fun m g _ => Cert.KernelIdeal.Gen.frame m g,
  fun m g _ => Cert.ReferenceIdeal.Gen.frame m g,
  fun m g _ => Cert.Quantise.Gen.frame m g,
  fun m g _ => Cert.QuantiseIdeal.Gen.frame m g,
  fun m g _ => Cert.QuantiseReferenceIdeal.Gen.frame m g,
  trivial,
  fun m g m' g' _ hargs => ⟨Cert.KernelIdeal.Hand.result m,
    (θ_run _ _ _).mono (fun r h c => ⟨(h c).1.trans (Cert.KernelIdeal.Hand.final m c), (h c).2⟩) (Cert.KernelIdeal.Value.run_blocks m g),
    (θ_run _ _ _).mono (fun r h c => ⟨(h c).1.trans (by
        obtain ⟨h0, h1, h2, h3, h4, h5, h6, h7⟩ := hargs c
        exact result_eq m m' c h0 h1 h2 h3 h4 h5 h6 h7), (h c).2⟩) (Cert.ReferenceIdeal.Value.run_blocks m' g')⟩,
  trivial,
  fun m g m' g' _ hargs => ⟨Cert.QuantiseIdeal.Hand.codeResult m, Cert.QuantiseIdeal.Hand.scaleResult m, Cert.QuantiseIdeal.Hand.valueResult m, Cert.QuantiseIdeal.Hand.lowResult m,
    (θ_run _ _ _).mono (fun r h c => ⟨fun i _ => congrFun ((h c).1.trans (Cert.QuantiseIdeal.Hand.final4 m c)) i,
      fun i _ => congrFun ((h c).2.1.trans (Cert.QuantiseIdeal.Hand.final5 m c)) i,
      fun i _ => congrFun ((h c).2.2.1.trans (Cert.QuantiseIdeal.Hand.final6 m c)) i,
      fun i _ => congrFun ((h c).2.2.2.1.trans (Cert.QuantiseIdeal.Hand.final7 m c)) i, (h c).2.2.2.2⟩) (Cert.QuantiseIdeal.Value.run_blocks m g),
    (θ_run _ _ _).mono (fun r h c => ⟨fun i hi => by
        obtain ⟨n, b, rfl⟩ : ∃ (n : Fin 9216) (b : Fin 1536), i = ValueIdx.ix2 n b := ⟨i 0, i 1, ValueIdx.eq_ix2 (n0 := 9216) (n1 := 1536) i⟩
        haveI := Cert.QuantiseReferenceIdeal.Hand.claimed_facts
        obtain ⟨hg, hd, hd'⟩ := Cert.QuantiseReferenceIdeal.Hand.down_of_mask _ _ _ _ n b hi
        exact (h c).1 n b hg hd hd',
      fun i _ => congrFun (h c).2.1 i,
      fun i hi => congrFun ((h c).2.2.1 (haveI := Cert.QuantiseReferenceIdeal.Hand.claimed_facts; Cert.QuantiseReferenceIdeal.Hand.global_ne_zero _ _ _ _ i hi)) i,
      fun i _ => congrFun (h c).2.2.2.1 i, (h c).2.2.2.2⟩) (quantise_reference_run m m' g' hargs)⟩⟩

end Cert.Proof

end
